-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_DownDz (m : (ℓ : Loc Cert.DownDz.nD Cert.DownDz.τ Cert.DownDz.sig) → Buf (Elt Bits) ℓ) : Prop :=
  True

def Pre_DownDzIdeal (m : (ℓ : Loc Cert.DownDzIdeal.nD Cert.DownDzIdeal.τ Cert.DownDzIdeal.sig) → Buf (Elt Ideal) ℓ) : Prop :=
  True

def Pre_DownDzRefIdeal (m : (ℓ : Loc Cert.DownDzRefIdeal.nD Cert.DownDzRefIdeal.τ Cert.DownDzRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_UpDh (m : (ℓ : Loc Cert.UpDh.nD Cert.UpDh.τ Cert.UpDh.sig) → Buf (Elt Bits) ℓ) : Prop :=
  True

def Pre_UpDhIdeal (m : (ℓ : Loc Cert.UpDhIdeal.nD Cert.UpDhIdeal.τ Cert.UpDhIdeal.sig) → Buf (Elt Ideal) ℓ) : Prop :=
  True

def Pre_UpDhRefIdeal (m : (ℓ : Loc Cert.UpDhRefIdeal.nD Cert.UpDhRefIdeal.τ Cert.UpDhRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_OutDu (m : (ℓ : Loc Cert.OutDu.nD Cert.OutDu.τ Cert.OutDu.sig) → Buf (Elt Bits) ℓ) : Prop :=
  True

def Pre_OutDuIdeal (m : (ℓ : Loc Cert.OutDuIdeal.nD Cert.OutDuIdeal.τ Cert.OutDuIdeal.sig) → Buf (Elt Ideal) ℓ) : Prop :=
  True

def Pre_OutDuRefIdeal (m : (ℓ : Loc Cert.OutDuRefIdeal.nD Cert.OutDuRefIdeal.τ Cert.OutDuRefIdeal.sig) → Buf (Elt Ideal) ℓ) : Prop :=
  True

def Pre_QDh (m : (ℓ : Loc Cert.QDh.nD Cert.QDh.τ Cert.QDh.sig) → Buf (Elt Bits) ℓ) : Prop :=
  True

def Pre_QDhIdeal (m : (ℓ : Loc Cert.QDhIdeal.nD Cert.QDhIdeal.τ Cert.QDhIdeal.sig) → Buf (Elt Ideal) ℓ) : Prop :=
  True

def Pre_QDhRefIdeal (m : (ℓ : Loc Cert.QDhRefIdeal.nD Cert.QDhRefIdeal.τ Cert.QDhRefIdeal.sig) → Buf (Elt Ideal) ℓ) : Prop :=
  True

def Pre_KvDw (m : (ℓ : Loc Cert.KvDw.nD Cert.KvDw.τ Cert.KvDw.sig) → Buf (Elt Bits) ℓ) : Prop :=
  True

def Pre_KvDwIdeal (m : (ℓ : Loc Cert.KvDwIdeal.nD Cert.KvDwIdeal.τ Cert.KvDwIdeal.sig) → Buf (Elt Ideal) ℓ) : Prop :=
  True

def Pre_KvDwRefIdeal (m : (ℓ : Loc Cert.KvDwRefIdeal.nD Cert.KvDwRefIdeal.τ Cert.KvDwRefIdeal.sig) → Buf (Elt Ideal) ℓ) : Prop :=
  True

def Pre_KvDh (m : (ℓ : Loc Cert.KvDh.nD Cert.KvDh.τ Cert.KvDh.sig) → Buf (Elt Bits) ℓ) : Prop :=
  True

def Pre_KvDhIdeal (m : (ℓ : Loc Cert.KvDhIdeal.nD Cert.KvDhIdeal.τ Cert.KvDhIdeal.sig) → Buf (Elt Ideal) ℓ) : Prop :=
  True

def Pre_KvDhRefIdeal (m : (ℓ : Loc Cert.KvDhRefIdeal.nD Cert.KvDhRefIdeal.τ Cert.KvDhRefIdeal.sig) → Buf (Elt Ideal) ℓ) : Prop :=
  True

def Pre_MlpUp (m : (ℓ : Loc Cert.MlpUp.nD Cert.MlpUp.τ Cert.MlpUp.sig) → Buf (Elt Bits) ℓ) : Prop :=
  True

def Pre_MlpUpIdeal (m : (ℓ : Loc Cert.MlpUpIdeal.nD Cert.MlpUpIdeal.τ Cert.MlpUpIdeal.sig) → Buf (Elt Ideal) ℓ) : Prop :=
  True

def Pre_MlpUpRefIdeal (m : (ℓ : Loc Cert.MlpUpRefIdeal.nD Cert.MlpUpRefIdeal.τ Cert.MlpUpRefIdeal.sig) → Buf (Elt Ideal) ℓ) : Prop :=
  True

def Pre_MlpDown (m : (ℓ : Loc Cert.MlpDown.nD Cert.MlpDown.τ Cert.MlpDown.sig) → Buf (Elt Bits) ℓ) : Prop :=
  True

def Pre_MlpDownIdeal (m : (ℓ : Loc Cert.MlpDownIdeal.nD Cert.MlpDownIdeal.τ Cert.MlpDownIdeal.sig) → Buf (Elt Ideal) ℓ) : Prop :=
  True

def Pre_MlpDownRefIdeal (m : (ℓ : Loc Cert.MlpDownRefIdeal.nD Cert.MlpDownRefIdeal.τ Cert.MlpDownRefIdeal.sig) → Buf (Elt Ideal) ℓ) : Prop :=
  True

def Pre_AIn (m : (ℓ : Loc Cert.AIn.nD Cert.AIn.τ Cert.AIn.sig) → Buf (Elt Bits) ℓ) : Prop :=
  True

def Pre_AInIdeal (m : (ℓ : Loc Cert.AInIdeal.nD Cert.AInIdeal.τ Cert.AInIdeal.sig) → Buf (Elt Ideal) ℓ) : Prop :=
  True

def Pre_AInRefIdeal (m : (ℓ : Loc Cert.AInRefIdeal.nD Cert.AInRefIdeal.τ Cert.AInRefIdeal.sig) → Buf (Elt Ideal) ℓ) : Prop :=
  True

def Pre_QMm (m : (ℓ : Loc Cert.QMm.nD Cert.QMm.τ Cert.QMm.sig) → Buf (Elt Bits) ℓ) : Prop :=
  True

def Pre_QMmIdeal (m : (ℓ : Loc Cert.QMmIdeal.nD Cert.QMmIdeal.τ Cert.QMmIdeal.sig) → Buf (Elt Ideal) ℓ) : Prop :=
  True

def Pre_QMmRefIdeal (m : (ℓ : Loc Cert.QMmRefIdeal.nD Cert.QMmRefIdeal.τ Cert.QMmRefIdeal.sig) → Buf (Elt Ideal) ℓ) : Prop :=
  True

def Pre_KvMm (m : (ℓ : Loc Cert.KvMm.nD Cert.KvMm.τ Cert.KvMm.sig) → Buf (Elt Bits) ℓ) : Prop :=
  True

def Pre_KvMmIdeal (m : (ℓ : Loc Cert.KvMmIdeal.nD Cert.KvMmIdeal.τ Cert.KvMmIdeal.sig) → Buf (Elt Ideal) ℓ) : Prop :=
  True

def Pre_KvMmRefIdeal (m : (ℓ : Loc Cert.KvMmRefIdeal.nD Cert.KvMmRefIdeal.τ Cert.KvMmRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_DownDz [hDownDz : Cert.DownDz.Facts] : Prop :=
  ∀ (m : (ℓ : Loc Cert.DownDz.nD Cert.DownDz.τ Cert.DownDz.sig) → Buf (Elt Bits) ℓ) (g : Dev Cert.DownDz.nD → PrngReg), Pre_DownDz m →
    θ_run (Cert.DownDz.defs (F := Bits)) (onTc (τ := Cert.DownDz.τ) (Cert.DownDz.main (F := Bits))) ⟨m, fun _ => 0, g⟩ (fun r => (∀ c : Dev Cert.DownDz.nD,
      r.2.mem ((c.tc : Thread Cert.DownDz.nD Cert.DownDz.τ).loc Cert.DownDz.main_arg0) = m ((c.tc : Thread Cert.DownDz.nD Cert.DownDz.τ).loc Cert.DownDz.main_arg0)
      ∧ r.2.mem ((c.tc : Thread Cert.DownDz.nD Cert.DownDz.τ).loc Cert.DownDz.main_arg1) = m ((c.tc : Thread Cert.DownDz.nD Cert.DownDz.τ).loc Cert.DownDz.main_arg1)
      ∧ r.2.mem ((c.tc : Thread Cert.DownDz.nD Cert.DownDz.τ).loc Cert.DownDz.main_arg2) = m ((c.tc : Thread Cert.DownDz.nD Cert.DownDz.τ).loc Cert.DownDz.main_arg2))
      ∧ r.2.sem = fun _ => 0)

def quiescent_DownDzIdeal [hDownDzIdeal : Cert.DownDzIdeal.Facts] : Prop :=
  ∀ (m : (ℓ : Loc Cert.DownDzIdeal.nD Cert.DownDzIdeal.τ Cert.DownDzIdeal.sig) → Buf (Elt Ideal) ℓ) (g : Dev Cert.DownDzIdeal.nD → PrngReg), Pre_DownDzIdeal m →
    θ_run (Cert.DownDzIdeal.defs (F := Ideal)) (onTc (τ := Cert.DownDzIdeal.τ) (Cert.DownDzIdeal.main (F := Ideal))) ⟨m, fun _ => 0, g⟩ (fun r => (∀ c : Dev Cert.DownDzIdeal.nD,
      r.2.mem ((c.tc : Thread Cert.DownDzIdeal.nD Cert.DownDzIdeal.τ).loc Cert.DownDzIdeal.main_arg0) = m ((c.tc : Thread Cert.DownDzIdeal.nD Cert.DownDzIdeal.τ).loc Cert.DownDzIdeal.main_arg0)
      ∧ r.2.mem ((c.tc : Thread Cert.DownDzIdeal.nD Cert.DownDzIdeal.τ).loc Cert.DownDzIdeal.main_arg1) = m ((c.tc : Thread Cert.DownDzIdeal.nD Cert.DownDzIdeal.τ).loc Cert.DownDzIdeal.main_arg1)
      ∧ r.2.mem ((c.tc : Thread Cert.DownDzIdeal.nD Cert.DownDzIdeal.τ).loc Cert.DownDzIdeal.main_arg2) = m ((c.tc : Thread Cert.DownDzIdeal.nD Cert.DownDzIdeal.τ).loc Cert.DownDzIdeal.main_arg2))
      ∧ r.2.sem = fun _ => 0)

def quiescent_DownDzRefIdeal [hDownDzRefIdeal : Cert.DownDzRefIdeal.Facts] : Prop :=
  ∀ (m : (ℓ : Loc Cert.DownDzRefIdeal.nD Cert.DownDzRefIdeal.τ Cert.DownDzRefIdeal.sig) → Buf (Elt Ideal) ℓ) (g : Dev Cert.DownDzRefIdeal.nD → PrngReg), Pre_DownDzRefIdeal m →
    θ_run (Cert.DownDzRefIdeal.defs (F := Ideal)) (onTc (τ := Cert.DownDzRefIdeal.τ) (Cert.DownDzRefIdeal.main (F := Ideal))) ⟨m, fun _ => 0, g⟩ (fun r => (∀ c : Dev Cert.DownDzRefIdeal.nD,
      r.2.mem ((c.tc : Thread Cert.DownDzRefIdeal.nD Cert.DownDzRefIdeal.τ).loc Cert.DownDzRefIdeal.main_arg0) = m ((c.tc : Thread Cert.DownDzRefIdeal.nD Cert.DownDzRefIdeal.τ).loc Cert.DownDzRefIdeal.main_arg0)
      ∧ r.2.mem ((c.tc : Thread Cert.DownDzRefIdeal.nD Cert.DownDzRefIdeal.τ).loc Cert.DownDzRefIdeal.main_arg1) = m ((c.tc : Thread Cert.DownDzRefIdeal.nD Cert.DownDzRefIdeal.τ).loc Cert.DownDzRefIdeal.main_arg1)
      ∧ r.2.mem ((c.tc : Thread Cert.DownDzRefIdeal.nD Cert.DownDzRefIdeal.τ).loc Cert.DownDzRefIdeal.main_arg2) = m ((c.tc : Thread Cert.DownDzRefIdeal.nD Cert.DownDzRefIdeal.τ).loc Cert.DownDzRefIdeal.main_arg2))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_UpDh [hUpDh : Cert.UpDh.Facts] : Prop :=
  ∀ (m : (ℓ : Loc Cert.UpDh.nD Cert.UpDh.τ Cert.UpDh.sig) → Buf (Elt Bits) ℓ) (g : Dev Cert.UpDh.nD → PrngReg), Pre_UpDh m →
    θ_run (Cert.UpDh.defs (F := Bits)) (onTc (τ := Cert.UpDh.τ) (Cert.UpDh.main (F := Bits))) ⟨m, fun _ => 0, g⟩ (fun r => (∀ c : Dev Cert.UpDh.nD,
      r.2.mem ((c.tc : Thread Cert.UpDh.nD Cert.UpDh.τ).loc Cert.UpDh.main_arg0) = m ((c.tc : Thread Cert.UpDh.nD Cert.UpDh.τ).loc Cert.UpDh.main_arg0)
      ∧ r.2.mem ((c.tc : Thread Cert.UpDh.nD Cert.UpDh.τ).loc Cert.UpDh.main_arg1) = m ((c.tc : Thread Cert.UpDh.nD Cert.UpDh.τ).loc Cert.UpDh.main_arg1))
      ∧ r.2.sem = fun _ => 0)

def quiescent_UpDhIdeal [hUpDhIdeal : Cert.UpDhIdeal.Facts] : Prop :=
  ∀ (m : (ℓ : Loc Cert.UpDhIdeal.nD Cert.UpDhIdeal.τ Cert.UpDhIdeal.sig) → Buf (Elt Ideal) ℓ) (g : Dev Cert.UpDhIdeal.nD → PrngReg), Pre_UpDhIdeal m →
    θ_run (Cert.UpDhIdeal.defs (F := Ideal)) (onTc (τ := Cert.UpDhIdeal.τ) (Cert.UpDhIdeal.main (F := Ideal))) ⟨m, fun _ => 0, g⟩ (fun r => (∀ c : Dev Cert.UpDhIdeal.nD,
      r.2.mem ((c.tc : Thread Cert.UpDhIdeal.nD Cert.UpDhIdeal.τ).loc Cert.UpDhIdeal.main_arg0) = m ((c.tc : Thread Cert.UpDhIdeal.nD Cert.UpDhIdeal.τ).loc Cert.UpDhIdeal.main_arg0)
      ∧ r.2.mem ((c.tc : Thread Cert.UpDhIdeal.nD Cert.UpDhIdeal.τ).loc Cert.UpDhIdeal.main_arg1) = m ((c.tc : Thread Cert.UpDhIdeal.nD Cert.UpDhIdeal.τ).loc Cert.UpDhIdeal.main_arg1))
      ∧ r.2.sem = fun _ => 0)

def quiescent_UpDhRefIdeal [hUpDhRefIdeal : Cert.UpDhRefIdeal.Facts] : Prop :=
  ∀ (m : (ℓ : Loc Cert.UpDhRefIdeal.nD Cert.UpDhRefIdeal.τ Cert.UpDhRefIdeal.sig) → Buf (Elt Ideal) ℓ) (g : Dev Cert.UpDhRefIdeal.nD → PrngReg), Pre_UpDhRefIdeal m →
    θ_run (Cert.UpDhRefIdeal.defs (F := Ideal)) (onTc (τ := Cert.UpDhRefIdeal.τ) (Cert.UpDhRefIdeal.main (F := Ideal))) ⟨m, fun _ => 0, g⟩ (fun r => (∀ c : Dev Cert.UpDhRefIdeal.nD,
      r.2.mem ((c.tc : Thread Cert.UpDhRefIdeal.nD Cert.UpDhRefIdeal.τ).loc Cert.UpDhRefIdeal.main_arg0) = m ((c.tc : Thread Cert.UpDhRefIdeal.nD Cert.UpDhRefIdeal.τ).loc Cert.UpDhRefIdeal.main_arg0)
      ∧ r.2.mem ((c.tc : Thread Cert.UpDhRefIdeal.nD Cert.UpDhRefIdeal.τ).loc Cert.UpDhRefIdeal.main_arg1) = m ((c.tc : Thread Cert.UpDhRefIdeal.nD Cert.UpDhRefIdeal.τ).loc Cert.UpDhRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_OutDu [hOutDu : Cert.OutDu.Facts] : Prop :=
  ∀ (m : (ℓ : Loc Cert.OutDu.nD Cert.OutDu.τ Cert.OutDu.sig) → Buf (Elt Bits) ℓ) (g : Dev Cert.OutDu.nD → PrngReg), Pre_OutDu m →
    θ_run (Cert.OutDu.defs (F := Bits)) (onTc (τ := Cert.OutDu.τ) (Cert.OutDu.main (F := Bits))) ⟨m, fun _ => 0, g⟩ (fun r => (∀ c : Dev Cert.OutDu.nD,
      r.2.mem ((c.tc : Thread Cert.OutDu.nD Cert.OutDu.τ).loc Cert.OutDu.main_arg0) = m ((c.tc : Thread Cert.OutDu.nD Cert.OutDu.τ).loc Cert.OutDu.main_arg0)
      ∧ r.2.mem ((c.tc : Thread Cert.OutDu.nD Cert.OutDu.τ).loc Cert.OutDu.main_arg1) = m ((c.tc : Thread Cert.OutDu.nD Cert.OutDu.τ).loc Cert.OutDu.main_arg1))
      ∧ r.2.sem = fun _ => 0)

def quiescent_OutDuIdeal [hOutDuIdeal : Cert.OutDuIdeal.Facts] : Prop :=
  ∀ (m : (ℓ : Loc Cert.OutDuIdeal.nD Cert.OutDuIdeal.τ Cert.OutDuIdeal.sig) → Buf (Elt Ideal) ℓ) (g : Dev Cert.OutDuIdeal.nD → PrngReg), Pre_OutDuIdeal m →
    θ_run (Cert.OutDuIdeal.defs (F := Ideal)) (onTc (τ := Cert.OutDuIdeal.τ) (Cert.OutDuIdeal.main (F := Ideal))) ⟨m, fun _ => 0, g⟩ (fun r => (∀ c : Dev Cert.OutDuIdeal.nD,
      r.2.mem ((c.tc : Thread Cert.OutDuIdeal.nD Cert.OutDuIdeal.τ).loc Cert.OutDuIdeal.main_arg0) = m ((c.tc : Thread Cert.OutDuIdeal.nD Cert.OutDuIdeal.τ).loc Cert.OutDuIdeal.main_arg0)
      ∧ r.2.mem ((c.tc : Thread Cert.OutDuIdeal.nD Cert.OutDuIdeal.τ).loc Cert.OutDuIdeal.main_arg1) = m ((c.tc : Thread Cert.OutDuIdeal.nD Cert.OutDuIdeal.τ).loc Cert.OutDuIdeal.main_arg1))
      ∧ r.2.sem = fun _ => 0)

def quiescent_OutDuRefIdeal [hOutDuRefIdeal : Cert.OutDuRefIdeal.Facts] : Prop :=
  ∀ (m : (ℓ : Loc Cert.OutDuRefIdeal.nD Cert.OutDuRefIdeal.τ Cert.OutDuRefIdeal.sig) → Buf (Elt Ideal) ℓ) (g : Dev Cert.OutDuRefIdeal.nD → PrngReg), Pre_OutDuRefIdeal m →
    θ_run (Cert.OutDuRefIdeal.defs (F := Ideal)) (onTc (τ := Cert.OutDuRefIdeal.τ) (Cert.OutDuRefIdeal.main (F := Ideal))) ⟨m, fun _ => 0, g⟩ (fun r => (∀ c : Dev Cert.OutDuRefIdeal.nD,
      r.2.mem ((c.tc : Thread Cert.OutDuRefIdeal.nD Cert.OutDuRefIdeal.τ).loc Cert.OutDuRefIdeal.main_arg0) = m ((c.tc : Thread Cert.OutDuRefIdeal.nD Cert.OutDuRefIdeal.τ).loc Cert.OutDuRefIdeal.main_arg0)
      ∧ r.2.mem ((c.tc : Thread Cert.OutDuRefIdeal.nD Cert.OutDuRefIdeal.τ).loc Cert.OutDuRefIdeal.main_arg1) = m ((c.tc : Thread Cert.OutDuRefIdeal.nD Cert.OutDuRefIdeal.τ).loc Cert.OutDuRefIdeal.main_arg1))
      ∧ r.2.sem = fun _ => 0)

def quiescent_QDh [hQDh : Cert.QDh.Facts] : Prop :=
  ∀ (m : (ℓ : Loc Cert.QDh.nD Cert.QDh.τ Cert.QDh.sig) → Buf (Elt Bits) ℓ) (g : Dev Cert.QDh.nD → PrngReg), Pre_QDh m →
    θ_run (Cert.QDh.defs (F := Bits)) (onTc (τ := Cert.QDh.τ) (Cert.QDh.main (F := Bits))) ⟨m, fun _ => 0, g⟩ (fun r => (∀ c : Dev Cert.QDh.nD,
      r.2.mem ((c.tc : Thread Cert.QDh.nD Cert.QDh.τ).loc Cert.QDh.main_arg0) = m ((c.tc : Thread Cert.QDh.nD Cert.QDh.τ).loc Cert.QDh.main_arg0)
      ∧ r.2.mem ((c.tc : Thread Cert.QDh.nD Cert.QDh.τ).loc Cert.QDh.main_arg1) = m ((c.tc : Thread Cert.QDh.nD Cert.QDh.τ).loc Cert.QDh.main_arg1))
      ∧ r.2.sem = fun _ => 0)

def quiescent_QDhIdeal [hQDhIdeal : Cert.QDhIdeal.Facts] : Prop :=
  ∀ (m : (ℓ : Loc Cert.QDhIdeal.nD Cert.QDhIdeal.τ Cert.QDhIdeal.sig) → Buf (Elt Ideal) ℓ) (g : Dev Cert.QDhIdeal.nD → PrngReg), Pre_QDhIdeal m →
    θ_run (Cert.QDhIdeal.defs (F := Ideal)) (onTc (τ := Cert.QDhIdeal.τ) (Cert.QDhIdeal.main (F := Ideal))) ⟨m, fun _ => 0, g⟩ (fun r => (∀ c : Dev Cert.QDhIdeal.nD,
      r.2.mem ((c.tc : Thread Cert.QDhIdeal.nD Cert.QDhIdeal.τ).loc Cert.QDhIdeal.main_arg0) = m ((c.tc : Thread Cert.QDhIdeal.nD Cert.QDhIdeal.τ).loc Cert.QDhIdeal.main_arg0)
      ∧ r.2.mem ((c.tc : Thread Cert.QDhIdeal.nD Cert.QDhIdeal.τ).loc Cert.QDhIdeal.main_arg1) = m ((c.tc : Thread Cert.QDhIdeal.nD Cert.QDhIdeal.τ).loc Cert.QDhIdeal.main_arg1))
      ∧ r.2.sem = fun _ => 0)

def quiescent_QDhRefIdeal [hQDhRefIdeal : Cert.QDhRefIdeal.Facts] : Prop :=
  ∀ (m : (ℓ : Loc Cert.QDhRefIdeal.nD Cert.QDhRefIdeal.τ Cert.QDhRefIdeal.sig) → Buf (Elt Ideal) ℓ) (g : Dev Cert.QDhRefIdeal.nD → PrngReg), Pre_QDhRefIdeal m →
    θ_run (Cert.QDhRefIdeal.defs (F := Ideal)) (onTc (τ := Cert.QDhRefIdeal.τ) (Cert.QDhRefIdeal.main (F := Ideal))) ⟨m, fun _ => 0, g⟩ (fun r => (∀ c : Dev Cert.QDhRefIdeal.nD,
      r.2.mem ((c.tc : Thread Cert.QDhRefIdeal.nD Cert.QDhRefIdeal.τ).loc Cert.QDhRefIdeal.main_arg0) = m ((c.tc : Thread Cert.QDhRefIdeal.nD Cert.QDhRefIdeal.τ).loc Cert.QDhRefIdeal.main_arg0)
      ∧ r.2.mem ((c.tc : Thread Cert.QDhRefIdeal.nD Cert.QDhRefIdeal.τ).loc Cert.QDhRefIdeal.main_arg1) = m ((c.tc : Thread Cert.QDhRefIdeal.nD Cert.QDhRefIdeal.τ).loc Cert.QDhRefIdeal.main_arg1))
      ∧ r.2.sem = fun _ => 0)

def quiescent_KvDw [hKvDw : Cert.KvDw.Facts] : Prop :=
  ∀ (m : (ℓ : Loc Cert.KvDw.nD Cert.KvDw.τ Cert.KvDw.sig) → Buf (Elt Bits) ℓ) (g : Dev Cert.KvDw.nD → PrngReg), Pre_KvDw m →
    θ_run (Cert.KvDw.defs (F := Bits)) (onTc (τ := Cert.KvDw.τ) (Cert.KvDw.main (F := Bits))) ⟨m, fun _ => 0, g⟩ (fun r => (∀ c : Dev Cert.KvDw.nD,
      r.2.mem ((c.tc : Thread Cert.KvDw.nD Cert.KvDw.τ).loc Cert.KvDw.main_arg0) = m ((c.tc : Thread Cert.KvDw.nD Cert.KvDw.τ).loc Cert.KvDw.main_arg0)
      ∧ r.2.mem ((c.tc : Thread Cert.KvDw.nD Cert.KvDw.τ).loc Cert.KvDw.main_arg1) = m ((c.tc : Thread Cert.KvDw.nD Cert.KvDw.τ).loc Cert.KvDw.main_arg1))
      ∧ r.2.sem = fun _ => 0)

def quiescent_KvDwIdeal [hKvDwIdeal : Cert.KvDwIdeal.Facts] : Prop :=
  ∀ (m : (ℓ : Loc Cert.KvDwIdeal.nD Cert.KvDwIdeal.τ Cert.KvDwIdeal.sig) → Buf (Elt Ideal) ℓ) (g : Dev Cert.KvDwIdeal.nD → PrngReg), Pre_KvDwIdeal m →
    θ_run (Cert.KvDwIdeal.defs (F := Ideal)) (onTc (τ := Cert.KvDwIdeal.τ) (Cert.KvDwIdeal.main (F := Ideal))) ⟨m, fun _ => 0, g⟩ (fun r => (∀ c : Dev Cert.KvDwIdeal.nD,
      r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
      ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1))
      ∧ r.2.sem = fun _ => 0)

def quiescent_KvDwRefIdeal [hKvDwRefIdeal : Cert.KvDwRefIdeal.Facts] : Prop :=
  ∀ (m : (ℓ : Loc Cert.KvDwRefIdeal.nD Cert.KvDwRefIdeal.τ Cert.KvDwRefIdeal.sig) → Buf (Elt Ideal) ℓ) (g : Dev Cert.KvDwRefIdeal.nD → PrngReg), Pre_KvDwRefIdeal m →
    θ_run (Cert.KvDwRefIdeal.defs (F := Ideal)) (onTc (τ := Cert.KvDwRefIdeal.τ) (Cert.KvDwRefIdeal.main (F := Ideal))) ⟨m, fun _ => 0, g⟩ (fun r => (∀ c : Dev Cert.KvDwRefIdeal.nD,
      r.2.mem ((c.tc : Thread Cert.KvDwRefIdeal.nD Cert.KvDwRefIdeal.τ).loc Cert.KvDwRefIdeal.main_arg0) = m ((c.tc : Thread Cert.KvDwRefIdeal.nD Cert.KvDwRefIdeal.τ).loc Cert.KvDwRefIdeal.main_arg0)
      ∧ r.2.mem ((c.tc : Thread Cert.KvDwRefIdeal.nD Cert.KvDwRefIdeal.τ).loc Cert.KvDwRefIdeal.main_arg1) = m ((c.tc : Thread Cert.KvDwRefIdeal.nD Cert.KvDwRefIdeal.τ).loc Cert.KvDwRefIdeal.main_arg1))
      ∧ r.2.sem = fun _ => 0)

def quiescent_KvDh [hKvDh : Cert.KvDh.Facts] : Prop :=
  ∀ (m : (ℓ : Loc Cert.KvDh.nD Cert.KvDh.τ Cert.KvDh.sig) → Buf (Elt Bits) ℓ) (g : Dev Cert.KvDh.nD → PrngReg), Pre_KvDh m →
    θ_run (Cert.KvDh.defs (F := Bits)) (onTc (τ := Cert.KvDh.τ) (Cert.KvDh.main (F := Bits))) ⟨m, fun _ => 0, g⟩ (fun r => (∀ c : Dev Cert.KvDh.nD,
      r.2.mem ((c.tc : Thread Cert.KvDh.nD Cert.KvDh.τ).loc Cert.KvDh.main_arg0) = m ((c.tc : Thread Cert.KvDh.nD Cert.KvDh.τ).loc Cert.KvDh.main_arg0)
      ∧ r.2.mem ((c.tc : Thread Cert.KvDh.nD Cert.KvDh.τ).loc Cert.KvDh.main_arg1) = m ((c.tc : Thread Cert.KvDh.nD Cert.KvDh.τ).loc Cert.KvDh.main_arg1))
      ∧ r.2.sem = fun _ => 0)

def quiescent_KvDhIdeal [hKvDhIdeal : Cert.KvDhIdeal.Facts] : Prop :=
  ∀ (m : (ℓ : Loc Cert.KvDhIdeal.nD Cert.KvDhIdeal.τ Cert.KvDhIdeal.sig) → Buf (Elt Ideal) ℓ) (g : Dev Cert.KvDhIdeal.nD → PrngReg), Pre_KvDhIdeal m →
    θ_run (Cert.KvDhIdeal.defs (F := Ideal)) (onTc (τ := Cert.KvDhIdeal.τ) (Cert.KvDhIdeal.main (F := Ideal))) ⟨m, fun _ => 0, g⟩ (fun r => (∀ c : Dev Cert.KvDhIdeal.nD,
      r.2.mem ((c.tc : Thread Cert.KvDhIdeal.nD Cert.KvDhIdeal.τ).loc Cert.KvDhIdeal.main_arg0) = m ((c.tc : Thread Cert.KvDhIdeal.nD Cert.KvDhIdeal.τ).loc Cert.KvDhIdeal.main_arg0)
      ∧ r.2.mem ((c.tc : Thread Cert.KvDhIdeal.nD Cert.KvDhIdeal.τ).loc Cert.KvDhIdeal.main_arg1) = m ((c.tc : Thread Cert.KvDhIdeal.nD Cert.KvDhIdeal.τ).loc Cert.KvDhIdeal.main_arg1))
      ∧ r.2.sem = fun _ => 0)

def quiescent_KvDhRefIdeal [hKvDhRefIdeal : Cert.KvDhRefIdeal.Facts] : Prop :=
  ∀ (m : (ℓ : Loc Cert.KvDhRefIdeal.nD Cert.KvDhRefIdeal.τ Cert.KvDhRefIdeal.sig) → Buf (Elt Ideal) ℓ) (g : Dev Cert.KvDhRefIdeal.nD → PrngReg), Pre_KvDhRefIdeal m →
    θ_run (Cert.KvDhRefIdeal.defs (F := Ideal)) (onTc (τ := Cert.KvDhRefIdeal.τ) (Cert.KvDhRefIdeal.main (F := Ideal))) ⟨m, fun _ => 0, g⟩ (fun r => (∀ c : Dev Cert.KvDhRefIdeal.nD,
      r.2.mem ((c.tc : Thread Cert.KvDhRefIdeal.nD Cert.KvDhRefIdeal.τ).loc Cert.KvDhRefIdeal.main_arg0) = m ((c.tc : Thread Cert.KvDhRefIdeal.nD Cert.KvDhRefIdeal.τ).loc Cert.KvDhRefIdeal.main_arg0)
      ∧ r.2.mem ((c.tc : Thread Cert.KvDhRefIdeal.nD Cert.KvDhRefIdeal.τ).loc Cert.KvDhRefIdeal.main_arg1) = m ((c.tc : Thread Cert.KvDhRefIdeal.nD Cert.KvDhRefIdeal.τ).loc Cert.KvDhRefIdeal.main_arg1))
      ∧ r.2.sem = fun _ => 0)

def quiescent_MlpUp [hMlpUp : Cert.MlpUp.Facts] : Prop :=
  ∀ (m : (ℓ : Loc Cert.MlpUp.nD Cert.MlpUp.τ Cert.MlpUp.sig) → Buf (Elt Bits) ℓ) (g : Dev Cert.MlpUp.nD → PrngReg), Pre_MlpUp m →
    θ_run (Cert.MlpUp.defs (F := Bits)) (onTc (τ := Cert.MlpUp.τ) (Cert.MlpUp.main (F := Bits))) ⟨m, fun _ => 0, g⟩ (fun r => (∀ c : Dev Cert.MlpUp.nD,
      r.2.mem ((c.tc : Thread Cert.MlpUp.nD Cert.MlpUp.τ).loc Cert.MlpUp.main_arg0) = m ((c.tc : Thread Cert.MlpUp.nD Cert.MlpUp.τ).loc Cert.MlpUp.main_arg0)
      ∧ r.2.mem ((c.tc : Thread Cert.MlpUp.nD Cert.MlpUp.τ).loc Cert.MlpUp.main_arg1) = m ((c.tc : Thread Cert.MlpUp.nD Cert.MlpUp.τ).loc Cert.MlpUp.main_arg1))
      ∧ r.2.sem = fun _ => 0)

def quiescent_MlpUpIdeal [hMlpUpIdeal : Cert.MlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ r.2.sem = fun _ => 0)

def quiescent_MlpUpRefIdeal [hMlpUpRefIdeal : Cert.MlpUpRefIdeal.Facts] : Prop :=
  ∀ (m : (ℓ : Loc Cert.MlpUpRefIdeal.nD Cert.MlpUpRefIdeal.τ Cert.MlpUpRefIdeal.sig) → Buf (Elt Ideal) ℓ) (g : Dev Cert.MlpUpRefIdeal.nD → PrngReg), Pre_MlpUpRefIdeal m →
    θ_run (Cert.MlpUpRefIdeal.defs (F := Ideal)) (onTc (τ := Cert.MlpUpRefIdeal.τ) (Cert.MlpUpRefIdeal.main (F := Ideal))) ⟨m, fun _ => 0, g⟩ (fun r => (∀ c : Dev Cert.MlpUpRefIdeal.nD,
      r.2.mem ((c.tc : Thread Cert.MlpUpRefIdeal.nD Cert.MlpUpRefIdeal.τ).loc Cert.MlpUpRefIdeal.main_arg0) = m ((c.tc : Thread Cert.MlpUpRefIdeal.nD Cert.MlpUpRefIdeal.τ).loc Cert.MlpUpRefIdeal.main_arg0)
      ∧ r.2.mem ((c.tc : Thread Cert.MlpUpRefIdeal.nD Cert.MlpUpRefIdeal.τ).loc Cert.MlpUpRefIdeal.main_arg1) = m ((c.tc : Thread Cert.MlpUpRefIdeal.nD Cert.MlpUpRefIdeal.τ).loc Cert.MlpUpRefIdeal.main_arg1))
      ∧ r.2.sem = fun _ => 0)

def quiescent_MlpDown [hMlpDown : Cert.MlpDown.Facts] : Prop :=
  ∀ (m : (ℓ : Loc Cert.MlpDown.nD Cert.MlpDown.τ Cert.MlpDown.sig) → Buf (Elt Bits) ℓ) (g : Dev Cert.MlpDown.nD → PrngReg), Pre_MlpDown m →
    θ_run (Cert.MlpDown.defs (F := Bits)) (onTc (τ := Cert.MlpDown.τ) (Cert.MlpDown.main (F := Bits))) ⟨m, fun _ => 0, g⟩ (fun r => (∀ c : Dev Cert.MlpDown.nD,
      r.2.mem ((c.tc : Thread Cert.MlpDown.nD Cert.MlpDown.τ).loc Cert.MlpDown.main_arg0) = m ((c.tc : Thread Cert.MlpDown.nD Cert.MlpDown.τ).loc Cert.MlpDown.main_arg0)
      ∧ r.2.mem ((c.tc : Thread Cert.MlpDown.nD Cert.MlpDown.τ).loc Cert.MlpDown.main_arg1) = m ((c.tc : Thread Cert.MlpDown.nD Cert.MlpDown.τ).loc Cert.MlpDown.main_arg1)
      ∧ r.2.mem ((c.tc : Thread Cert.MlpDown.nD Cert.MlpDown.τ).loc Cert.MlpDown.main_arg2) = m ((c.tc : Thread Cert.MlpDown.nD Cert.MlpDown.τ).loc Cert.MlpDown.main_arg2)
      ∧ r.2.mem ((c.tc : Thread Cert.MlpDown.nD Cert.MlpDown.τ).loc Cert.MlpDown.main_arg3) = m ((c.tc : Thread Cert.MlpDown.nD Cert.MlpDown.τ).loc Cert.MlpDown.main_arg3))
      ∧ r.2.sem = fun _ => 0)

def quiescent_MlpDownIdeal [hMlpDownIdeal : Cert.MlpDownIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg), Pre_MlpDownIdeal m →
    θ_run (Cert.MlpDownIdeal.defs (F := Ideal)) (onTc (τ := Cert.MlpDownIdeal.τ) (Cert.MlpDownIdeal.main (F := Ideal))) ⟨m, fun _ => 0, g⟩ (fun r => (∀ c : Dev Cert.MlpDownIdeal.nD,
      r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
      ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
      ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2)
      ∧ r.2.mem ((c.tc : Thread Cert.MlpDownIdeal.nD Cert.MlpDownIdeal.τ).loc Cert.MlpDownIdeal.main_arg3) = m ((c.tc : Thread Cert.MlpDownIdeal.nD Cert.MlpDownIdeal.τ).loc Cert.MlpDownIdeal.main_arg3))
      ∧ r.2.sem = fun _ => 0)

def quiescent_MlpDownRefIdeal [hMlpDownRefIdeal : Cert.MlpDownRefIdeal.Facts] : Prop :=
  ∀ (m : (ℓ : Loc Cert.MlpDownRefIdeal.nD Cert.MlpDownRefIdeal.τ Cert.MlpDownRefIdeal.sig) → Buf (Elt Ideal) ℓ) (g : Dev Cert.MlpDownRefIdeal.nD → PrngReg), Pre_MlpDownRefIdeal m →
    θ_run (Cert.MlpDownRefIdeal.defs (F := Ideal)) (onTc (τ := Cert.MlpDownRefIdeal.τ) (Cert.MlpDownRefIdeal.main (F := Ideal))) ⟨m, fun _ => 0, g⟩ (fun r => (∀ c : Dev Cert.MlpDownRefIdeal.nD,
      r.2.mem ((c.tc : Thread Cert.MlpDownRefIdeal.nD Cert.MlpDownRefIdeal.τ).loc Cert.MlpDownRefIdeal.main_arg0) = m ((c.tc : Thread Cert.MlpDownRefIdeal.nD Cert.MlpDownRefIdeal.τ).loc Cert.MlpDownRefIdeal.main_arg0)
      ∧ r.2.mem ((c.tc : Thread Cert.MlpDownRefIdeal.nD Cert.MlpDownRefIdeal.τ).loc Cert.MlpDownRefIdeal.main_arg1) = m ((c.tc : Thread Cert.MlpDownRefIdeal.nD Cert.MlpDownRefIdeal.τ).loc Cert.MlpDownRefIdeal.main_arg1)
      ∧ r.2.mem ((c.tc : Thread Cert.MlpDownRefIdeal.nD Cert.MlpDownRefIdeal.τ).loc Cert.MlpDownRefIdeal.main_arg2) = m ((c.tc : Thread Cert.MlpDownRefIdeal.nD Cert.MlpDownRefIdeal.τ).loc Cert.MlpDownRefIdeal.main_arg2)
      ∧ r.2.mem ((c.tc : Thread Cert.MlpDownRefIdeal.nD Cert.MlpDownRefIdeal.τ).loc Cert.MlpDownRefIdeal.main_arg3) = m ((c.tc : Thread Cert.MlpDownRefIdeal.nD Cert.MlpDownRefIdeal.τ).loc Cert.MlpDownRefIdeal.main_arg3))
      ∧ r.2.sem = fun _ => 0)

def quiescent_AIn [hAIn : Cert.AIn.Facts] : Prop :=
  ∀ (m : (ℓ : Loc Cert.AIn.nD Cert.AIn.τ Cert.AIn.sig) → Buf (Elt Bits) ℓ) (g : Dev Cert.AIn.nD → PrngReg), Pre_AIn m →
    θ_run (Cert.AIn.defs (F := Bits)) (onTc (τ := Cert.AIn.τ) (Cert.AIn.main (F := Bits))) ⟨m, fun _ => 0, g⟩ (fun r => (∀ c : Dev Cert.AIn.nD,
      r.2.mem ((c.tc : Thread Cert.AIn.nD Cert.AIn.τ).loc Cert.AIn.main_arg0) = m ((c.tc : Thread Cert.AIn.nD Cert.AIn.τ).loc Cert.AIn.main_arg0)
      ∧ r.2.mem ((c.tc : Thread Cert.AIn.nD Cert.AIn.τ).loc Cert.AIn.main_arg1) = m ((c.tc : Thread Cert.AIn.nD Cert.AIn.τ).loc Cert.AIn.main_arg1))
      ∧ r.2.sem = fun _ => 0)

def quiescent_AInIdeal [hAInIdeal : Cert.AInIdeal.Facts] : Prop :=
  ∀ (m : (ℓ : Loc Cert.AInIdeal.nD Cert.AInIdeal.τ Cert.AInIdeal.sig) → Buf (Elt Ideal) ℓ) (g : Dev Cert.AInIdeal.nD → PrngReg), Pre_AInIdeal m →
    θ_run (Cert.AInIdeal.defs (F := Ideal)) (onTc (τ := Cert.AInIdeal.τ) (Cert.AInIdeal.main (F := Ideal))) ⟨m, fun _ => 0, g⟩ (fun r => (∀ c : Dev Cert.AInIdeal.nD,
      r.2.mem ((c.tc : Thread Cert.AInIdeal.nD Cert.AInIdeal.τ).loc Cert.AInIdeal.main_arg0) = m ((c.tc : Thread Cert.AInIdeal.nD Cert.AInIdeal.τ).loc Cert.AInIdeal.main_arg0)
      ∧ r.2.mem ((c.tc : Thread Cert.AInIdeal.nD Cert.AInIdeal.τ).loc Cert.AInIdeal.main_arg1) = m ((c.tc : Thread Cert.AInIdeal.nD Cert.AInIdeal.τ).loc Cert.AInIdeal.main_arg1))
      ∧ r.2.sem = fun _ => 0)

def quiescent_AInRefIdeal [hAInRefIdeal : Cert.AInRefIdeal.Facts] : Prop :=
  ∀ (m : (ℓ : Loc Cert.AInRefIdeal.nD Cert.AInRefIdeal.τ Cert.AInRefIdeal.sig) → Buf (Elt Ideal) ℓ) (g : Dev Cert.AInRefIdeal.nD → PrngReg), Pre_AInRefIdeal m →
    θ_run (Cert.AInRefIdeal.defs (F := Ideal)) (onTc (τ := Cert.AInRefIdeal.τ) (Cert.AInRefIdeal.main (F := Ideal))) ⟨m, fun _ => 0, g⟩ (fun r => (∀ c : Dev Cert.AInRefIdeal.nD,
      r.2.mem ((c.tc : Thread Cert.AInRefIdeal.nD Cert.AInRefIdeal.τ).loc Cert.AInRefIdeal.main_arg0) = m ((c.tc : Thread Cert.AInRefIdeal.nD Cert.AInRefIdeal.τ).loc Cert.AInRefIdeal.main_arg0)
      ∧ r.2.mem ((c.tc : Thread Cert.AInRefIdeal.nD Cert.AInRefIdeal.τ).loc Cert.AInRefIdeal.main_arg1) = m ((c.tc : Thread Cert.AInRefIdeal.nD Cert.AInRefIdeal.τ).loc Cert.AInRefIdeal.main_arg1))
      ∧ r.2.sem = fun _ => 0)

def quiescent_QMm [hQMm : Cert.QMm.Facts] : Prop :=
  ∀ (m : (ℓ : Loc Cert.QMm.nD Cert.QMm.τ Cert.QMm.sig) → Buf (Elt Bits) ℓ) (g : Dev Cert.QMm.nD → PrngReg), Pre_QMm m →
    θ_run (Cert.QMm.defs (F := Bits)) (onTc (τ := Cert.QMm.τ) (Cert.QMm.main (F := Bits))) ⟨m, fun _ => 0, g⟩ (fun r => (∀ c : Dev Cert.QMm.nD,
      r.2.mem ((c.tc : Thread Cert.QMm.nD Cert.QMm.τ).loc Cert.QMm.main_arg0) = m ((c.tc : Thread Cert.QMm.nD Cert.QMm.τ).loc Cert.QMm.main_arg0)
      ∧ r.2.mem ((c.tc : Thread Cert.QMm.nD Cert.QMm.τ).loc Cert.QMm.main_arg1) = m ((c.tc : Thread Cert.QMm.nD Cert.QMm.τ).loc Cert.QMm.main_arg1))
      ∧ r.2.sem = fun _ => 0)

def quiescent_QMmIdeal [hQMmIdeal : Cert.QMmIdeal.Facts] : Prop :=
  ∀ (m : (ℓ : Loc Cert.QMmIdeal.nD Cert.QMmIdeal.τ Cert.QMmIdeal.sig) → Buf (Elt Ideal) ℓ) (g : Dev Cert.QMmIdeal.nD → PrngReg), Pre_QMmIdeal m →
    θ_run (Cert.QMmIdeal.defs (F := Ideal)) (onTc (τ := Cert.QMmIdeal.τ) (Cert.QMmIdeal.main (F := Ideal))) ⟨m, fun _ => 0, g⟩ (fun r => (∀ c : Dev Cert.QMmIdeal.nD,
      r.2.mem ((c.tc : Thread Cert.QMmIdeal.nD Cert.QMmIdeal.τ).loc Cert.QMmIdeal.main_arg0) = m ((c.tc : Thread Cert.QMmIdeal.nD Cert.QMmIdeal.τ).loc Cert.QMmIdeal.main_arg0)
      ∧ r.2.mem ((c.tc : Thread Cert.QMmIdeal.nD Cert.QMmIdeal.τ).loc Cert.QMmIdeal.main_arg1) = m ((c.tc : Thread Cert.QMmIdeal.nD Cert.QMmIdeal.τ).loc Cert.QMmIdeal.main_arg1))
      ∧ r.2.sem = fun _ => 0)

def quiescent_QMmRefIdeal [hQMmRefIdeal : Cert.QMmRefIdeal.Facts] : Prop :=
  ∀ (m : (ℓ : Loc Cert.QMmRefIdeal.nD Cert.QMmRefIdeal.τ Cert.QMmRefIdeal.sig) → Buf (Elt Ideal) ℓ) (g : Dev Cert.QMmRefIdeal.nD → PrngReg), Pre_QMmRefIdeal m →
    θ_run (Cert.QMmRefIdeal.defs (F := Ideal)) (onTc (τ := Cert.QMmRefIdeal.τ) (Cert.QMmRefIdeal.main (F := Ideal))) ⟨m, fun _ => 0, g⟩ (fun r => (∀ c : Dev Cert.QMmRefIdeal.nD,
      r.2.mem ((c.tc : Thread Cert.QMmRefIdeal.nD Cert.QMmRefIdeal.τ).loc Cert.QMmRefIdeal.main_arg0) = m ((c.tc : Thread Cert.QMmRefIdeal.nD Cert.QMmRefIdeal.τ).loc Cert.QMmRefIdeal.main_arg0)
      ∧ r.2.mem ((c.tc : Thread Cert.QMmRefIdeal.nD Cert.QMmRefIdeal.τ).loc Cert.QMmRefIdeal.main_arg1) = m ((c.tc : Thread Cert.QMmRefIdeal.nD Cert.QMmRefIdeal.τ).loc Cert.QMmRefIdeal.main_arg1))
      ∧ r.2.sem = fun _ => 0)

def quiescent_KvMm [hKvMm : Cert.KvMm.Facts] : Prop :=
  ∀ (m : (ℓ : Loc Cert.KvMm.nD Cert.KvMm.τ Cert.KvMm.sig) → Buf (Elt Bits) ℓ) (g : Dev Cert.KvMm.nD → PrngReg), Pre_KvMm m →
    θ_run (Cert.KvMm.defs (F := Bits)) (onTc (τ := Cert.KvMm.τ) (Cert.KvMm.main (F := Bits))) ⟨m, fun _ => 0, g⟩ (fun r => (∀ c : Dev Cert.KvMm.nD,
      r.2.mem ((c.tc : Thread Cert.KvMm.nD Cert.KvMm.τ).loc Cert.KvMm.main_arg0) = m ((c.tc : Thread Cert.KvMm.nD Cert.KvMm.τ).loc Cert.KvMm.main_arg0)
      ∧ r.2.mem ((c.tc : Thread Cert.KvMm.nD Cert.KvMm.τ).loc Cert.KvMm.main_arg1) = m ((c.tc : Thread Cert.KvMm.nD Cert.KvMm.τ).loc Cert.KvMm.main_arg1))
      ∧ r.2.sem = fun _ => 0)

def quiescent_KvMmIdeal [hKvMmIdeal : Cert.KvMmIdeal.Facts] : Prop :=
  ∀ (m : (ℓ : Loc Cert.KvMmIdeal.nD Cert.KvMmIdeal.τ Cert.KvMmIdeal.sig) → Buf (Elt Ideal) ℓ) (g : Dev Cert.KvMmIdeal.nD → PrngReg), Pre_KvMmIdeal m →
    θ_run (Cert.KvMmIdeal.defs (F := Ideal)) (onTc (τ := Cert.KvMmIdeal.τ) (Cert.KvMmIdeal.main (F := Ideal))) ⟨m, fun _ => 0, g⟩ (fun r => (∀ c : Dev Cert.KvMmIdeal.nD,
      r.2.mem ((c.tc : Thread Cert.KvMmIdeal.nD Cert.KvMmIdeal.τ).loc Cert.KvMmIdeal.main_arg0) = m ((c.tc : Thread Cert.KvMmIdeal.nD Cert.KvMmIdeal.τ).loc Cert.KvMmIdeal.main_arg0)
      ∧ r.2.mem ((c.tc : Thread Cert.KvMmIdeal.nD Cert.KvMmIdeal.τ).loc Cert.KvMmIdeal.main_arg1) = m ((c.tc : Thread Cert.KvMmIdeal.nD Cert.KvMmIdeal.τ).loc Cert.KvMmIdeal.main_arg1))
      ∧ r.2.sem = fun _ => 0)

def quiescent_KvMmRefIdeal [hKvMmRefIdeal : Cert.KvMmRefIdeal.Facts] : Prop :=
  ∀ (m : (ℓ : Loc Cert.KvMmRefIdeal.nD Cert.KvMmRefIdeal.τ Cert.KvMmRefIdeal.sig) → Buf (Elt Ideal) ℓ) (g : Dev Cert.KvMmRefIdeal.nD → PrngReg), Pre_KvMmRefIdeal m →
    θ_run (Cert.KvMmRefIdeal.defs (F := Ideal)) (onTc (τ := Cert.KvMmRefIdeal.τ) (Cert.KvMmRefIdeal.main (F := Ideal))) ⟨m, fun _ => 0, g⟩ (fun r => (∀ c : Dev Cert.KvMmRefIdeal.nD,
      r.2.mem ((c.tc : Thread Cert.KvMmRefIdeal.nD Cert.KvMmRefIdeal.τ).loc Cert.KvMmRefIdeal.main_arg0) = m ((c.tc : Thread Cert.KvMmRefIdeal.nD Cert.KvMmRefIdeal.τ).loc Cert.KvMmRefIdeal.main_arg0)
      ∧ r.2.mem ((c.tc : Thread Cert.KvMmRefIdeal.nD Cert.KvMmRefIdeal.τ).loc Cert.KvMmRefIdeal.main_arg1) = m ((c.tc : Thread Cert.KvMmRefIdeal.nD Cert.KvMmRefIdeal.τ).loc Cert.KvMmRefIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v105_0)) (v1 : (c : Dev Cert.KernelIdeal.nD) → Buf (Elt Ideal) ((c.tc : Thread Cert.KernelIdeal.nD Cert.KernelIdeal.τ).loc Cert.KernelIdeal.main_v105_1)) (v2 : (c : Dev Cert.KernelIdeal.nD) → Buf (Elt Ideal) ((c.tc : Thread Cert.KernelIdeal.nD Cert.KernelIdeal.τ).loc Cert.KernelIdeal.main_v105_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v105_0) = v0 c
          ∧ r.2.mem ((c.tc : Thread Cert.KernelIdeal.nD Cert.KernelIdeal.τ).loc Cert.KernelIdeal.main_v105_1) = v1 c
          ∧ r.2.mem ((c.tc : Thread Cert.KernelIdeal.nD Cert.KernelIdeal.τ).loc Cert.KernelIdeal.main_v105_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_v52) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v6) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_DownDz_DownDzIdeal : Prop :=
  True

def algebraic_DownDzIdeal_DownDzRefIdeal [hDownDzIdeal : Cert.DownDzIdeal.Facts] [hDownDzRefIdeal : Cert.DownDzRefIdeal.Facts] : Prop :=
  ∀ (m : (ℓ : Loc Cert.DownDzIdeal.nD Cert.DownDzIdeal.τ Cert.DownDzIdeal.sig) → Buf (Elt Ideal) ℓ) (g : Dev Cert.DownDzIdeal.nD → PrngReg)
    (m' : (ℓ : Loc Cert.DownDzRefIdeal.nD Cert.DownDzRefIdeal.τ Cert.DownDzRefIdeal.sig) → Buf (Elt Ideal) ℓ) (g' : Dev Cert.DownDzRefIdeal.nD → PrngReg), Pre_DownDzIdeal m →
    (∀ c : Dev Cert.DownDzIdeal.nD,
      m' ((c.tc : Thread Cert.DownDzRefIdeal.nD Cert.DownDzRefIdeal.τ).loc Cert.DownDzRefIdeal.main_arg0) = m ((c.tc : Thread Cert.DownDzIdeal.nD Cert.DownDzIdeal.τ).loc Cert.DownDzIdeal.main_arg0)
      ∧ m' ((c.tc : Thread Cert.DownDzRefIdeal.nD Cert.DownDzRefIdeal.τ).loc Cert.DownDzRefIdeal.main_arg1) = m ((c.tc : Thread Cert.DownDzIdeal.nD Cert.DownDzIdeal.τ).loc Cert.DownDzIdeal.main_arg1)
      ∧ m' ((c.tc : Thread Cert.DownDzRefIdeal.nD Cert.DownDzRefIdeal.τ).loc Cert.DownDzRefIdeal.main_arg2) = m ((c.tc : Thread Cert.DownDzIdeal.nD Cert.DownDzIdeal.τ).loc Cert.DownDzIdeal.main_arg2)) →
    ∃ (v0 : (c : Dev Cert.DownDzIdeal.nD) → Buf (Elt Ideal) ((c.tc : Thread Cert.DownDzIdeal.nD Cert.DownDzIdeal.τ).loc Cert.DownDzIdeal.main_v1)),
      θ_run (Cert.DownDzIdeal.defs (F := Ideal)) (onTc (τ := Cert.DownDzIdeal.τ) (Cert.DownDzIdeal.main (F := Ideal))) ⟨m, fun _ => 0, g⟩ (fun r => ∀ c : Dev Cert.DownDzIdeal.nD,
          r.2.mem ((c.tc : Thread Cert.DownDzIdeal.nD Cert.DownDzIdeal.τ).loc Cert.DownDzIdeal.main_v1) = v0 c
          ∧ r.2.mem ((c.tc : Thread Cert.DownDzIdeal.nD Cert.DownDzIdeal.τ).loc Cert.DownDzIdeal.main_arg0) = m ((c.tc : Thread Cert.DownDzIdeal.nD Cert.DownDzIdeal.τ).loc Cert.DownDzIdeal.main_arg0)
          ∧ r.2.mem ((c.tc : Thread Cert.DownDzIdeal.nD Cert.DownDzIdeal.τ).loc Cert.DownDzIdeal.main_arg1) = m ((c.tc : Thread Cert.DownDzIdeal.nD Cert.DownDzIdeal.τ).loc Cert.DownDzIdeal.main_arg1)
          ∧ r.2.mem ((c.tc : Thread Cert.DownDzIdeal.nD Cert.DownDzIdeal.τ).loc Cert.DownDzIdeal.main_arg2) = m ((c.tc : Thread Cert.DownDzIdeal.nD Cert.DownDzIdeal.τ).loc Cert.DownDzIdeal.main_arg2))
      ∧ θ_run (Cert.DownDzRefIdeal.defs (F := Ideal)) (onTc (τ := Cert.DownDzRefIdeal.τ) (Cert.DownDzRefIdeal.main (F := Ideal))) ⟨m', fun _ => 0, g'⟩ (fun r => ∀ c : Dev Cert.DownDzRefIdeal.nD,
          r.2.mem ((c.tc : Thread Cert.DownDzRefIdeal.nD Cert.DownDzRefIdeal.τ).loc Cert.DownDzRefIdeal.main_v15) = v0 c
          ∧ r.2.mem ((c.tc : Thread Cert.DownDzRefIdeal.nD Cert.DownDzRefIdeal.τ).loc Cert.DownDzRefIdeal.main_arg0) = m' ((c.tc : Thread Cert.DownDzRefIdeal.nD Cert.DownDzRefIdeal.τ).loc Cert.DownDzRefIdeal.main_arg0)
          ∧ r.2.mem ((c.tc : Thread Cert.DownDzRefIdeal.nD Cert.DownDzRefIdeal.τ).loc Cert.DownDzRefIdeal.main_arg1) = m' ((c.tc : Thread Cert.DownDzRefIdeal.nD Cert.DownDzRefIdeal.τ).loc Cert.DownDzRefIdeal.main_arg1)
          ∧ r.2.mem ((c.tc : Thread Cert.DownDzRefIdeal.nD Cert.DownDzRefIdeal.τ).loc Cert.DownDzRefIdeal.main_arg2) = m' ((c.tc : Thread Cert.DownDzRefIdeal.nD Cert.DownDzRefIdeal.τ).loc Cert.DownDzRefIdeal.main_arg2))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v6) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_UpDh_UpDhIdeal : Prop :=
  True

def algebraic_UpDhIdeal_UpDhRefIdeal [hUpDhIdeal : Cert.UpDhIdeal.Facts] [hUpDhRefIdeal : Cert.UpDhRefIdeal.Facts] : Prop :=
  ∀ (m : (ℓ : Loc Cert.UpDhIdeal.nD Cert.UpDhIdeal.τ Cert.UpDhIdeal.sig) → Buf (Elt Ideal) ℓ) (g : Dev Cert.UpDhIdeal.nD → PrngReg)
    (m' : (ℓ : Loc Cert.UpDhRefIdeal.nD Cert.UpDhRefIdeal.τ Cert.UpDhRefIdeal.sig) → Buf (Elt Ideal) ℓ) (g' : Dev Cert.UpDhRefIdeal.nD → PrngReg), Pre_UpDhIdeal m →
    (∀ c : Dev Cert.UpDhIdeal.nD,
      m' ((c.tc : Thread Cert.UpDhRefIdeal.nD Cert.UpDhRefIdeal.τ).loc Cert.UpDhRefIdeal.main_arg0) = m ((c.tc : Thread Cert.UpDhIdeal.nD Cert.UpDhIdeal.τ).loc Cert.UpDhIdeal.main_arg0)
      ∧ m' ((c.tc : Thread Cert.UpDhRefIdeal.nD Cert.UpDhRefIdeal.τ).loc Cert.UpDhRefIdeal.main_arg1) = m ((c.tc : Thread Cert.UpDhIdeal.nD Cert.UpDhIdeal.τ).loc Cert.UpDhIdeal.main_arg1)) →
    ∃ (v0 : (c : Dev Cert.UpDhIdeal.nD) → Buf (Elt Ideal) ((c.tc : Thread Cert.UpDhIdeal.nD Cert.UpDhIdeal.τ).loc Cert.UpDhIdeal.main_v0)),
      θ_run (Cert.UpDhIdeal.defs (F := Ideal)) (onTc (τ := Cert.UpDhIdeal.τ) (Cert.UpDhIdeal.main (F := Ideal))) ⟨m, fun _ => 0, g⟩ (fun r => ∀ c : Dev Cert.UpDhIdeal.nD,
          r.2.mem ((c.tc : Thread Cert.UpDhIdeal.nD Cert.UpDhIdeal.τ).loc Cert.UpDhIdeal.main_v0) = v0 c
          ∧ r.2.mem ((c.tc : Thread Cert.UpDhIdeal.nD Cert.UpDhIdeal.τ).loc Cert.UpDhIdeal.main_arg0) = m ((c.tc : Thread Cert.UpDhIdeal.nD Cert.UpDhIdeal.τ).loc Cert.UpDhIdeal.main_arg0)
          ∧ r.2.mem ((c.tc : Thread Cert.UpDhIdeal.nD Cert.UpDhIdeal.τ).loc Cert.UpDhIdeal.main_arg1) = m ((c.tc : Thread Cert.UpDhIdeal.nD Cert.UpDhIdeal.τ).loc Cert.UpDhIdeal.main_arg1))
      ∧ θ_run (Cert.UpDhRefIdeal.defs (F := Ideal)) (onTc (τ := Cert.UpDhRefIdeal.τ) (Cert.UpDhRefIdeal.main (F := Ideal))) ⟨m', fun _ => 0, g'⟩ (fun r => ∀ c : Dev Cert.UpDhRefIdeal.nD,
          r.2.mem ((c.tc : Thread Cert.UpDhRefIdeal.nD Cert.UpDhRefIdeal.τ).loc Cert.UpDhRefIdeal.main_v4) = v0 c
          ∧ r.2.mem ((c.tc : Thread Cert.UpDhRefIdeal.nD Cert.UpDhRefIdeal.τ).loc Cert.UpDhRefIdeal.main_arg0) = m' ((c.tc : Thread Cert.UpDhRefIdeal.nD Cert.UpDhRefIdeal.τ).loc Cert.UpDhRefIdeal.main_arg0)
          ∧ r.2.mem ((c.tc : Thread Cert.UpDhRefIdeal.nD Cert.UpDhRefIdeal.τ).loc Cert.UpDhRefIdeal.main_arg1) = m' ((c.tc : Thread Cert.UpDhRefIdeal.nD Cert.UpDhRefIdeal.τ).loc Cert.UpDhRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v6) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_OutDu_OutDuIdeal : Prop :=
  True

def algebraic_OutDuIdeal_OutDuRefIdeal [hOutDuIdeal : Cert.OutDuIdeal.Facts] [hOutDuRefIdeal : Cert.OutDuRefIdeal.Facts] : Prop :=
  ∀ (m : (ℓ : Loc Cert.OutDuIdeal.nD Cert.OutDuIdeal.τ Cert.OutDuIdeal.sig) → Buf (Elt Ideal) ℓ) (g : Dev Cert.OutDuIdeal.nD → PrngReg)
    (m' : (ℓ : Loc Cert.OutDuRefIdeal.nD Cert.OutDuRefIdeal.τ Cert.OutDuRefIdeal.sig) → Buf (Elt Ideal) ℓ) (g' : Dev Cert.OutDuRefIdeal.nD → PrngReg), Pre_OutDuIdeal m →
    (∀ c : Dev Cert.OutDuIdeal.nD,
      m' ((c.tc : Thread Cert.OutDuRefIdeal.nD Cert.OutDuRefIdeal.τ).loc Cert.OutDuRefIdeal.main_arg0) = m ((c.tc : Thread Cert.OutDuIdeal.nD Cert.OutDuIdeal.τ).loc Cert.OutDuIdeal.main_arg0)
      ∧ m' ((c.tc : Thread Cert.OutDuRefIdeal.nD Cert.OutDuRefIdeal.τ).loc Cert.OutDuRefIdeal.main_arg1) = m ((c.tc : Thread Cert.OutDuIdeal.nD Cert.OutDuIdeal.τ).loc Cert.OutDuIdeal.main_arg1)) →
    ∃ (v0 : (c : Dev Cert.OutDuIdeal.nD) → Buf (Elt Ideal) ((c.tc : Thread Cert.OutDuIdeal.nD Cert.OutDuIdeal.τ).loc Cert.OutDuIdeal.main_v0)),
      θ_run (Cert.OutDuIdeal.defs (F := Ideal)) (onTc (τ := Cert.OutDuIdeal.τ) (Cert.OutDuIdeal.main (F := Ideal))) ⟨m, fun _ => 0, g⟩ (fun r => ∀ c : Dev Cert.OutDuIdeal.nD,
          r.2.mem ((c.tc : Thread Cert.OutDuIdeal.nD Cert.OutDuIdeal.τ).loc Cert.OutDuIdeal.main_v0) = v0 c
          ∧ r.2.mem ((c.tc : Thread Cert.OutDuIdeal.nD Cert.OutDuIdeal.τ).loc Cert.OutDuIdeal.main_arg0) = m ((c.tc : Thread Cert.OutDuIdeal.nD Cert.OutDuIdeal.τ).loc Cert.OutDuIdeal.main_arg0)
          ∧ r.2.mem ((c.tc : Thread Cert.OutDuIdeal.nD Cert.OutDuIdeal.τ).loc Cert.OutDuIdeal.main_arg1) = m ((c.tc : Thread Cert.OutDuIdeal.nD Cert.OutDuIdeal.τ).loc Cert.OutDuIdeal.main_arg1))
      ∧ θ_run (Cert.OutDuRefIdeal.defs (F := Ideal)) (onTc (τ := Cert.OutDuRefIdeal.τ) (Cert.OutDuRefIdeal.main (F := Ideal))) ⟨m', fun _ => 0, g'⟩ (fun r => ∀ c : Dev Cert.OutDuRefIdeal.nD,
          r.2.mem ((c.tc : Thread Cert.OutDuRefIdeal.nD Cert.OutDuRefIdeal.τ).loc Cert.OutDuRefIdeal.main_v5) = v0 c
          ∧ r.2.mem ((c.tc : Thread Cert.OutDuRefIdeal.nD Cert.OutDuRefIdeal.τ).loc Cert.OutDuRefIdeal.main_arg0) = m' ((c.tc : Thread Cert.OutDuRefIdeal.nD Cert.OutDuRefIdeal.τ).loc Cert.OutDuRefIdeal.main_arg0)
          ∧ r.2.mem ((c.tc : Thread Cert.OutDuRefIdeal.nD Cert.OutDuRefIdeal.τ).loc Cert.OutDuRefIdeal.main_arg1) = m' ((c.tc : Thread Cert.OutDuRefIdeal.nD Cert.OutDuRefIdeal.τ).loc Cert.OutDuRefIdeal.main_arg1))

def preserves_QDh_QDhIdeal : Prop :=
  True

def algebraic_QDhIdeal_QDhRefIdeal [hQDhIdeal : Cert.QDhIdeal.Facts] [hQDhRefIdeal : Cert.QDhRefIdeal.Facts] : Prop :=
  ∀ (m : (ℓ : Loc Cert.QDhIdeal.nD Cert.QDhIdeal.τ Cert.QDhIdeal.sig) → Buf (Elt Ideal) ℓ) (g : Dev Cert.QDhIdeal.nD → PrngReg)
    (m' : (ℓ : Loc Cert.QDhRefIdeal.nD Cert.QDhRefIdeal.τ Cert.QDhRefIdeal.sig) → Buf (Elt Ideal) ℓ) (g' : Dev Cert.QDhRefIdeal.nD → PrngReg), Pre_QDhIdeal m →
    (∀ c : Dev Cert.QDhIdeal.nD,
      m' ((c.tc : Thread Cert.QDhRefIdeal.nD Cert.QDhRefIdeal.τ).loc Cert.QDhRefIdeal.main_arg0) = m ((c.tc : Thread Cert.QDhIdeal.nD Cert.QDhIdeal.τ).loc Cert.QDhIdeal.main_arg0)
      ∧ m' ((c.tc : Thread Cert.QDhRefIdeal.nD Cert.QDhRefIdeal.τ).loc Cert.QDhRefIdeal.main_arg1) = m ((c.tc : Thread Cert.QDhIdeal.nD Cert.QDhIdeal.τ).loc Cert.QDhIdeal.main_arg1)) →
    ∃ (v0 : (c : Dev Cert.QDhIdeal.nD) → Buf (Elt Ideal) ((c.tc : Thread Cert.QDhIdeal.nD Cert.QDhIdeal.τ).loc Cert.QDhIdeal.main_v0)),
      θ_run (Cert.QDhIdeal.defs (F := Ideal)) (onTc (τ := Cert.QDhIdeal.τ) (Cert.QDhIdeal.main (F := Ideal))) ⟨m, fun _ => 0, g⟩ (fun r => ∀ c : Dev Cert.QDhIdeal.nD,
          r.2.mem ((c.tc : Thread Cert.QDhIdeal.nD Cert.QDhIdeal.τ).loc Cert.QDhIdeal.main_v0) = v0 c
          ∧ r.2.mem ((c.tc : Thread Cert.QDhIdeal.nD Cert.QDhIdeal.τ).loc Cert.QDhIdeal.main_arg0) = m ((c.tc : Thread Cert.QDhIdeal.nD Cert.QDhIdeal.τ).loc Cert.QDhIdeal.main_arg0)
          ∧ r.2.mem ((c.tc : Thread Cert.QDhIdeal.nD Cert.QDhIdeal.τ).loc Cert.QDhIdeal.main_arg1) = m ((c.tc : Thread Cert.QDhIdeal.nD Cert.QDhIdeal.τ).loc Cert.QDhIdeal.main_arg1))
      ∧ θ_run (Cert.QDhRefIdeal.defs (F := Ideal)) (onTc (τ := Cert.QDhRefIdeal.τ) (Cert.QDhRefIdeal.main (F := Ideal))) ⟨m', fun _ => 0, g'⟩ (fun r => ∀ c : Dev Cert.QDhRefIdeal.nD,
          r.2.mem ((c.tc : Thread Cert.QDhRefIdeal.nD Cert.QDhRefIdeal.τ).loc Cert.QDhRefIdeal.main_v4) = v0 c
          ∧ r.2.mem ((c.tc : Thread Cert.QDhRefIdeal.nD Cert.QDhRefIdeal.τ).loc Cert.QDhRefIdeal.main_arg0) = m' ((c.tc : Thread Cert.QDhRefIdeal.nD Cert.QDhRefIdeal.τ).loc Cert.QDhRefIdeal.main_arg0)
          ∧ r.2.mem ((c.tc : Thread Cert.QDhRefIdeal.nD Cert.QDhRefIdeal.τ).loc Cert.QDhRefIdeal.main_arg1) = m' ((c.tc : Thread Cert.QDhRefIdeal.nD Cert.QDhRefIdeal.τ).loc Cert.QDhRefIdeal.main_arg1))

def preserves_KvDw_KvDwIdeal : Prop :=
  True

def algebraic_KvDwIdeal_KvDwRefIdeal [hKvDwIdeal : Cert.KvDwIdeal.Facts] [hKvDwRefIdeal : Cert.KvDwRefIdeal.Facts] : Prop :=
  ∀ (m : (ℓ : Loc Cert.KvDwIdeal.nD Cert.KvDwIdeal.τ Cert.KvDwIdeal.sig) → Buf (Elt Ideal) ℓ) (g : Dev Cert.KvDwIdeal.nD → PrngReg)
    (m' : (ℓ : Loc Cert.KvDwRefIdeal.nD Cert.KvDwRefIdeal.τ Cert.KvDwRefIdeal.sig) → Buf (Elt Ideal) ℓ) (g' : Dev Cert.KvDwRefIdeal.nD → PrngReg), Pre_KvDwIdeal m →
    (∀ c : Dev Cert.KvDwIdeal.nD,
      m' ((c.tc : Thread Cert.KvDwRefIdeal.nD Cert.KvDwRefIdeal.τ).loc Cert.KvDwRefIdeal.main_arg0) = m ((c.tc : Thread Cert.KvDwIdeal.nD Cert.KvDwIdeal.τ).loc Cert.KvDwIdeal.main_arg0)
      ∧ m' ((c.tc : Thread Cert.KvDwRefIdeal.nD Cert.KvDwRefIdeal.τ).loc Cert.KvDwRefIdeal.main_arg1) = m ((c.tc : Thread Cert.KvDwIdeal.nD Cert.KvDwIdeal.τ).loc Cert.KvDwIdeal.main_arg1)) →
    ∃ (v0 : (c : Dev Cert.KvDwIdeal.nD) → Buf (Elt Ideal) ((c.tc : Thread Cert.KvDwIdeal.nD Cert.KvDwIdeal.τ).loc Cert.KvDwIdeal.main_v0)),
      θ_run (Cert.KvDwIdeal.defs (F := Ideal)) (onTc (τ := Cert.KvDwIdeal.τ) (Cert.KvDwIdeal.main (F := Ideal))) ⟨m, fun _ => 0, g⟩ (fun r => ∀ c : Dev Cert.KvDwIdeal.nD,
          r.2.mem ((c.tc : Thread Cert.KvDwIdeal.nD Cert.KvDwIdeal.τ).loc Cert.KvDwIdeal.main_v0) = v0 c
          ∧ r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
          ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1))
      ∧ θ_run (Cert.KvDwRefIdeal.defs (F := Ideal)) (onTc (τ := Cert.KvDwRefIdeal.τ) (Cert.KvDwRefIdeal.main (F := Ideal))) ⟨m', fun _ => 0, g'⟩ (fun r => ∀ c : Dev Cert.KvDwRefIdeal.nD,
          r.2.mem ((c.tc : Thread Cert.KvDwRefIdeal.nD Cert.KvDwRefIdeal.τ).loc Cert.KvDwRefIdeal.main_v6) = v0 c
          ∧ r.2.mem ((c.tc : Thread Cert.KvDwRefIdeal.nD Cert.KvDwRefIdeal.τ).loc Cert.KvDwRefIdeal.main_arg0) = m' ((c.tc : Thread Cert.KvDwRefIdeal.nD Cert.KvDwRefIdeal.τ).loc Cert.KvDwRefIdeal.main_arg0)
          ∧ r.2.mem ((c.tc : Thread Cert.KvDwRefIdeal.nD Cert.KvDwRefIdeal.τ).loc Cert.KvDwRefIdeal.main_arg1) = m' ((c.tc : Thread Cert.KvDwRefIdeal.nD Cert.KvDwRefIdeal.τ).loc Cert.KvDwRefIdeal.main_arg1))

def preserves_KvDh_KvDhIdeal : Prop :=
  True

def algebraic_KvDhIdeal_KvDhRefIdeal [hKvDhIdeal : Cert.KvDhIdeal.Facts] [hKvDhRefIdeal : Cert.KvDhRefIdeal.Facts] : Prop :=
  ∀ (m : (ℓ : Loc Cert.KvDhIdeal.nD Cert.KvDhIdeal.τ Cert.KvDhIdeal.sig) → Buf (Elt Ideal) ℓ) (g : Dev Cert.KvDhIdeal.nD → PrngReg)
    (m' : (ℓ : Loc Cert.KvDhRefIdeal.nD Cert.KvDhRefIdeal.τ Cert.KvDhRefIdeal.sig) → Buf (Elt Ideal) ℓ) (g' : Dev Cert.KvDhRefIdeal.nD → PrngReg), Pre_KvDhIdeal m →
    (∀ c : Dev Cert.KvDhIdeal.nD,
      m' ((c.tc : Thread Cert.KvDhRefIdeal.nD Cert.KvDhRefIdeal.τ).loc Cert.KvDhRefIdeal.main_arg0) = m ((c.tc : Thread Cert.KvDhIdeal.nD Cert.KvDhIdeal.τ).loc Cert.KvDhIdeal.main_arg0)
      ∧ m' ((c.tc : Thread Cert.KvDhRefIdeal.nD Cert.KvDhRefIdeal.τ).loc Cert.KvDhRefIdeal.main_arg1) = m ((c.tc : Thread Cert.KvDhIdeal.nD Cert.KvDhIdeal.τ).loc Cert.KvDhIdeal.main_arg1)) →
    ∃ (v0 : (c : Dev Cert.KvDhIdeal.nD) → Buf (Elt Ideal) ((c.tc : Thread Cert.KvDhIdeal.nD Cert.KvDhIdeal.τ).loc Cert.KvDhIdeal.main_v0)),
      θ_run (Cert.KvDhIdeal.defs (F := Ideal)) (onTc (τ := Cert.KvDhIdeal.τ) (Cert.KvDhIdeal.main (F := Ideal))) ⟨m, fun _ => 0, g⟩ (fun r => ∀ c : Dev Cert.KvDhIdeal.nD,
          r.2.mem ((c.tc : Thread Cert.KvDhIdeal.nD Cert.KvDhIdeal.τ).loc Cert.KvDhIdeal.main_v0) = v0 c
          ∧ r.2.mem ((c.tc : Thread Cert.KvDhIdeal.nD Cert.KvDhIdeal.τ).loc Cert.KvDhIdeal.main_arg0) = m ((c.tc : Thread Cert.KvDhIdeal.nD Cert.KvDhIdeal.τ).loc Cert.KvDhIdeal.main_arg0)
          ∧ r.2.mem ((c.tc : Thread Cert.KvDhIdeal.nD Cert.KvDhIdeal.τ).loc Cert.KvDhIdeal.main_arg1) = m ((c.tc : Thread Cert.KvDhIdeal.nD Cert.KvDhIdeal.τ).loc Cert.KvDhIdeal.main_arg1))
      ∧ θ_run (Cert.KvDhRefIdeal.defs (F := Ideal)) (onTc (τ := Cert.KvDhRefIdeal.τ) (Cert.KvDhRefIdeal.main (F := Ideal))) ⟨m', fun _ => 0, g'⟩ (fun r => ∀ c : Dev Cert.KvDhRefIdeal.nD,
          r.2.mem ((c.tc : Thread Cert.KvDhRefIdeal.nD Cert.KvDhRefIdeal.τ).loc Cert.KvDhRefIdeal.main_v4) = v0 c
          ∧ r.2.mem ((c.tc : Thread Cert.KvDhRefIdeal.nD Cert.KvDhRefIdeal.τ).loc Cert.KvDhRefIdeal.main_arg0) = m' ((c.tc : Thread Cert.KvDhRefIdeal.nD Cert.KvDhRefIdeal.τ).loc Cert.KvDhRefIdeal.main_arg0)
          ∧ r.2.mem ((c.tc : Thread Cert.KvDhRefIdeal.nD Cert.KvDhRefIdeal.τ).loc Cert.KvDhRefIdeal.main_arg1) = m' ((c.tc : Thread Cert.KvDhRefIdeal.nD Cert.KvDhRefIdeal.τ).loc Cert.KvDhRefIdeal.main_arg1))

def preserves_MlpUp_MlpUpIdeal : Prop :=
  True

def algebraic_MlpUpIdeal_MlpUpRefIdeal [hMlpUpIdeal : Cert.MlpUpIdeal.Facts] [hMlpUpRefIdeal : Cert.MlpUpRefIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg)
    (m' : (ℓ : Loc Cert.MlpUpRefIdeal.nD Cert.MlpUpRefIdeal.τ Cert.MlpUpRefIdeal.sig) → Buf (Elt Ideal) ℓ) (g' : Dev Cert.MlpUpRefIdeal.nD → PrngReg), Pre_MlpUpIdeal m →
    (∀ c : Dev Cert.MlpUpIdeal.nD,
      m' ((c.tc : Thread Cert.MlpUpRefIdeal.nD Cert.MlpUpRefIdeal.τ).loc Cert.MlpUpRefIdeal.main_arg0) = m ((c.tc : Thread Cert.MlpUpIdeal.nD Cert.MlpUpIdeal.τ).loc Cert.MlpUpIdeal.main_arg0)
      ∧ m' ((c.tc : Thread Cert.MlpUpRefIdeal.nD Cert.MlpUpRefIdeal.τ).loc Cert.MlpUpRefIdeal.main_arg1) = m ((c.tc : Thread Cert.MlpUpIdeal.nD Cert.MlpUpIdeal.τ).loc Cert.MlpUpIdeal.main_arg1)) →
    ∃ (v0 : (c : Dev Cert.MlpUpIdeal.nD) → Buf (Elt Ideal) ((c.tc : Thread Cert.MlpUpIdeal.nD Cert.MlpUpIdeal.τ).loc Cert.MlpUpIdeal.main_v0_0)) (v1 : (c : Dev Cert.MlpUpIdeal.nD) → Buf (Elt Ideal) ((c.tc : Thread Cert.MlpUpIdeal.nD Cert.MlpUpIdeal.τ).loc Cert.MlpUpIdeal.main_v0_1)),
      θ_run (Cert.MlpUpIdeal.defs (F := Ideal)) (onTc (τ := Cert.MlpUpIdeal.τ) (Cert.MlpUpIdeal.main (F := Ideal))) ⟨m, fun _ => 0, g⟩ (fun r => ∀ c : Dev Cert.MlpUpIdeal.nD,
          r.2.mem ((c.tc : Thread Cert.MlpUpIdeal.nD Cert.MlpUpIdeal.τ).loc Cert.MlpUpIdeal.main_v0_0) = v0 c
          ∧ r.2.mem ((c.tc : Thread Cert.MlpUpIdeal.nD Cert.MlpUpIdeal.τ).loc Cert.MlpUpIdeal.main_v0_1) = v1 c
          ∧ r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
          ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ θ_run (Cert.MlpUpRefIdeal.defs (F := Ideal)) (onTc (τ := Cert.MlpUpRefIdeal.τ) (Cert.MlpUpRefIdeal.main (F := Ideal))) ⟨m', fun _ => 0, g'⟩ (fun r => ∀ c : Dev Cert.MlpUpRefIdeal.nD,
          r.2.mem ((c.tc : Thread Cert.MlpUpRefIdeal.nD Cert.MlpUpRefIdeal.τ).loc Cert.MlpUpRefIdeal.main_v5) = v0 c
          ∧ r.2.mem ((c.tc : Thread Cert.MlpUpRefIdeal.nD Cert.MlpUpRefIdeal.τ).loc Cert.MlpUpRefIdeal.main_v6) = v1 c
          ∧ r.2.mem ((c.tc : Thread Cert.MlpUpRefIdeal.nD Cert.MlpUpRefIdeal.τ).loc Cert.MlpUpRefIdeal.main_arg0) = m' ((c.tc : Thread Cert.MlpUpRefIdeal.nD Cert.MlpUpRefIdeal.τ).loc Cert.MlpUpRefIdeal.main_arg0)
          ∧ r.2.mem ((c.tc : Thread Cert.MlpUpRefIdeal.nD Cert.MlpUpRefIdeal.τ).loc Cert.MlpUpRefIdeal.main_arg1) = m' ((c.tc : Thread Cert.MlpUpRefIdeal.nD Cert.MlpUpRefIdeal.τ).loc Cert.MlpUpRefIdeal.main_arg1))

def preserves_MlpDown_MlpDownIdeal : Prop :=
  True

def algebraic_MlpDownIdeal_MlpDownRefIdeal [hMlpDownIdeal : Cert.MlpDownIdeal.Facts] [hMlpDownRefIdeal : Cert.MlpDownRefIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg)
    (m' : (ℓ : Loc Cert.MlpDownRefIdeal.nD Cert.MlpDownRefIdeal.τ Cert.MlpDownRefIdeal.sig) → Buf (Elt Ideal) ℓ) (g' : Dev Cert.MlpDownRefIdeal.nD → PrngReg), Pre_MlpDownIdeal m →
    (∀ c : Dev Cert.MlpDownIdeal.nD,
      m' ((c.tc : Thread Cert.MlpDownRefIdeal.nD Cert.MlpDownRefIdeal.τ).loc Cert.MlpDownRefIdeal.main_arg0) = m ((c.tc : Thread Cert.MlpDownIdeal.nD Cert.MlpDownIdeal.τ).loc Cert.MlpDownIdeal.main_arg0)
      ∧ m' ((c.tc : Thread Cert.MlpDownRefIdeal.nD Cert.MlpDownRefIdeal.τ).loc Cert.MlpDownRefIdeal.main_arg1) = m ((c.tc : Thread Cert.MlpDownIdeal.nD Cert.MlpDownIdeal.τ).loc Cert.MlpDownIdeal.main_arg1)
      ∧ m' ((c.tc : Thread Cert.MlpDownRefIdeal.nD Cert.MlpDownRefIdeal.τ).loc Cert.MlpDownRefIdeal.main_arg2) = m ((c.tc : Thread Cert.MlpDownIdeal.nD Cert.MlpDownIdeal.τ).loc Cert.MlpDownIdeal.main_arg2)
      ∧ m' ((c.tc : Thread Cert.MlpDownRefIdeal.nD Cert.MlpDownRefIdeal.τ).loc Cert.MlpDownRefIdeal.main_arg3) = m ((c.tc : Thread Cert.MlpDownIdeal.nD Cert.MlpDownIdeal.τ).loc Cert.MlpDownIdeal.main_arg3)) →
    ∃ (v0 : (c : Dev Cert.MlpDownIdeal.nD) → Buf (Elt Ideal) ((c.tc : Thread Cert.MlpDownIdeal.nD Cert.MlpDownIdeal.τ).loc Cert.MlpDownIdeal.main_v0_0)) (v1 : (c : Dev Cert.MlpDownIdeal.nD) → Buf (Elt Ideal) ((c.tc : Thread Cert.MlpDownIdeal.nD Cert.MlpDownIdeal.τ).loc Cert.MlpDownIdeal.main_v0_1)),
      θ_run (Cert.MlpDownIdeal.defs (F := Ideal)) (onTc (τ := Cert.MlpDownIdeal.τ) (Cert.MlpDownIdeal.main (F := Ideal))) ⟨m, fun _ => 0, g⟩ (fun r => ∀ c : Dev Cert.MlpDownIdeal.nD,
          r.2.mem ((c.tc : Thread Cert.MlpDownIdeal.nD Cert.MlpDownIdeal.τ).loc Cert.MlpDownIdeal.main_v0_0) = v0 c
          ∧ r.2.mem ((c.tc : Thread Cert.MlpDownIdeal.nD Cert.MlpDownIdeal.τ).loc Cert.MlpDownIdeal.main_v0_1) = v1 c
          ∧ r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
          ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
          ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2)
          ∧ r.2.mem ((c.tc : Thread Cert.MlpDownIdeal.nD Cert.MlpDownIdeal.τ).loc Cert.MlpDownIdeal.main_arg3) = m ((c.tc : Thread Cert.MlpDownIdeal.nD Cert.MlpDownIdeal.τ).loc Cert.MlpDownIdeal.main_arg3))
      ∧ θ_run (Cert.MlpDownRefIdeal.defs (F := Ideal)) (onTc (τ := Cert.MlpDownRefIdeal.τ) (Cert.MlpDownRefIdeal.main (F := Ideal))) ⟨m', fun _ => 0, g'⟩ (fun r => ∀ c : Dev Cert.MlpDownRefIdeal.nD,
          r.2.mem ((c.tc : Thread Cert.MlpDownRefIdeal.nD Cert.MlpDownRefIdeal.τ).loc Cert.MlpDownRefIdeal.main_v5) = v0 c
          ∧ r.2.mem ((c.tc : Thread Cert.MlpDownRefIdeal.nD Cert.MlpDownRefIdeal.τ).loc Cert.MlpDownRefIdeal.main_v6) = v1 c
          ∧ r.2.mem ((c.tc : Thread Cert.MlpDownRefIdeal.nD Cert.MlpDownRefIdeal.τ).loc Cert.MlpDownRefIdeal.main_arg0) = m' ((c.tc : Thread Cert.MlpDownRefIdeal.nD Cert.MlpDownRefIdeal.τ).loc Cert.MlpDownRefIdeal.main_arg0)
          ∧ r.2.mem ((c.tc : Thread Cert.MlpDownRefIdeal.nD Cert.MlpDownRefIdeal.τ).loc Cert.MlpDownRefIdeal.main_arg1) = m' ((c.tc : Thread Cert.MlpDownRefIdeal.nD Cert.MlpDownRefIdeal.τ).loc Cert.MlpDownRefIdeal.main_arg1)
          ∧ r.2.mem ((c.tc : Thread Cert.MlpDownRefIdeal.nD Cert.MlpDownRefIdeal.τ).loc Cert.MlpDownRefIdeal.main_arg2) = m' ((c.tc : Thread Cert.MlpDownRefIdeal.nD Cert.MlpDownRefIdeal.τ).loc Cert.MlpDownRefIdeal.main_arg2)
          ∧ r.2.mem ((c.tc : Thread Cert.MlpDownRefIdeal.nD Cert.MlpDownRefIdeal.τ).loc Cert.MlpDownRefIdeal.main_arg3) = m' ((c.tc : Thread Cert.MlpDownRefIdeal.nD Cert.MlpDownRefIdeal.τ).loc Cert.MlpDownRefIdeal.main_arg3))

def preserves_AIn_AInIdeal : Prop :=
  True

def algebraic_AInIdeal_AInRefIdeal [hAInIdeal : Cert.AInIdeal.Facts] [hAInRefIdeal : Cert.AInRefIdeal.Facts] : Prop :=
  ∀ (m : (ℓ : Loc Cert.AInIdeal.nD Cert.AInIdeal.τ Cert.AInIdeal.sig) → Buf (Elt Ideal) ℓ) (g : Dev Cert.AInIdeal.nD → PrngReg)
    (m' : (ℓ : Loc Cert.AInRefIdeal.nD Cert.AInRefIdeal.τ Cert.AInRefIdeal.sig) → Buf (Elt Ideal) ℓ) (g' : Dev Cert.AInRefIdeal.nD → PrngReg), Pre_AInIdeal m →
    (∀ c : Dev Cert.AInIdeal.nD,
      m' ((c.tc : Thread Cert.AInRefIdeal.nD Cert.AInRefIdeal.τ).loc Cert.AInRefIdeal.main_arg0) = m ((c.tc : Thread Cert.AInIdeal.nD Cert.AInIdeal.τ).loc Cert.AInIdeal.main_arg0)
      ∧ m' ((c.tc : Thread Cert.AInRefIdeal.nD Cert.AInRefIdeal.τ).loc Cert.AInRefIdeal.main_arg1) = m ((c.tc : Thread Cert.AInIdeal.nD Cert.AInIdeal.τ).loc Cert.AInIdeal.main_arg1)) →
    ∃ (v0 : (c : Dev Cert.AInIdeal.nD) → Buf (Elt Ideal) ((c.tc : Thread Cert.AInIdeal.nD Cert.AInIdeal.τ).loc Cert.AInIdeal.main_v0)),
      θ_run (Cert.AInIdeal.defs (F := Ideal)) (onTc (τ := Cert.AInIdeal.τ) (Cert.AInIdeal.main (F := Ideal))) ⟨m, fun _ => 0, g⟩ (fun r => ∀ c : Dev Cert.AInIdeal.nD,
          r.2.mem ((c.tc : Thread Cert.AInIdeal.nD Cert.AInIdeal.τ).loc Cert.AInIdeal.main_v0) = v0 c
          ∧ r.2.mem ((c.tc : Thread Cert.AInIdeal.nD Cert.AInIdeal.τ).loc Cert.AInIdeal.main_arg0) = m ((c.tc : Thread Cert.AInIdeal.nD Cert.AInIdeal.τ).loc Cert.AInIdeal.main_arg0)
          ∧ r.2.mem ((c.tc : Thread Cert.AInIdeal.nD Cert.AInIdeal.τ).loc Cert.AInIdeal.main_arg1) = m ((c.tc : Thread Cert.AInIdeal.nD Cert.AInIdeal.τ).loc Cert.AInIdeal.main_arg1))
      ∧ θ_run (Cert.AInRefIdeal.defs (F := Ideal)) (onTc (τ := Cert.AInRefIdeal.τ) (Cert.AInRefIdeal.main (F := Ideal))) ⟨m', fun _ => 0, g'⟩ (fun r => ∀ c : Dev Cert.AInRefIdeal.nD,
          r.2.mem ((c.tc : Thread Cert.AInRefIdeal.nD Cert.AInRefIdeal.τ).loc Cert.AInRefIdeal.main_v2) = v0 c
          ∧ r.2.mem ((c.tc : Thread Cert.AInRefIdeal.nD Cert.AInRefIdeal.τ).loc Cert.AInRefIdeal.main_arg0) = m' ((c.tc : Thread Cert.AInRefIdeal.nD Cert.AInRefIdeal.τ).loc Cert.AInRefIdeal.main_arg0)
          ∧ r.2.mem ((c.tc : Thread Cert.AInRefIdeal.nD Cert.AInRefIdeal.τ).loc Cert.AInRefIdeal.main_arg1) = m' ((c.tc : Thread Cert.AInRefIdeal.nD Cert.AInRefIdeal.τ).loc Cert.AInRefIdeal.main_arg1))

def preserves_QMm_QMmIdeal : Prop :=
  True

def algebraic_QMmIdeal_QMmRefIdeal [hQMmIdeal : Cert.QMmIdeal.Facts] [hQMmRefIdeal : Cert.QMmRefIdeal.Facts] : Prop :=
  ∀ (m : (ℓ : Loc Cert.QMmIdeal.nD Cert.QMmIdeal.τ Cert.QMmIdeal.sig) → Buf (Elt Ideal) ℓ) (g : Dev Cert.QMmIdeal.nD → PrngReg)
    (m' : (ℓ : Loc Cert.QMmRefIdeal.nD Cert.QMmRefIdeal.τ Cert.QMmRefIdeal.sig) → Buf (Elt Ideal) ℓ) (g' : Dev Cert.QMmRefIdeal.nD → PrngReg), Pre_QMmIdeal m →
    (∀ c : Dev Cert.QMmIdeal.nD,
      m' ((c.tc : Thread Cert.QMmRefIdeal.nD Cert.QMmRefIdeal.τ).loc Cert.QMmRefIdeal.main_arg0) = m ((c.tc : Thread Cert.QMmIdeal.nD Cert.QMmIdeal.τ).loc Cert.QMmIdeal.main_arg0)
      ∧ m' ((c.tc : Thread Cert.QMmRefIdeal.nD Cert.QMmRefIdeal.τ).loc Cert.QMmRefIdeal.main_arg1) = m ((c.tc : Thread Cert.QMmIdeal.nD Cert.QMmIdeal.τ).loc Cert.QMmIdeal.main_arg1)) →
    ∃ (v0 : (c : Dev Cert.QMmIdeal.nD) → Buf (Elt Ideal) ((c.tc : Thread Cert.QMmIdeal.nD Cert.QMmIdeal.τ).loc Cert.QMmIdeal.main_v0)),
      θ_run (Cert.QMmIdeal.defs (F := Ideal)) (onTc (τ := Cert.QMmIdeal.τ) (Cert.QMmIdeal.main (F := Ideal))) ⟨m, fun _ => 0, g⟩ (fun r => ∀ c : Dev Cert.QMmIdeal.nD,
          r.2.mem ((c.tc : Thread Cert.QMmIdeal.nD Cert.QMmIdeal.τ).loc Cert.QMmIdeal.main_v0) = v0 c
          ∧ r.2.mem ((c.tc : Thread Cert.QMmIdeal.nD Cert.QMmIdeal.τ).loc Cert.QMmIdeal.main_arg0) = m ((c.tc : Thread Cert.QMmIdeal.nD Cert.QMmIdeal.τ).loc Cert.QMmIdeal.main_arg0)
          ∧ r.2.mem ((c.tc : Thread Cert.QMmIdeal.nD Cert.QMmIdeal.τ).loc Cert.QMmIdeal.main_arg1) = m ((c.tc : Thread Cert.QMmIdeal.nD Cert.QMmIdeal.τ).loc Cert.QMmIdeal.main_arg1))
      ∧ θ_run (Cert.QMmRefIdeal.defs (F := Ideal)) (onTc (τ := Cert.QMmRefIdeal.τ) (Cert.QMmRefIdeal.main (F := Ideal))) ⟨m', fun _ => 0, g'⟩ (fun r => ∀ c : Dev Cert.QMmRefIdeal.nD,
          r.2.mem ((c.tc : Thread Cert.QMmRefIdeal.nD Cert.QMmRefIdeal.τ).loc Cert.QMmRefIdeal.main_v3) = v0 c
          ∧ r.2.mem ((c.tc : Thread Cert.QMmRefIdeal.nD Cert.QMmRefIdeal.τ).loc Cert.QMmRefIdeal.main_arg0) = m' ((c.tc : Thread Cert.QMmRefIdeal.nD Cert.QMmRefIdeal.τ).loc Cert.QMmRefIdeal.main_arg0)
          ∧ r.2.mem ((c.tc : Thread Cert.QMmRefIdeal.nD Cert.QMmRefIdeal.τ).loc Cert.QMmRefIdeal.main_arg1) = m' ((c.tc : Thread Cert.QMmRefIdeal.nD Cert.QMmRefIdeal.τ).loc Cert.QMmRefIdeal.main_arg1))

def preserves_KvMm_KvMmIdeal : Prop :=
  True

def algebraic_KvMmIdeal_KvMmRefIdeal [hKvMmIdeal : Cert.KvMmIdeal.Facts] [hKvMmRefIdeal : Cert.KvMmRefIdeal.Facts] : Prop :=
  ∀ (m : (ℓ : Loc Cert.KvMmIdeal.nD Cert.KvMmIdeal.τ Cert.KvMmIdeal.sig) → Buf (Elt Ideal) ℓ) (g : Dev Cert.KvMmIdeal.nD → PrngReg)
    (m' : (ℓ : Loc Cert.KvMmRefIdeal.nD Cert.KvMmRefIdeal.τ Cert.KvMmRefIdeal.sig) → Buf (Elt Ideal) ℓ) (g' : Dev Cert.KvMmRefIdeal.nD → PrngReg), Pre_KvMmIdeal m →
    (∀ c : Dev Cert.KvMmIdeal.nD,
      m' ((c.tc : Thread Cert.KvMmRefIdeal.nD Cert.KvMmRefIdeal.τ).loc Cert.KvMmRefIdeal.main_arg0) = m ((c.tc : Thread Cert.KvMmIdeal.nD Cert.KvMmIdeal.τ).loc Cert.KvMmIdeal.main_arg0)
      ∧ m' ((c.tc : Thread Cert.KvMmRefIdeal.nD Cert.KvMmRefIdeal.τ).loc Cert.KvMmRefIdeal.main_arg1) = m ((c.tc : Thread Cert.KvMmIdeal.nD Cert.KvMmIdeal.τ).loc Cert.KvMmIdeal.main_arg1)) →
    ∃ (v0 : (c : Dev Cert.KvMmIdeal.nD) → Buf (Elt Ideal) ((c.tc : Thread Cert.KvMmIdeal.nD Cert.KvMmIdeal.τ).loc Cert.KvMmIdeal.main_v0)),
      θ_run (Cert.KvMmIdeal.defs (F := Ideal)) (onTc (τ := Cert.KvMmIdeal.τ) (Cert.KvMmIdeal.main (F := Ideal))) ⟨m, fun _ => 0, g⟩ (fun r => ∀ c : Dev Cert.KvMmIdeal.nD,
          r.2.mem ((c.tc : Thread Cert.KvMmIdeal.nD Cert.KvMmIdeal.τ).loc Cert.KvMmIdeal.main_v0) = v0 c
          ∧ r.2.mem ((c.tc : Thread Cert.KvMmIdeal.nD Cert.KvMmIdeal.τ).loc Cert.KvMmIdeal.main_arg0) = m ((c.tc : Thread Cert.KvMmIdeal.nD Cert.KvMmIdeal.τ).loc Cert.KvMmIdeal.main_arg0)
          ∧ r.2.mem ((c.tc : Thread Cert.KvMmIdeal.nD Cert.KvMmIdeal.τ).loc Cert.KvMmIdeal.main_arg1) = m ((c.tc : Thread Cert.KvMmIdeal.nD Cert.KvMmIdeal.τ).loc Cert.KvMmIdeal.main_arg1))
      ∧ θ_run (Cert.KvMmRefIdeal.defs (F := Ideal)) (onTc (τ := Cert.KvMmRefIdeal.τ) (Cert.KvMmRefIdeal.main (F := Ideal))) ⟨m', fun _ => 0, g'⟩ (fun r => ∀ c : Dev Cert.KvMmRefIdeal.nD,
          r.2.mem ((c.tc : Thread Cert.KvMmRefIdeal.nD Cert.KvMmRefIdeal.τ).loc Cert.KvMmRefIdeal.main_v3) = v0 c
          ∧ r.2.mem ((c.tc : Thread Cert.KvMmRefIdeal.nD Cert.KvMmRefIdeal.τ).loc Cert.KvMmRefIdeal.main_arg0) = m' ((c.tc : Thread Cert.KvMmRefIdeal.nD Cert.KvMmRefIdeal.τ).loc Cert.KvMmRefIdeal.main_arg0)
          ∧ r.2.mem ((c.tc : Thread Cert.KvMmRefIdeal.nD Cert.KvMmRefIdeal.τ).loc Cert.KvMmRefIdeal.main_arg1) = m' ((c.tc : Thread Cert.KvMmRefIdeal.nD Cert.KvMmRefIdeal.τ).loc Cert.KvMmRefIdeal.main_arg1))

def Claim : Prop :=
  ∃ (hKernel : Cert.Kernel.Facts) (hKernelIdeal : Cert.KernelIdeal.Facts) (hReferenceIdeal : Cert.ReferenceIdeal.Facts) (hDownDw : Cert.DownDw.Facts) (hDownDwIdeal : Cert.DownDwIdeal.Facts) (hDownDwRefIdeal : Cert.DownDwRefIdeal.Facts) (hDownDz : Cert.DownDz.Facts) (hDownDzIdeal : Cert.DownDzIdeal.Facts) (hDownDzRefIdeal : Cert.DownDzRefIdeal.Facts) (hUpDw : Cert.UpDw.Facts) (hUpDwIdeal : Cert.UpDwIdeal.Facts) (hUpDwRefIdeal : Cert.UpDwRefIdeal.Facts) (hUpDh : Cert.UpDh.Facts) (hUpDhIdeal : Cert.UpDhIdeal.Facts) (hUpDhRefIdeal : Cert.UpDhRefIdeal.Facts) (hOutDw : Cert.OutDw.Facts) (hOutDwIdeal : Cert.OutDwIdeal.Facts) (hOutDwRefIdeal : Cert.OutDwRefIdeal.Facts) (hOutDu : Cert.OutDu.Facts) (hOutDuIdeal : Cert.OutDuIdeal.Facts) (hOutDuRefIdeal : Cert.OutDuRefIdeal.Facts) (hQDh : Cert.QDh.Facts) (hQDhIdeal : Cert.QDhIdeal.Facts) (hQDhRefIdeal : Cert.QDhRefIdeal.Facts) (hKvDw : Cert.KvDw.Facts) (hKvDwIdeal : Cert.KvDwIdeal.Facts) (hKvDwRefIdeal : Cert.KvDwRefIdeal.Facts) (hKvDh : Cert.KvDh.Facts) (hKvDhIdeal : Cert.KvDhIdeal.Facts) (hKvDhRefIdeal : Cert.KvDhRefIdeal.Facts) (hMlpUp : Cert.MlpUp.Facts) (hMlpUpIdeal : Cert.MlpUpIdeal.Facts) (hMlpUpRefIdeal : Cert.MlpUpRefIdeal.Facts) (hMlpDown : Cert.MlpDown.Facts) (hMlpDownIdeal : Cert.MlpDownIdeal.Facts) (hMlpDownRefIdeal : Cert.MlpDownRefIdeal.Facts) (hAIn : Cert.AIn.Facts) (hAInIdeal : Cert.AInIdeal.Facts) (hAInRefIdeal : Cert.AInRefIdeal.Facts) (hQMm : Cert.QMm.Facts) (hQMmIdeal : Cert.QMmIdeal.Facts) (hQMmRefIdeal : Cert.QMmRefIdeal.Facts) (hKvMm : Cert.KvMm.Facts) (hKvMmIdeal : Cert.KvMmIdeal.Facts) (hKvMmRefIdeal : Cert.KvMmRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_DownDz (hDownDz := hDownDz)
    ∧ quiescent_DownDzIdeal (hDownDzIdeal := hDownDzIdeal)
    ∧ quiescent_DownDzRefIdeal (hDownDzRefIdeal := hDownDzRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_UpDh (hUpDh := hUpDh)
    ∧ quiescent_UpDhIdeal (hUpDhIdeal := hUpDhIdeal)
    ∧ quiescent_UpDhRefIdeal (hUpDhRefIdeal := hUpDhRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_OutDu (hOutDu := hOutDu)
    ∧ quiescent_OutDuIdeal (hOutDuIdeal := hOutDuIdeal)
    ∧ quiescent_OutDuRefIdeal (hOutDuRefIdeal := hOutDuRefIdeal)
    ∧ quiescent_QDh (hQDh := hQDh)
    ∧ quiescent_QDhIdeal (hQDhIdeal := hQDhIdeal)
    ∧ quiescent_QDhRefIdeal (hQDhRefIdeal := hQDhRefIdeal)
    ∧ quiescent_KvDw (hKvDw := hKvDw)
    ∧ quiescent_KvDwIdeal (hKvDwIdeal := hKvDwIdeal)
    ∧ quiescent_KvDwRefIdeal (hKvDwRefIdeal := hKvDwRefIdeal)
    ∧ quiescent_KvDh (hKvDh := hKvDh)
    ∧ quiescent_KvDhIdeal (hKvDhIdeal := hKvDhIdeal)
    ∧ quiescent_KvDhRefIdeal (hKvDhRefIdeal := hKvDhRefIdeal)
    ∧ quiescent_MlpUp (hMlpUp := hMlpUp)
    ∧ quiescent_MlpUpIdeal (hMlpUpIdeal := hMlpUpIdeal)
    ∧ quiescent_MlpUpRefIdeal (hMlpUpRefIdeal := hMlpUpRefIdeal)
    ∧ quiescent_MlpDown (hMlpDown := hMlpDown)
    ∧ quiescent_MlpDownIdeal (hMlpDownIdeal := hMlpDownIdeal)
    ∧ quiescent_MlpDownRefIdeal (hMlpDownRefIdeal := hMlpDownRefIdeal)
    ∧ quiescent_AIn (hAIn := hAIn)
    ∧ quiescent_AInIdeal (hAInIdeal := hAInIdeal)
    ∧ quiescent_AInRefIdeal (hAInRefIdeal := hAInRefIdeal)
    ∧ quiescent_QMm (hQMm := hQMm)
    ∧ quiescent_QMmIdeal (hQMmIdeal := hQMmIdeal)
    ∧ quiescent_QMmRefIdeal (hQMmRefIdeal := hQMmRefIdeal)
    ∧ quiescent_KvMm (hKvMm := hKvMm)
    ∧ quiescent_KvMmIdeal (hKvMmIdeal := hKvMmIdeal)
    ∧ quiescent_KvMmRefIdeal (hKvMmRefIdeal := hKvMmRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DownDw_DownDwIdeal
    ∧ algebraic_DownDwIdeal_DownDwRefIdeal (hDownDwIdeal := hDownDwIdeal) (hDownDwRefIdeal := hDownDwRefIdeal)
    ∧ preserves_DownDz_DownDzIdeal
    ∧ algebraic_DownDzIdeal_DownDzRefIdeal (hDownDzIdeal := hDownDzIdeal) (hDownDzRefIdeal := hDownDzRefIdeal)
    ∧ preserves_UpDw_UpDwIdeal
    ∧ algebraic_UpDwIdeal_UpDwRefIdeal (hUpDwIdeal := hUpDwIdeal) (hUpDwRefIdeal := hUpDwRefIdeal)
    ∧ preserves_UpDh_UpDhIdeal
    ∧ algebraic_UpDhIdeal_UpDhRefIdeal (hUpDhIdeal := hUpDhIdeal) (hUpDhRefIdeal := hUpDhRefIdeal)
    ∧ preserves_OutDw_OutDwIdeal
    ∧ algebraic_OutDwIdeal_OutDwRefIdeal (hOutDwIdeal := hOutDwIdeal) (hOutDwRefIdeal := hOutDwRefIdeal)
    ∧ preserves_OutDu_OutDuIdeal
    ∧ algebraic_OutDuIdeal_OutDuRefIdeal (hOutDuIdeal := hOutDuIdeal) (hOutDuRefIdeal := hOutDuRefIdeal)
    ∧ preserves_QDh_QDhIdeal
    ∧ algebraic_QDhIdeal_QDhRefIdeal (hQDhIdeal := hQDhIdeal) (hQDhRefIdeal := hQDhRefIdeal)
    ∧ preserves_KvDw_KvDwIdeal
    ∧ algebraic_KvDwIdeal_KvDwRefIdeal (hKvDwIdeal := hKvDwIdeal) (hKvDwRefIdeal := hKvDwRefIdeal)
    ∧ preserves_KvDh_KvDhIdeal
    ∧ algebraic_KvDhIdeal_KvDhRefIdeal (hKvDhIdeal := hKvDhIdeal) (hKvDhRefIdeal := hKvDhRefIdeal)
    ∧ preserves_MlpUp_MlpUpIdeal
    ∧ algebraic_MlpUpIdeal_MlpUpRefIdeal (hMlpUpIdeal := hMlpUpIdeal) (hMlpUpRefIdeal := hMlpUpRefIdeal)
    ∧ preserves_MlpDown_MlpDownIdeal
    ∧ algebraic_MlpDownIdeal_MlpDownRefIdeal (hMlpDownIdeal := hMlpDownIdeal) (hMlpDownRefIdeal := hMlpDownRefIdeal)
    ∧ preserves_AIn_AInIdeal
    ∧ algebraic_AInIdeal_AInRefIdeal (hAInIdeal := hAInIdeal) (hAInRefIdeal := hAInRefIdeal)
    ∧ preserves_QMm_QMmIdeal
    ∧ algebraic_QMmIdeal_QMmRefIdeal (hQMmIdeal := hQMmIdeal) (hQMmRefIdeal := hQMmRefIdeal)
    ∧ preserves_KvMm_KvMmIdeal
    ∧ algebraic_KvMmIdeal_KvMmRefIdeal (hKvMmIdeal := hKvMmIdeal) (hKvMmRefIdeal := hKvMmRefIdeal)
-- ==== Pre_finite.lean ====
abbrev S4096x2048 : Shape := ⟨2, ![4096, 2048]⟩
abbrev S4096x1024 : Shape := ⟨2, ![4096, 1024]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S4096x2048 .bf16) (main_arg1 : FVec F S4096x1024 .bf16) (main_arg2 : FVec F S4096x2048 .bf16) : IVec S_ 1 :=
  let main_v0 : FVec F S4096x2048 .bf16 := Host.absf main_arg0
  let main_cst : FVec F S_ .bf16 := constant S_ .bf16 0x7F80#16
  let main_v1 : FVec F S4096x2048 .bf16 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x1024 .bf16 := Host.absf main_arg1
  let main_cst_0 : FVec F S_ .bf16 := constant S_ .bf16 0x7F80#16
  let main_v5 : FVec F S4096x1024 .bf16 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x2048 .bf16 := Host.absf main_arg2
  let main_cst_2 : FVec F S_ .bf16 := constant S_ .bf16 0x7F80#16
  let main_v10 : FVec F S4096x2048 .bf16 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  main_v13
-- ==== Kernel.lean ====
abbrev S4096x2048 : Shape := ⟨2, ![4096, 2048]⟩
abbrev S4096x1024 : Shape := ⟨2, ![4096, 1024]⟩
abbrev S4096x512 : Shape := ⟨2, ![4096, 512]⟩
abbrev S4096x4x4x128 : Shape := ⟨4, ![4096, 4, 4, 128]⟩
abbrev S4096x4x128 : Shape := ⟨3, ![4096, 4, 128]⟩
abbrev S4x4096x4096x4 : Shape := ⟨4, ![4, 4096, 4096, 4]⟩
abbrev S4x4x4096x4096 : Shape := ⟨4, ![4, 4, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x4x16x256x16x256 : Shape := ⟨6, ![4, 4, 16, 256, 16, 256]⟩
abbrev S4x16x16x4x256x256 : Shape := ⟨6, ![4, 16, 16, 4, 256, 256]⟩
abbrev S4x16x16x1024x256 : Shape := ⟨5, ![4, 16, 16, 1024, 256]⟩
abbrev S4x1x1x1024x256 : Shape := ⟨5, ![4, 1, 1, 1024, 256]⟩
abbrev S4x1x1024x256 : Shape := ⟨4, ![4, 1, 1024, 256]⟩
abbrev S4x1x2x1024x256 : Shape := ⟨5, ![4, 1, 2, 1024, 256]⟩
abbrev S4x2x1024x256 : Shape := ⟨4, ![4, 2, 1024, 256]⟩
abbrev S4x1x3x1024x256 : Shape := ⟨5, ![4, 1, 3, 1024, 256]⟩
abbrev S4x3x1024x256 : Shape := ⟨4, ![4, 3, 1024, 256]⟩
abbrev S4x1x4x1024x256 : Shape := ⟨5, ![4, 1, 4, 1024, 256]⟩
abbrev S4x4x1024x256 : Shape := ⟨4, ![4, 4, 1024, 256]⟩
abbrev S4x1x5x1024x256 : Shape := ⟨5, ![4, 1, 5, 1024, 256]⟩
abbrev S4x5x1024x256 : Shape := ⟨4, ![4, 5, 1024, 256]⟩
abbrev S4x1x6x1024x256 : Shape := ⟨5, ![4, 1, 6, 1024, 256]⟩
abbrev S4x6x1024x256 : Shape := ⟨4, ![4, 6, 1024, 256]⟩
abbrev S4x1x7x1024x256 : Shape := ⟨5, ![4, 1, 7, 1024, 256]⟩
abbrev S4x7x1024x256 : Shape := ⟨4, ![4, 7, 1024, 256]⟩
abbrev S4x1x8x1024x256 : Shape := ⟨5, ![4, 1, 8, 1024, 256]⟩
abbrev S4x8x1024x256 : Shape := ⟨4, ![4, 8, 1024, 256]⟩
abbrev S4x1x9x1024x256 : Shape := ⟨5, ![4, 1, 9, 1024, 256]⟩
abbrev S4x9x1024x256 : Shape := ⟨4, ![4, 9, 1024, 256]⟩
abbrev S4x1x10x1024x256 : Shape := ⟨5, ![4, 1, 10, 1024, 256]⟩
abbrev S4x10x1024x256 : Shape := ⟨4, ![4, 10, 1024, 256]⟩
abbrev S4x1x11x1024x256 : Shape := ⟨5, ![4, 1, 11, 1024, 256]⟩
abbrev S4x11x1024x256 : Shape := ⟨4, ![4, 11, 1024, 256]⟩
abbrev S4x1x12x1024x256 : Shape := ⟨5, ![4, 1, 12, 1024, 256]⟩
abbrev S4x12x1024x256 : Shape := ⟨4, ![4, 12, 1024, 256]⟩
abbrev S4x1x13x1024x256 : Shape := ⟨5, ![4, 1, 13, 1024, 256]⟩
abbrev S4x13x1024x256 : Shape := ⟨4, ![4, 13, 1024, 256]⟩
abbrev S4x1x14x1024x256 : Shape := ⟨5, ![4, 1, 14, 1024, 256]⟩
abbrev S4x14x1024x256 : Shape := ⟨4, ![4, 14, 1024, 256]⟩
abbrev S4x1x15x1024x256 : Shape := ⟨5, ![4, 1, 15, 1024, 256]⟩
abbrev S4x15x1024x256 : Shape := ⟨4, ![4, 15, 1024, 256]⟩
abbrev S4x1x16x1024x256 : Shape := ⟨5, ![4, 1, 16, 1024, 256]⟩
abbrev S4x16x1024x256 : Shape := ⟨4, ![4, 16, 1024, 256]⟩
abbrev S4x136x1024x256 : Shape := ⟨4, ![4, 136, 1024, 256]⟩
abbrev S8x128 : Shape := ⟨2, ![8, 128]⟩
abbrev S256x512 : Shape := ⟨2, ![256, 512]⟩
abbrev S4096x128 : Shape := ⟨2, ![4096, 128]⟩
abbrev S1024x128 : Shape := ⟨2, ![1024, 128]⟩
abbrev S1024x256 : Shape := ⟨2, ![1024, 256]⟩
abbrev S2x1024x256 : Shape := ⟨3, ![2, 1024, 256]⟩
abbrev S2x2 : Shape := ⟨2, ![2, 2]⟩
abbrev S256x128 : Shape := ⟨2, ![256, 128]⟩
abbrev S256x256 : Shape := ⟨2, ![256, 256]⟩
abbrev S1x1 : Shape := ⟨2, ![1, 1]⟩
abbrev S1x1024x256 : Shape := ⟨3, ![1, 1024, 256]⟩
abbrev S1x1x1024x256 : Shape := ⟨4, ![1, 1, 1024, 256]⟩
abbrev S1024 : Shape := ⟨1, ![1024]⟩
abbrev S1024x1 : Shape := ⟨2, ![1024, 1]⟩

abbrev nBuf : Space → Nat
  | .hbm => 140
  | .vmem => 19
  | .smem => 0
  | _ => 0

abbrev hbmTy0_0 (i : Nat) : BufTy := match i % 128 with
  | 0 => ⟨S4096x2048, .bf16⟩
  | 1 => ⟨S4096x1024, .bf16⟩
  | 2 => ⟨S4096x2048, .bf16⟩
  | 3 => ⟨S4096x2048, .f32⟩
  | 4 => ⟨S4096x512, .bf16⟩
  | 5 => ⟨S4096x512, .f32⟩
  | 6 => ⟨S4096x4x4x128, .f32⟩
  | 7 => ⟨S4096x4x128, .f32⟩
  | 8 => ⟨S4x4096x4096x4, .f32⟩
  | 9 => ⟨S4x4x4096x4096, .f32⟩
  | 10 => ⟨S_, .f32⟩
  | 11 => ⟨S4x4x4096x4096, .f32⟩
  | 12 => ⟨S4x4x4096x4096, .f32⟩
  | 13 => ⟨S4096, .i32⟩
  | 14 => ⟨S1x4096, .i32⟩
  | 15 => ⟨S4096, .i32⟩
  | 16 => ⟨S4096x1, .i32⟩
  | 17 => ⟨S4096x4096, .i32⟩
  | 18 => ⟨S4096x4096, .i32⟩
  | 19 => ⟨S4096x4096, .i1⟩
  | 20 => ⟨S4x4x4096x4096, .f32⟩
  | 21 => ⟨S_, .f32⟩
  | 22 => ⟨S4x4x4096x4096, .f32⟩
  | 23 => ⟨S4x4x4096x4096, .f32⟩
  | 24 => ⟨S4x4x4096x4096, .f32⟩
  | 25 => ⟨S4x4x4096x4096, .f32⟩
  | 26 => ⟨S4x4x4096x4096, .i1⟩
  | 27 => ⟨S4x4x4096x4096, .f32⟩
  | 28 => ⟨S4x4x4096x4096, .f32⟩
  | 29 => ⟨S4x4x4096x4096, .f32⟩
  | 30 => ⟨S4x4x4096x4096, .f32⟩
  | 31 => ⟨S4x4x4096x4096, .f32⟩
  | 32 => ⟨S4x4x4096x4096, .f32⟩
  | 33 => ⟨S4x4x4096x4096, .f32⟩
  | 34 => ⟨S4x4x4096x4096, .f32⟩
  | 35 => ⟨S4x4x4096x4096, .f32⟩
  | 36 => ⟨S4x4x4096x4096, .f32⟩
  | 37 => ⟨S_, .f32⟩
  | 38 => ⟨S_, .f32⟩
  | 39 => ⟨S4x4x4096x4096, .i1⟩
  | 40 => ⟨S4x4x4096x4096, .f32⟩
  | 41 => ⟨S4x4x4096x4096, .f32⟩
  | 42 => ⟨S_, .f32⟩
  | 43 => ⟨S_, .f32⟩
  | 44 => ⟨S4x4x4096x4096, .f32⟩
  | 45 => ⟨S4x4x4096x4096, .f32⟩
  | 46 => ⟨S4x4x4096x4096, .f32⟩
  | 47 => ⟨S4x4x4096x4096, .f32⟩
  | 48 => ⟨S_, .f32⟩
  | 49 => ⟨S_, .f32⟩
  | 50 => ⟨S4x4x4096x4096, .i1⟩
  | 51 => ⟨S4x4x4096x4096, .f32⟩
  | 52 => ⟨S4x4x4096x4096, .f32⟩
  | 53 => ⟨S4x4x4096x4096, .bf16⟩
  | 54 => ⟨S4x4x16x256x16x256, .bf16⟩
  | 55 => ⟨S4x16x16x4x256x256, .bf16⟩
  | 56 => ⟨S4x16x16x1024x256, .bf16⟩
  | 57 => ⟨S4x1x1x1024x256, .bf16⟩
  | 58 => ⟨S4x1x1024x256, .bf16⟩
  | 59 => ⟨S4x1x2x1024x256, .bf16⟩
  | 60 => ⟨S4x2x1024x256, .bf16⟩
  | 61 => ⟨S4x1x3x1024x256, .bf16⟩
  | 62 => ⟨S4x3x1024x256, .bf16⟩
  | 63 => ⟨S4x1x4x1024x256, .bf16⟩
  | 64 => ⟨S4x4x1024x256, .bf16⟩
  | 65 => ⟨S4x1x5x1024x256, .bf16⟩
  | 66 => ⟨S4x5x1024x256, .bf16⟩
  | 67 => ⟨S4x1x6x1024x256, .bf16⟩
  | 68 => ⟨S4x6x1024x256, .bf16⟩
  | 69 => ⟨S4x1x7x1024x256, .bf16⟩
  | 70 => ⟨S4x7x1024x256, .bf16⟩
  | 71 => ⟨S4x1x8x1024x256, .bf16⟩
  | 72 => ⟨S4x8x1024x256, .bf16⟩
  | 73 => ⟨S4x1x9x1024x256, .bf16⟩
  | 74 => ⟨S4x9x1024x256, .bf16⟩
  | 75 => ⟨S4x1x10x1024x256, .bf16⟩
  | 76 => ⟨S4x10x1024x256, .bf16⟩
  | 77 => ⟨S4x1x11x1024x256, .bf16⟩
  | 78 => ⟨S4x11x1024x256, .bf16⟩
  | 79 => ⟨S4x1x12x1024x256, .bf16⟩
  | 80 => ⟨S4x12x1024x256, .bf16⟩
  | 81 => ⟨S4x1x13x1024x256, .bf16⟩
  | 82 => ⟨S4x13x1024x256, .bf16⟩
  | 83 => ⟨S4x1x14x1024x256, .bf16⟩
  | 84 => ⟨S4x14x1024x256, .bf16⟩
  | 85 => ⟨S4x1x15x1024x256, .bf16⟩
  | 86 => ⟨S4x15x1024x256, .bf16⟩
  | 87 => ⟨S4x1x16x1024x256, .bf16⟩
  | 88 => ⟨S4x16x1024x256, .bf16⟩
  | 89 => ⟨S4x136x1024x256, .bf16⟩
  | 90 => ⟨S4x4x4096x4096, .f32⟩
  | 91 => ⟨S4x4x4096x4096, .f32⟩
  | 92 => ⟨S_, .f32⟩
  | 93 => ⟨S4x4x4096x4096, .f32⟩
  | 94 => ⟨S4x4x4096x4096, .f32⟩
  | 95 => ⟨S_, .f32⟩
  | 96 => ⟨S4x4x4096x4096, .f32⟩
  | 97 => ⟨S4x4x4096x4096, .f32⟩
  | 98 => ⟨S4x4x4096x4096, .bf16⟩
  | 99 => ⟨S4x4x16x256x16x256, .bf16⟩
  | 100 => ⟨S4x16x16x4x256x256, .bf16⟩
  | 101 => ⟨S4x16x16x1024x256, .bf16⟩
  | 102 => ⟨S4x1x1x1024x256, .bf16⟩
  | 103 => ⟨S4x1x1024x256, .bf16⟩
  | 104 => ⟨S4x1x2x1024x256, .bf16⟩
  | 105 => ⟨S4x2x1024x256, .bf16⟩
  | 106 => ⟨S4x1x3x1024x256, .bf16⟩
  | 107 => ⟨S4x3x1024x256, .bf16⟩
  | 108 => ⟨S4x1x4x1024x256, .bf16⟩
  | 109 => ⟨S4x4x1024x256, .bf16⟩
  | 110 => ⟨S4x1x5x1024x256, .bf16⟩
  | 111 => ⟨S4x5x1024x256, .bf16⟩
  | 112 => ⟨S4x1x6x1024x256, .bf16⟩
  | 113 => ⟨S4x6x1024x256, .bf16⟩
  | 114 => ⟨S4x1x7x1024x256, .bf16⟩
  | 115 => ⟨S4x7x1024x256, .bf16⟩
  | 116 => ⟨S4x1x8x1024x256, .bf16⟩
  | 117 => ⟨S4x8x1024x256, .bf16⟩
  | 118 => ⟨S4x1x9x1024x256, .bf16⟩
  | 119 => ⟨S4x9x1024x256, .bf16⟩
  | 120 => ⟨S4x1x10x1024x256, .bf16⟩
  | 121 => ⟨S4x10x1024x256, .bf16⟩
  | 122 => ⟨S4x1x11x1024x256, .bf16⟩
  | 123 => ⟨S4x11x1024x256, .bf16⟩
  | 124 => ⟨S4x1x12x1024x256, .bf16⟩
  | 125 => ⟨S4x12x1024x256, .bf16⟩
  | 126 => ⟨S4x1x13x1024x256, .bf16⟩
  | 127 => ⟨S4x13x1024x256, .bf16⟩
  | _ => ⟨S4096x2048, .bf16⟩

abbrev hbmTy0_1 (i : Nat) : BufTy := match i % 128 with
  | 0 => ⟨S4x1x14x1024x256, .bf16⟩
  | 1 => ⟨S4x14x1024x256, .bf16⟩
  | 2 => ⟨S4x1x15x1024x256, .bf16⟩
  | 3 => ⟨S4x15x1024x256, .bf16⟩
  | 4 => ⟨S4x1x16x1024x256, .bf16⟩
  | 5 => ⟨S4x16x1024x256, .bf16⟩
  | 6 => ⟨S4x136x1024x256, .bf16⟩
  | 7 => ⟨S_, .f32⟩
  | 8 => ⟨S8x128, .f32⟩
  | 9 => ⟨S4096x2048, .bf16⟩
  | 10 => ⟨S4096x512, .f32⟩
  | 11 => ⟨S4096x512, .f32⟩
  | _ => ⟨S4096x2048, .bf16⟩

abbrev hbmTy (i : Nat) : BufTy := match i / 128 with
  | 0 => hbmTy0_0 i
  | 1 => hbmTy0_1 i
  | _ => ⟨S4096x2048, .bf16⟩

abbrev bufTy : (tb : Table) → Fin (tcTables nBuf tb) → BufTy
  | .hbm, ⟨i, _⟩ => hbmTy i
  | .local _ .vmem, ⟨0, _⟩ => ⟨S256x512, .bf16⟩
  | .local _ .vmem, ⟨1, _⟩ => ⟨S256x512, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S256x512, .bf16⟩
  | .local _ .vmem, ⟨7, _⟩ => ⟨S256x512, .bf16⟩
  | .local _ .vmem, ⟨8, _⟩ => ⟨S8x128, .f32⟩
  | .local _ .vmem, ⟨9, _⟩ => ⟨S256x512, .bf16⟩
  | .local _ .vmem, ⟨10, _⟩ => ⟨S256x512, .bf16⟩
  | .local _ .vmem, ⟨11, _⟩ => ⟨S4096x128, .f32⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S1024x128, .f32⟩
  | .local _ .vmem, ⟨16, _⟩ => ⟨S1024x256, .f32⟩
  | .local _ .vmem, ⟨17, _⟩ => ⟨S2x1024x256, .bf16⟩
  | .local _ .vmem, ⟨18, _⟩ => ⟨S2x1024x256, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v16 : Ref sig .tc := ⟨.hbm, 35, rfl⟩
abbrev main_v17 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v18 : Ref sig .tc := ⟨.hbm, 41, rfl⟩
abbrev main_call2_cst : Ref sig .tc := ⟨.hbm, 42, rfl⟩
abbrev main_call2_v0 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_1 : Ref sig .tc := ⟨.hbm, 48, rfl⟩
abbrev main_call3_v0 : Ref sig .tc := ⟨.hbm, 49, rfl⟩
abbrev main_call3_v1 : Ref sig .tc := ⟨.hbm, 50, rfl⟩
abbrev main_call3_v2 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_2 : Ref sig .tc := ⟨.hbm, 92, rfl⟩
abbrev main_v63 : Ref sig .tc := ⟨.hbm, 93, rfl⟩
abbrev main_v64 : Ref sig .tc := ⟨.hbm, 94, rfl⟩
abbrev main_cst_3 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_cst_4 : Ref sig .tc := ⟨.hbm, 135, rfl⟩
abbrev main_v104 : Ref sig .tc := ⟨.hbm, 136, rfl⟩
abbrev main_v105_0 : Ref sig .tc := ⟨.hbm, 137, rfl⟩
abbrev main_v105_1 : Ref sig .tc := ⟨.hbm, 138, rfl⟩
abbrev main_v105_2 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 16], ![false, false]⟩

def k0_off1 (i : grid0.Coords) : Fin 4 → Nat :=
  let arg0 : BitVec 32 := BitVec.ofNat 32 (i 0).val
  let arg1 : BitVec 32 := BitVec.ofNat 32 (i 1).val
  let c1_i32_22 : BitVec 32 := 1#32
  let v46 : BitVec 32 := Scalar.addi arg1 c1_i32_22
  let v47 : BitVec 32 := Scalar.muli arg1 v46
  let c0_i32_23 : BitVec 32 := 0#32
  let v49 : BitVec 1 := Scalar.cmpi .sgt v47 c0_i32_23
  let v50 : BitVec 32 := Scalar.extui v49
  let c0_i32_24 : BitVec 32 := 0#32
  let v51 : BitVec 1 := Scalar.cmpi .slt v47 c0_i32_24
  let v52 : BitVec 32 := Scalar.extui v51
  let v53 : BitVec 32 := Scalar.subi v50 v52
  let c2_i32 : BitVec 32 := 2#32
  let c0_i32_25 : BitVec 32 := 0#32
  let v54 : BitVec 1 := Scalar.cmpi .sgt c2_i32 c0_i32_25
  let v55 : BitVec 32 := Scalar.extui v54
  let c0_i32_26 : BitVec 32 := 0#32
  let v56 : BitVec 1 := Scalar.cmpi .slt c2_i32 c0_i32_26
  let v57 : BitVec 32 := Scalar.extui v56
  let v58 : BitVec 32 := Scalar.subi v55 v57
  let v59 : BitVec 1 := Scalar.cmpi .ne v53 v58
  let v60 : BitVec 32 := Scalar.remsi v47 c2_i32
  let c0_i32_27 : BitVec 32 := 0#32
  let v61 : BitVec 1 := Scalar.cmpi .ne v60 c0_i32_27
  let v62 : BitVec 1 := Scalar.andi v59 v61
  let v48 : BitVec 32 := Scalar.divsi v47 c2_i32
  let c1_i32_28 : BitVec 32 := 1#32
  let v63 : BitVec 32 := Scalar.subi v48 c1_i32_28
  let v64 : BitVec 32 := Scalar.select v62 v63 v48
  let c0_i32_29 : BitVec 32 := 0#32
  let v65 : BitVec 32 := Scalar.addi v64 c0_i32_29
  let c0_i32_35 : BitVec 32 := 0#32
  let c0_i32_36 : BitVec 32 := 0#32
  ![arg0.toNat, v65.toNat, 0, 0]
@[reducible] def k0_t1_loop (i : grid0.Coords) : Scf.Loop 32 :=
  let c0_i32_45 : BitVec 32 := 0#32
  let arg1 : BitVec 32 := BitVec.ofNat 32 (i 1).val
  let v78 : BitVec 32 := Scalar.subi arg1 c0_i32_45
  let c1_i32_46 : BitVec 32 := 1#32
  let v80 : BitVec 32 := Scalar.divsi v78 c1_i32_46
  let v81 : BitVec 32 := Scalar.muli v80 c1_i32_46
  let v82 : BitVec 32 := Scalar.addi c0_i32_45 v81
  let c1_i32_47 : BitVec 32 := 1#32
  ⟨c0_i32_45, v82, c1_i32_47⟩
def k0_off2 (i : grid0.Coords) (k0_t1 : Fin (k0_t1_loop i).trips) : Fin 2 → Nat :=
  let c0_i32_122 : BitVec 32 := 0#32
  let c0_i32_45 : BitVec 32 := 0#32
  let c1_i32_47 : BitVec 32 := 1#32
  let arg17 : BitVec 32 := Scf.iv c0_i32_45 c1_i32_47 k0_t1
  let c1_i32_106 : BitVec 32 := 1#32
  let v189 : BitVec 32 := Scalar.addi arg17 c1_i32_106
  let c2_i32_107 : BitVec 32 := 2#32
  let c0_i32_108 : BitVec 32 := 0#32
  let v190 : BitVec 1 := Scalar.cmpi .eq c2_i32_107 c0_i32_108
  let c1_i32_109 : BitVec 32 := 1#32
  let v191 : BitVec 32 := Scalar.select v190 c1_i32_109 c2_i32_107
  let v192 : BitVec 32 := Scalar.remsi v189 v191
  let c0_i32_111 : BitVec 32 := 0#32
  let v194 : BitVec 1 := Scalar.cmpi .slt v192 c0_i32_111
  let c0_i32_112 : BitVec 32 := 0#32
  let v195 : BitVec 1 := Scalar.cmpi .slt v191 c0_i32_112
  let v196 : BitVec 1 := Scalar.xori v194 v195
  let c0_i32_110 : BitVec 32 := 0#32
  let v193 : BitVec 1 := Scalar.cmpi .ne v192 c0_i32_110
  let v197 : BitVec 1 := Scalar.andi v196 v193
  let v198 : BitVec 32 := Scalar.addi v192 v191
  let v199 : BitVec 32 := Scalar.select v197 v198 v192
  ![0, v199.toNat]
def k0_off3 (i : grid0.Coords) (k0_t1 : Fin (k0_t1_loop i).trips) : Fin 3 → Nat :=
  let c0_i32_45 : BitVec 32 := 0#32
  let c1_i32_47 : BitVec 32 := 1#32
  let arg17 : BitVec 32 := Scf.iv c0_i32_45 c1_i32_47 k0_t1
  let c1_i32_106 : BitVec 32 := 1#32
  let v189 : BitVec 32 := Scalar.addi arg17 c1_i32_106
  let c2_i32_107 : BitVec 32 := 2#32
  let c0_i32_108 : BitVec 32 := 0#32
  let v190 : BitVec 1 := Scalar.cmpi .eq c2_i32_107 c0_i32_108
  let c1_i32_109 : BitVec 32 := 1#32
  let v191 : BitVec 32 := Scalar.select v190 c1_i32_109 c2_i32_107
  let v192 : BitVec 32 := Scalar.remsi v189 v191
  let c0_i32_111 : BitVec 32 := 0#32
  let v194 : BitVec 1 := Scalar.cmpi .slt v192 c0_i32_111
  let c0_i32_112 : BitVec 32 := 0#32
  let v195 : BitVec 1 := Scalar.cmpi .slt v191 c0_i32_112
  let v196 : BitVec 1 := Scalar.xori v194 v195
  let c0_i32_110 : BitVec 32 := 0#32
  let v193 : BitVec 1 := Scalar.cmpi .ne v192 c0_i32_110
  let v197 : BitVec 1 := Scalar.andi v196 v193
  let v198 : BitVec 32 := Scalar.addi v192 v191
  let v199 : BitVec 32 := Scalar.select v197 v198 v192
  let c0_i32_123 : BitVec 32 := 0#32
  let c0_i32_124 : BitVec 32 := 0#32
  ![v199.toNat, 0, 0]
def k0_off4 (i : grid0.Coords) (k0_t1 : Fin (k0_t1_loop i).trips) : Fin 4 → Nat :=
  let arg0 : BitVec 32 := BitVec.ofNat 32 (i 0).val
  let arg1 : BitVec 32 := BitVec.ofNat 32 (i 1).val
  let c1_i32_114 : BitVec 32 := 1#32
  let v201 : BitVec 32 := Scalar.addi arg1 c1_i32_114
  let v202 : BitVec 32 := Scalar.muli arg1 v201
  let c0_i32_116 : BitVec 32 := 0#32
  let v204 : BitVec 1 := Scalar.cmpi .sgt v202 c0_i32_116
  let v205 : BitVec 32 := Scalar.extui v204
  let c0_i32_117 : BitVec 32 := 0#32
  let v206 : BitVec 1 := Scalar.cmpi .slt v202 c0_i32_117
  let v207 : BitVec 32 := Scalar.extui v206
  let v208 : BitVec 32 := Scalar.subi v205 v207
  let c2_i32_115 : BitVec 32 := 2#32
  let c0_i32_118 : BitVec 32 := 0#32
  let v209 : BitVec 1 := Scalar.cmpi .sgt c2_i32_115 c0_i32_118
  let v210 : BitVec 32 := Scalar.extui v209
  let c0_i32_119 : BitVec 32 := 0#32
  let v211 : BitVec 1 := Scalar.cmpi .slt c2_i32_115 c0_i32_119
  let v212 : BitVec 32 := Scalar.extui v211
  let v213 : BitVec 32 := Scalar.subi v210 v212
  let v214 : BitVec 1 := Scalar.cmpi .ne v208 v213
  let v215 : BitVec 32 := Scalar.remsi v202 c2_i32_115
  let c0_i32_120 : BitVec 32 := 0#32
  let v216 : BitVec 1 := Scalar.cmpi .ne v215 c0_i32_120
  let v217 : BitVec 1 := Scalar.andi v214 v216
  let v203 : BitVec 32 := Scalar.divsi v202 c2_i32_115
  let c1_i32_121 : BitVec 32 := 1#32
  let v218 : BitVec 32 := Scalar.subi v203 c1_i32_121
  let v219 : BitVec 32 := Scalar.select v217 v218 v203
  let c0_i32_45 : BitVec 32 := 0#32
  let c1_i32_47 : BitVec 32 := 1#32
  let arg17 : BitVec 32 := Scf.iv c0_i32_45 c1_i32_47 k0_t1
  let c1_i32_113 : BitVec 32 := 1#32
  let v200 : BitVec 32 := Scalar.addi arg17 c1_i32_113
  let v220 : BitVec 32 := Scalar.addi v219 v200
  let c0_i32_125 : BitVec 32 := 0#32
  let c0_i32_126 : BitVec 32 := 0#32
  ![arg0.toNat, v220.toNat, 0, 0]
def k0_off5 (i : grid0.Coords) (k0_t1 : Fin (k0_t1_loop i).trips) : Fin 2 → Nat :=
  let c1_i32_127 : BitVec 32 := 1#32
  let c0_i32_45 : BitVec 32 := 0#32
  let c1_i32_47 : BitVec 32 := 1#32
  let arg17 : BitVec 32 := Scf.iv c0_i32_45 c1_i32_47 k0_t1
  let c1_i32_106 : BitVec 32 := 1#32
  let v189 : BitVec 32 := Scalar.addi arg17 c1_i32_106
  let c2_i32_107 : BitVec 32 := 2#32
  let c0_i32_108 : BitVec 32 := 0#32
  let v190 : BitVec 1 := Scalar.cmpi .eq c2_i32_107 c0_i32_108
  let c1_i32_109 : BitVec 32 := 1#32
  let v191 : BitVec 32 := Scalar.select v190 c1_i32_109 c2_i32_107
  let v192 : BitVec 32 := Scalar.remsi v189 v191
  let c0_i32_111 : BitVec 32 := 0#32
  let v194 : BitVec 1 := Scalar.cmpi .slt v192 c0_i32_111
  let c0_i32_112 : BitVec 32 := 0#32
  let v195 : BitVec 1 := Scalar.cmpi .slt v191 c0_i32_112
  let v196 : BitVec 1 := Scalar.xori v194 v195
  let c0_i32_110 : BitVec 32 := 0#32
  let v193 : BitVec 1 := Scalar.cmpi .ne v192 c0_i32_110
  let v197 : BitVec 1 := Scalar.andi v196 v193
  let v198 : BitVec 32 := Scalar.addi v192 v191
  let v199 : BitVec 32 := Scalar.select v197 v198 v192
  ![1, v199.toNat]
def k0_off6 (i : grid0.Coords) (k0_t1 : Fin (k0_t1_loop i).trips) : Fin 2 → Nat :=
  let c0_i32_146 : BitVec 32 := 0#32
  let c0_i32_45 : BitVec 32 := 0#32
  let c1_i32_47 : BitVec 32 := 1#32
  let arg17 : BitVec 32 := Scf.iv c0_i32_45 c1_i32_47 k0_t1
  let c2_i32_132 : BitVec 32 := 2#32
  let c0_i32_133 : BitVec 32 := 0#32
  let v233 : BitVec 1 := Scalar.cmpi .eq c2_i32_132 c0_i32_133
  let c1_i32_134 : BitVec 32 := 1#32
  let v234 : BitVec 32 := Scalar.select v233 c1_i32_134 c2_i32_132
  let v235 : BitVec 32 := Scalar.remsi arg17 v234
  let c0_i32_136 : BitVec 32 := 0#32
  let v237 : BitVec 1 := Scalar.cmpi .slt v235 c0_i32_136
  let c0_i32_137 : BitVec 32 := 0#32
  let v238 : BitVec 1 := Scalar.cmpi .slt v234 c0_i32_137
  let v239 : BitVec 1 := Scalar.xori v237 v238
  let c0_i32_135 : BitVec 32 := 0#32
  let v236 : BitVec 1 := Scalar.cmpi .ne v235 c0_i32_135
  let v240 : BitVec 1 := Scalar.andi v239 v236
  let v241 : BitVec 32 := Scalar.addi v235 v234
  let v242 : BitVec 32 := Scalar.select v240 v241 v235
  ![0, v242.toNat]
def k0_off7 (i : grid0.Coords) (k0_t1 : Fin (k0_t1_loop i).trips) : Fin 3 → Nat :=
  let c0_i32_45 : BitVec 32 := 0#32
  let c1_i32_47 : BitVec 32 := 1#32
  let arg17 : BitVec 32 := Scf.iv c0_i32_45 c1_i32_47 k0_t1
  let c2_i32_132 : BitVec 32 := 2#32
  let c0_i32_133 : BitVec 32 := 0#32
  let v233 : BitVec 1 := Scalar.cmpi .eq c2_i32_132 c0_i32_133
  let c1_i32_134 : BitVec 32 := 1#32
  let v234 : BitVec 32 := Scalar.select v233 c1_i32_134 c2_i32_132
  let v235 : BitVec 32 := Scalar.remsi arg17 v234
  let c0_i32_136 : BitVec 32 := 0#32
  let v237 : BitVec 1 := Scalar.cmpi .slt v235 c0_i32_136
  let c0_i32_137 : BitVec 32 := 0#32
  let v238 : BitVec 1 := Scalar.cmpi .slt v234 c0_i32_137
  let v239 : BitVec 1 := Scalar.xori v237 v238
  let c0_i32_135 : BitVec 32 := 0#32
  let v236 : BitVec 1 := Scalar.cmpi .ne v235 c0_i32_135
  let v240 : BitVec 1 := Scalar.andi v239 v236
  let v241 : BitVec 32 := Scalar.addi v235 v234
  let v242 : BitVec 32 := Scalar.select v240 v241 v235
  let c0_i32_147 : BitVec 32 := 0#32
  let c0_i32_148 : BitVec 32 := 0#32
  ![v242.toNat, 0, 0]
def k0_off8 (i : grid0.Coords) (k0_t1 : Fin (k0_t1_loop i).trips) : Fin 4 → Nat :=
  let arg0 : BitVec 32 := BitVec.ofNat 32 (i 0).val
  let arg1 : BitVec 32 := BitVec.ofNat 32 (i 1).val
  let c1_i32_138 : BitVec 32 := 1#32
  let v243 : BitVec 32 := Scalar.addi arg1 c1_i32_138
  let v244 : BitVec 32 := Scalar.muli arg1 v243
  let c0_i32_140 : BitVec 32 := 0#32
  let v246 : BitVec 1 := Scalar.cmpi .sgt v244 c0_i32_140
  let v247 : BitVec 32 := Scalar.extui v246
  let c0_i32_141 : BitVec 32 := 0#32
  let v248 : BitVec 1 := Scalar.cmpi .slt v244 c0_i32_141
  let v249 : BitVec 32 := Scalar.extui v248
  let v250 : BitVec 32 := Scalar.subi v247 v249
  let c2_i32_139 : BitVec 32 := 2#32
  let c0_i32_142 : BitVec 32 := 0#32
  let v251 : BitVec 1 := Scalar.cmpi .sgt c2_i32_139 c0_i32_142
  let v252 : BitVec 32 := Scalar.extui v251
  let c0_i32_143 : BitVec 32 := 0#32
  let v253 : BitVec 1 := Scalar.cmpi .slt c2_i32_139 c0_i32_143
  let v254 : BitVec 32 := Scalar.extui v253
  let v255 : BitVec 32 := Scalar.subi v252 v254
  let v256 : BitVec 1 := Scalar.cmpi .ne v250 v255
  let v257 : BitVec 32 := Scalar.remsi v244 c2_i32_139
  let c0_i32_144 : BitVec 32 := 0#32
  let v258 : BitVec 1 := Scalar.cmpi .ne v257 c0_i32_144
  let v259 : BitVec 1 := Scalar.andi v256 v258
  let v245 : BitVec 32 := Scalar.divsi v244 c2_i32_139
  let c1_i32_145 : BitVec 32 := 1#32
  let v260 : BitVec 32 := Scalar.subi v245 c1_i32_145
  let v261 : BitVec 32 := Scalar.select v259 v260 v245
  let c0_i32_45 : BitVec 32 := 0#32
  let c1_i32_47 : BitVec 32 := 1#32
  let arg17 : BitVec 32 := Scf.iv c0_i32_45 c1_i32_47 k0_t1
  let v262 : BitVec 32 := Scalar.addi v261 arg17
  let c0_i32_149 : BitVec 32 := 0#32
  let c0_i32_150 : BitVec 32 := 0#32
  ![arg0.toNat, v262.toNat, 0, 0]
def k0_off9 (i : grid0.Coords) (k0_t1 : Fin (k0_t1_loop i).trips) : Fin 2 → Nat :=
  let c1_i32_151 : BitVec 32 := 1#32
  let c0_i32_45 : BitVec 32 := 0#32
  let c1_i32_47 : BitVec 32 := 1#32
  let arg17 : BitVec 32 := Scf.iv c0_i32_45 c1_i32_47 k0_t1
  let c2_i32_132 : BitVec 32 := 2#32
  let c0_i32_133 : BitVec 32 := 0#32
  let v233 : BitVec 1 := Scalar.cmpi .eq c2_i32_132 c0_i32_133
  let c1_i32_134 : BitVec 32 := 1#32
  let v234 : BitVec 32 := Scalar.select v233 c1_i32_134 c2_i32_132
  let v235 : BitVec 32 := Scalar.remsi arg17 v234
  let c0_i32_136 : BitVec 32 := 0#32
  let v237 : BitVec 1 := Scalar.cmpi .slt v235 c0_i32_136
  let c0_i32_137 : BitVec 32 := 0#32
  let v238 : BitVec 1 := Scalar.cmpi .slt v234 c0_i32_137
  let v239 : BitVec 1 := Scalar.xori v237 v238
  let c0_i32_135 : BitVec 32 := 0#32
  let v236 : BitVec 1 := Scalar.cmpi .ne v235 c0_i32_135
  let v240 : BitVec 1 := Scalar.andi v239 v236
  let v241 : BitVec 32 := Scalar.addi v235 v234
  let v242 : BitVec 32 := Scalar.select v240 v241 v235
  ![1, v242.toNat]
def k0_mult1 (i : grid0.Coords) (k0_t1 : Fin (k0_t1_loop i).trips) : BitVec 32 :=
  let c0_i32_45 : BitVec 32 := 0#32
  let c1_i32_47 : BitVec 32 := 1#32
  let arg17 : BitVec 32 := Scf.iv c0_i32_45 c1_i32_47 k0_t1
  let c256_i32_156 : BitVec 32 := 256#32
  let v275 : BitVec 32 := Scalar.muli arg17 c256_i32_156
  v275
def k0_off10 (i : grid0.Coords) (k0_t1 : Fin (k0_t1_loop i).trips) : Fin 2 → Nat :=
  let c0_i32_45 : BitVec 32 := 0#32
  let c1_i32_47 : BitVec 32 := 1#32
  let arg17 : BitVec 32 := Scf.iv c0_i32_45 c1_i32_47 k0_t1
  let c256_i32_156 : BitVec 32 := 256#32
  let v275 : BitVec 32 := Scalar.muli arg17 c256_i32_156
  let v276 : BitVec 32 := v275
  let v277 : Index := Scalar.indexCast v276
  let c0_157 : Index := 0#32
  ![v277.toNat, 0]
def k0_off11 (i : grid0.Coords) (k0_t1 : Fin (k0_t1_loop i).trips) : Fin 3 → Nat :=
  let c0_i32_45 : BitVec 32 := 0#32
  let c1_i32_47 : BitVec 32 := 1#32
  let arg17 : BitVec 32 := Scf.iv c0_i32_45 c1_i32_47 k0_t1
  let c2_i32_132 : BitVec 32 := 2#32
  let c0_i32_133 : BitVec 32 := 0#32
  let v233 : BitVec 1 := Scalar.cmpi .eq c2_i32_132 c0_i32_133
  let c1_i32_134 : BitVec 32 := 1#32
  let v234 : BitVec 32 := Scalar.select v233 c1_i32_134 c2_i32_132
  let v235 : BitVec 32 := Scalar.remsi arg17 v234
  let c0_i32_136 : BitVec 32 := 0#32
  let v237 : BitVec 1 := Scalar.cmpi .slt v235 c0_i32_136
  let c0_i32_137 : BitVec 32 := 0#32
  let v238 : BitVec 1 := Scalar.cmpi .slt v234 c0_i32_137
  let v239 : BitVec 1 := Scalar.xori v237 v238
  let c0_i32_135 : BitVec 32 := 0#32
  let v236 : BitVec 1 := Scalar.cmpi .ne v235 c0_i32_135
  let v240 : BitVec 1 := Scalar.andi v239 v236
  let v241 : BitVec 32 := Scalar.addi v235 v234
  let v242 : BitVec 32 := Scalar.select v240 v241 v235
  let v281 : Index := Scalar.indexCast v242
  let c0_159 : Index := 0#32
  let c0_160 : Index := 0#32
  ![v281.toNat, 0, 0]
@[reducible] def k0_t2_loop (i : grid0.Coords) : Scf.Loop 32 :=
  let c0_i32_45 : BitVec 32 := 0#32
  let arg1 : BitVec 32 := BitVec.ofNat 32 (i 1).val
  let v78 : BitVec 32 := Scalar.subi arg1 c0_i32_45
  let c1_i32_46 : BitVec 32 := 1#32
  let v80 : BitVec 32 := Scalar.divsi v78 c1_i32_46
  let v81 : BitVec 32 := Scalar.muli v80 c1_i32_46
  let v82 : BitVec 32 := Scalar.addi c0_i32_45 v81
  let v79 : BitVec 32 := Scalar.addi c0_i32_45 v78
  let c1_i32_48 : BitVec 32 := 1#32
  ⟨v82, v79, c1_i32_48⟩
def k0_off12 (i : grid0.Coords) (k0_t2 : Fin (k0_t2_loop i).trips) : Fin 2 → Nat :=
  let c0_i32_122 : BitVec 32 := 0#32
  let c0_i32_45 : BitVec 32 := 0#32
  let arg1 : BitVec 32 := BitVec.ofNat 32 (i 1).val
  let v78 : BitVec 32 := Scalar.subi arg1 c0_i32_45
  let c1_i32_46 : BitVec 32 := 1#32
  let v80 : BitVec 32 := Scalar.divsi v78 c1_i32_46
  let v81 : BitVec 32 := Scalar.muli v80 c1_i32_46
  let v82 : BitVec 32 := Scalar.addi c0_i32_45 v81
  let c1_i32_48 : BitVec 32 := 1#32
  let arg17 : BitVec 32 := Scf.iv v82 c1_i32_48 k0_t2
  let c1_i32_106 : BitVec 32 := 1#32
  let v189 : BitVec 32 := Scalar.addi arg17 c1_i32_106
  let c2_i32_107 : BitVec 32 := 2#32
  let c0_i32_108 : BitVec 32 := 0#32
  let v190 : BitVec 1 := Scalar.cmpi .eq c2_i32_107 c0_i32_108
  let c1_i32_109 : BitVec 32 := 1#32
  let v191 : BitVec 32 := Scalar.select v190 c1_i32_109 c2_i32_107
  let v192 : BitVec 32 := Scalar.remsi v189 v191
  let c0_i32_111 : BitVec 32 := 0#32
  let v194 : BitVec 1 := Scalar.cmpi .slt v192 c0_i32_111
  let c0_i32_112 : BitVec 32 := 0#32
  let v195 : BitVec 1 := Scalar.cmpi .slt v191 c0_i32_112
  let v196 : BitVec 1 := Scalar.xori v194 v195
  let c0_i32_110 : BitVec 32 := 0#32
  let v193 : BitVec 1 := Scalar.cmpi .ne v192 c0_i32_110
  let v197 : BitVec 1 := Scalar.andi v196 v193
  let v198 : BitVec 32 := Scalar.addi v192 v191
  let v199 : BitVec 32 := Scalar.select v197 v198 v192
  ![0, v199.toNat]
def k0_off13 (i : grid0.Coords) (k0_t2 : Fin (k0_t2_loop i).trips) : Fin 3 → Nat :=
  let c0_i32_45 : BitVec 32 := 0#32
  let arg1 : BitVec 32 := BitVec.ofNat 32 (i 1).val
  let v78 : BitVec 32 := Scalar.subi arg1 c0_i32_45
  let c1_i32_46 : BitVec 32 := 1#32
  let v80 : BitVec 32 := Scalar.divsi v78 c1_i32_46
  let v81 : BitVec 32 := Scalar.muli v80 c1_i32_46
  let v82 : BitVec 32 := Scalar.addi c0_i32_45 v81
  let c1_i32_48 : BitVec 32 := 1#32
  let arg17 : BitVec 32 := Scf.iv v82 c1_i32_48 k0_t2
  let c1_i32_106 : BitVec 32 := 1#32
  let v189 : BitVec 32 := Scalar.addi arg17 c1_i32_106
  let c2_i32_107 : BitVec 32 := 2#32
  let c0_i32_108 : BitVec 32 := 0#32
  let v190 : BitVec 1 := Scalar.cmpi .eq c2_i32_107 c0_i32_108
  let c1_i32_109 : BitVec 32 := 1#32
  let v191 : BitVec 32 := Scalar.select v190 c1_i32_109 c2_i32_107
  let v192 : BitVec 32 := Scalar.remsi v189 v191
  let c0_i32_111 : BitVec 32 := 0#32
  let v194 : BitVec 1 := Scalar.cmpi .slt v192 c0_i32_111
  let c0_i32_112 : BitVec 32 := 0#32
  let v195 : BitVec 1 := Scalar.cmpi .slt v191 c0_i32_112
  let v196 : BitVec 1 := Scalar.xori v194 v195
  let c0_i32_110 : BitVec 32 := 0#32
  let v193 : BitVec 1 := Scalar.cmpi .ne v192 c0_i32_110
  let v197 : BitVec 1 := Scalar.andi v196 v193
  let v198 : BitVec 32 := Scalar.addi v192 v191
  let v199 : BitVec 32 := Scalar.select v197 v198 v192
  let c0_i32_123 : BitVec 32 := 0#32
  let c0_i32_124 : BitVec 32 := 0#32
  ![v199.toNat, 0, 0]
def k0_off14 (i : grid0.Coords) (k0_t2 : Fin (k0_t2_loop i).trips) : Fin 4 → Nat :=
  let arg0 : BitVec 32 := BitVec.ofNat 32 (i 0).val
  let arg1 : BitVec 32 := BitVec.ofNat 32 (i 1).val
  let c1_i32_114 : BitVec 32 := 1#32
  let v201 : BitVec 32 := Scalar.addi arg1 c1_i32_114
  let v202 : BitVec 32 := Scalar.muli arg1 v201
  let c0_i32_116 : BitVec 32 := 0#32
  let v204 : BitVec 1 := Scalar.cmpi .sgt v202 c0_i32_116
  let v205 : BitVec 32 := Scalar.extui v204
  let c0_i32_117 : BitVec 32 := 0#32
  let v206 : BitVec 1 := Scalar.cmpi .slt v202 c0_i32_117
  let v207 : BitVec 32 := Scalar.extui v206
  let v208 : BitVec 32 := Scalar.subi v205 v207
  let c2_i32_115 : BitVec 32 := 2#32
  let c0_i32_118 : BitVec 32 := 0#32
  let v209 : BitVec 1 := Scalar.cmpi .sgt c2_i32_115 c0_i32_118
  let v210 : BitVec 32 := Scalar.extui v209
  let c0_i32_119 : BitVec 32 := 0#32
  let v211 : BitVec 1 := Scalar.cmpi .slt c2_i32_115 c0_i32_119
  let v212 : BitVec 32 := Scalar.extui v211
  let v213 : BitVec 32 := Scalar.subi v210 v212
  let v214 : BitVec 1 := Scalar.cmpi .ne v208 v213
  let v215 : BitVec 32 := Scalar.remsi v202 c2_i32_115
  let c0_i32_120 : BitVec 32 := 0#32
  let v216 : BitVec 1 := Scalar.cmpi .ne v215 c0_i32_120
  let v217 : BitVec 1 := Scalar.andi v214 v216
  let v203 : BitVec 32 := Scalar.divsi v202 c2_i32_115
  let c1_i32_121 : BitVec 32 := 1#32
  let v218 : BitVec 32 := Scalar.subi v203 c1_i32_121
  let v219 : BitVec 32 := Scalar.select v217 v218 v203
  let c0_i32_45 : BitVec 32 := 0#32
  let v78 : BitVec 32 := Scalar.subi arg1 c0_i32_45
  let c1_i32_46 : BitVec 32 := 1#32
  let v80 : BitVec 32 := Scalar.divsi v78 c1_i32_46
  let v81 : BitVec 32 := Scalar.muli v80 c1_i32_46
  let v82 : BitVec 32 := Scalar.addi c0_i32_45 v81
  let c1_i32_48 : BitVec 32 := 1#32
  let arg17 : BitVec 32 := Scf.iv v82 c1_i32_48 k0_t2
  let c1_i32_113 : BitVec 32 := 1#32
  let v200 : BitVec 32 := Scalar.addi arg17 c1_i32_113
  let v220 : BitVec 32 := Scalar.addi v219 v200
  let c0_i32_125 : BitVec 32 := 0#32
  let c0_i32_126 : BitVec 32 := 0#32
  ![arg0.toNat, v220.toNat, 0, 0]
def k0_off15 (i : grid0.Coords) (k0_t2 : Fin (k0_t2_loop i).trips) : Fin 2 → Nat :=
  let c1_i32_127 : BitVec 32 := 1#32
  let c0_i32_45 : BitVec 32 := 0#32
  let arg1 : BitVec 32 := BitVec.ofNat 32 (i 1).val
  let v78 : BitVec 32 := Scalar.subi arg1 c0_i32_45
  let c1_i32_46 : BitVec 32 := 1#32
  let v80 : BitVec 32 := Scalar.divsi v78 c1_i32_46
  let v81 : BitVec 32 := Scalar.muli v80 c1_i32_46
  let v82 : BitVec 32 := Scalar.addi c0_i32_45 v81
  let c1_i32_48 : BitVec 32 := 1#32
  let arg17 : BitVec 32 := Scf.iv v82 c1_i32_48 k0_t2
  let c1_i32_106 : BitVec 32 := 1#32
  let v189 : BitVec 32 := Scalar.addi arg17 c1_i32_106
  let c2_i32_107 : BitVec 32 := 2#32
  let c0_i32_108 : BitVec 32 := 0#32
  let v190 : BitVec 1 := Scalar.cmpi .eq c2_i32_107 c0_i32_108
  let c1_i32_109 : BitVec 32 := 1#32
  let v191 : BitVec 32 := Scalar.select v190 c1_i32_109 c2_i32_107
  let v192 : BitVec 32 := Scalar.remsi v189 v191
  let c0_i32_111 : BitVec 32 := 0#32
  let v194 : BitVec 1 := Scalar.cmpi .slt v192 c0_i32_111
  let c0_i32_112 : BitVec 32 := 0#32
  let v195 : BitVec 1 := Scalar.cmpi .slt v191 c0_i32_112
  let v196 : BitVec 1 := Scalar.xori v194 v195
  let c0_i32_110 : BitVec 32 := 0#32
  let v193 : BitVec 1 := Scalar.cmpi .ne v192 c0_i32_110
  let v197 : BitVec 1 := Scalar.andi v196 v193
  let v198 : BitVec 32 := Scalar.addi v192 v191
  let v199 : BitVec 32 := Scalar.select v197 v198 v192
  ![1, v199.toNat]
def k0_off16 (i : grid0.Coords) (k0_t2 : Fin (k0_t2_loop i).trips) : Fin 2 → Nat :=
  let c0_i32_146 : BitVec 32 := 0#32
  let c0_i32_45 : BitVec 32 := 0#32
  let arg1 : BitVec 32 := BitVec.ofNat 32 (i 1).val
  let v78 : BitVec 32 := Scalar.subi arg1 c0_i32_45
  let c1_i32_46 : BitVec 32 := 1#32
  let v80 : BitVec 32 := Scalar.divsi v78 c1_i32_46
  let v81 : BitVec 32 := Scalar.muli v80 c1_i32_46
  let v82 : BitVec 32 := Scalar.addi c0_i32_45 v81
  let c1_i32_48 : BitVec 32 := 1#32
  let arg17 : BitVec 32 := Scf.iv v82 c1_i32_48 k0_t2
  let c2_i32_132 : BitVec 32 := 2#32
  let c0_i32_133 : BitVec 32 := 0#32
  let v233 : BitVec 1 := Scalar.cmpi .eq c2_i32_132 c0_i32_133
  let c1_i32_134 : BitVec 32 := 1#32
  let v234 : BitVec 32 := Scalar.select v233 c1_i32_134 c2_i32_132
  let v235 : BitVec 32 := Scalar.remsi arg17 v234
  let c0_i32_136 : BitVec 32 := 0#32
  let v237 : BitVec 1 := Scalar.cmpi .slt v235 c0_i32_136
  let c0_i32_137 : BitVec 32 := 0#32
  let v238 : BitVec 1 := Scalar.cmpi .slt v234 c0_i32_137
  let v239 : BitVec 1 := Scalar.xori v237 v238
  let c0_i32_135 : BitVec 32 := 0#32
  let v236 : BitVec 1 := Scalar.cmpi .ne v235 c0_i32_135
  let v240 : BitVec 1 := Scalar.andi v239 v236
  let v241 : BitVec 32 := Scalar.addi v235 v234
  let v242 : BitVec 32 := Scalar.select v240 v241 v235
  ![0, v242.toNat]
def k0_off17 (i : grid0.Coords) (k0_t2 : Fin (k0_t2_loop i).trips) : Fin 3 → Nat :=
  let c0_i32_45 : BitVec 32 := 0#32
  let arg1 : BitVec 32 := BitVec.ofNat 32 (i 1).val
  let v78 : BitVec 32 := Scalar.subi arg1 c0_i32_45
  let c1_i32_46 : BitVec 32 := 1#32
  let v80 : BitVec 32 := Scalar.divsi v78 c1_i32_46
  let v81 : BitVec 32 := Scalar.muli v80 c1_i32_46
  let v82 : BitVec 32 := Scalar.addi c0_i32_45 v81
  let c1_i32_48 : BitVec 32 := 1#32
  let arg17 : BitVec 32 := Scf.iv v82 c1_i32_48 k0_t2
  let c2_i32_132 : BitVec 32 := 2#32
  let c0_i32_133 : BitVec 32 := 0#32
  let v233 : BitVec 1 := Scalar.cmpi .eq c2_i32_132 c0_i32_133
  let c1_i32_134 : BitVec 32 := 1#32
  let v234 : BitVec 32 := Scalar.select v233 c1_i32_134 c2_i32_132
  let v235 : BitVec 32 := Scalar.remsi arg17 v234
  let c0_i32_136 : BitVec 32 := 0#32
  let v237 : BitVec 1 := Scalar.cmpi .slt v235 c0_i32_136
  let c0_i32_137 : BitVec 32 := 0#32
  let v238 : BitVec 1 := Scalar.cmpi .slt v234 c0_i32_137
  let v239 : BitVec 1 := Scalar.xori v237 v238
  let c0_i32_135 : BitVec 32 := 0#32
  let v236 : BitVec 1 := Scalar.cmpi .ne v235 c0_i32_135
  let v240 : BitVec 1 := Scalar.andi v239 v236
  let v241 : BitVec 32 := Scalar.addi v235 v234
  let v242 : BitVec 32 := Scalar.select v240 v241 v235
  let c0_i32_147 : BitVec 32 := 0#32
  let c0_i32_148 : BitVec 32 := 0#32
  ![v242.toNat, 0, 0]
def k0_off18 (i : grid0.Coords) (k0_t2 : Fin (k0_t2_loop i).trips) : Fin 4 → Nat :=
  let arg0 : BitVec 32 := BitVec.ofNat 32 (i 0).val
  let arg1 : BitVec 32 := BitVec.ofNat 32 (i 1).val
  let c1_i32_138 : BitVec 32 := 1#32
  let v243 : BitVec 32 := Scalar.addi arg1 c1_i32_138
  let v244 : BitVec 32 := Scalar.muli arg1 v243
  let c0_i32_140 : BitVec 32 := 0#32
  let v246 : BitVec 1 := Scalar.cmpi .sgt v244 c0_i32_140
  let v247 : BitVec 32 := Scalar.extui v246
  let c0_i32_141 : BitVec 32 := 0#32
  let v248 : BitVec 1 := Scalar.cmpi .slt v244 c0_i32_141
  let v249 : BitVec 32 := Scalar.extui v248
  let v250 : BitVec 32 := Scalar.subi v247 v249
  let c2_i32_139 : BitVec 32 := 2#32
  let c0_i32_142 : BitVec 32 := 0#32
  let v251 : BitVec 1 := Scalar.cmpi .sgt c2_i32_139 c0_i32_142
  let v252 : BitVec 32 := Scalar.extui v251
  let c0_i32_143 : BitVec 32 := 0#32
  let v253 : BitVec 1 := Scalar.cmpi .slt c2_i32_139 c0_i32_143
  let v254 : BitVec 32 := Scalar.extui v253
  let v255 : BitVec 32 := Scalar.subi v252 v254
  let v256 : BitVec 1 := Scalar.cmpi .ne v250 v255
  let v257 : BitVec 32 := Scalar.remsi v244 c2_i32_139
  let c0_i32_144 : BitVec 32 := 0#32
  let v258 : BitVec 1 := Scalar.cmpi .ne v257 c0_i32_144
  let v259 : BitVec 1 := Scalar.andi v256 v258
  let v245 : BitVec 32 := Scalar.divsi v244 c2_i32_139
  let c1_i32_145 : BitVec 32 := 1#32
  let v260 : BitVec 32 := Scalar.subi v245 c1_i32_145
  let v261 : BitVec 32 := Scalar.select v259 v260 v245
  let c0_i32_45 : BitVec 32 := 0#32
  let v78 : BitVec 32 := Scalar.subi arg1 c0_i32_45
  let c1_i32_46 : BitVec 32 := 1#32
  let v80 : BitVec 32 := Scalar.divsi v78 c1_i32_46
  let v81 : BitVec 32 := Scalar.muli v80 c1_i32_46
  let v82 : BitVec 32 := Scalar.addi c0_i32_45 v81
  let c1_i32_48 : BitVec 32 := 1#32
  let arg17 : BitVec 32 := Scf.iv v82 c1_i32_48 k0_t2
  let v262 : BitVec 32 := Scalar.addi v261 arg17
  let c0_i32_149 : BitVec 32 := 0#32
  let c0_i32_150 : BitVec 32 := 0#32
  ![arg0.toNat, v262.toNat, 0, 0]
def k0_off19 (i : grid0.Coords) (k0_t2 : Fin (k0_t2_loop i).trips) : Fin 2 → Nat :=
  let c1_i32_151 : BitVec 32 := 1#32
  let c0_i32_45 : BitVec 32 := 0#32
  let arg1 : BitVec 32 := BitVec.ofNat 32 (i 1).val
  let v78 : BitVec 32 := Scalar.subi arg1 c0_i32_45
  let c1_i32_46 : BitVec 32 := 1#32
  let v80 : BitVec 32 := Scalar.divsi v78 c1_i32_46
  let v81 : BitVec 32 := Scalar.muli v80 c1_i32_46
  let v82 : BitVec 32 := Scalar.addi c0_i32_45 v81
  let c1_i32_48 : BitVec 32 := 1#32
  let arg17 : BitVec 32 := Scf.iv v82 c1_i32_48 k0_t2
  let c2_i32_132 : BitVec 32 := 2#32
  let c0_i32_133 : BitVec 32 := 0#32
  let v233 : BitVec 1 := Scalar.cmpi .eq c2_i32_132 c0_i32_133
  let c1_i32_134 : BitVec 32 := 1#32
  let v234 : BitVec 32 := Scalar.select v233 c1_i32_134 c2_i32_132
  let v235 : BitVec 32 := Scalar.remsi arg17 v234
  let c0_i32_136 : BitVec 32 := 0#32
  let v237 : BitVec 1 := Scalar.cmpi .slt v235 c0_i32_136
  let c0_i32_137 : BitVec 32 := 0#32
  let v238 : BitVec 1 := Scalar.cmpi .slt v234 c0_i32_137
  let v239 : BitVec 1 := Scalar.xori v237 v238
  let c0_i32_135 : BitVec 32 := 0#32
  let v236 : BitVec 1 := Scalar.cmpi .ne v235 c0_i32_135
  let v240 : BitVec 1 := Scalar.andi v239 v236
  let v241 : BitVec 32 := Scalar.addi v235 v234
  let v242 : BitVec 32 := Scalar.select v240 v241 v235
  ![1, v242.toNat]
def k0_mult2 (i : grid0.Coords) (k0_t2 : Fin (k0_t2_loop i).trips) : BitVec 32 :=
  let c0_i32_45 : BitVec 32 := 0#32
  let arg1 : BitVec 32 := BitVec.ofNat 32 (i 1).val
  let v78 : BitVec 32 := Scalar.subi arg1 c0_i32_45
  let c1_i32_46 : BitVec 32 := 1#32
  let v80 : BitVec 32 := Scalar.divsi v78 c1_i32_46
  let v81 : BitVec 32 := Scalar.muli v80 c1_i32_46
  let v82 : BitVec 32 := Scalar.addi c0_i32_45 v81
  let c1_i32_48 : BitVec 32 := 1#32
  let arg17 : BitVec 32 := Scf.iv v82 c1_i32_48 k0_t2
  let c256_i32_156 : BitVec 32 := 256#32
  let v275 : BitVec 32 := Scalar.muli arg17 c256_i32_156
  v275
def k0_off20 (i : grid0.Coords) (k0_t2 : Fin (k0_t2_loop i).trips) : Fin 2 → Nat :=
  let c0_i32_45 : BitVec 32 := 0#32
  let arg1 : BitVec 32 := BitVec.ofNat 32 (i 1).val
  let v78 : BitVec 32 := Scalar.subi arg1 c0_i32_45
  let c1_i32_46 : BitVec 32 := 1#32
  let v80 : BitVec 32 := Scalar.divsi v78 c1_i32_46
  let v81 : BitVec 32 := Scalar.muli v80 c1_i32_46
  let v82 : BitVec 32 := Scalar.addi c0_i32_45 v81
  let c1_i32_48 : BitVec 32 := 1#32
  let arg17 : BitVec 32 := Scf.iv v82 c1_i32_48 k0_t2
  let c256_i32_156 : BitVec 32 := 256#32
  let v275 : BitVec 32 := Scalar.muli arg17 c256_i32_156
  let v276 : BitVec 32 := v275
  let v277 : Index := Scalar.indexCast v276
  let c0_157 : Index := 0#32
  ![v277.toNat, 0]
def k0_off21 (i : grid0.Coords) (k0_t2 : Fin (k0_t2_loop i).trips) : Fin 3 → Nat :=
  let c0_i32_45 : BitVec 32 := 0#32
  let arg1 : BitVec 32 := BitVec.ofNat 32 (i 1).val
  let v78 : BitVec 32 := Scalar.subi arg1 c0_i32_45
  let c1_i32_46 : BitVec 32 := 1#32
  let v80 : BitVec 32 := Scalar.divsi v78 c1_i32_46
  let v81 : BitVec 32 := Scalar.muli v80 c1_i32_46
  let v82 : BitVec 32 := Scalar.addi c0_i32_45 v81
  let c1_i32_48 : BitVec 32 := 1#32
  let arg17 : BitVec 32 := Scf.iv v82 c1_i32_48 k0_t2
  let c2_i32_132 : BitVec 32 := 2#32
  let c0_i32_133 : BitVec 32 := 0#32
  let v233 : BitVec 1 := Scalar.cmpi .eq c2_i32_132 c0_i32_133
  let c1_i32_134 : BitVec 32 := 1#32
  let v234 : BitVec 32 := Scalar.select v233 c1_i32_134 c2_i32_132
  let v235 : BitVec 32 := Scalar.remsi arg17 v234
  let c0_i32_136 : BitVec 32 := 0#32
  let v237 : BitVec 1 := Scalar.cmpi .slt v235 c0_i32_136
  let c0_i32_137 : BitVec 32 := 0#32
  let v238 : BitVec 1 := Scalar.cmpi .slt v234 c0_i32_137
  let v239 : BitVec 1 := Scalar.xori v237 v238
  let c0_i32_135 : BitVec 32 := 0#32
  let v236 : BitVec 1 := Scalar.cmpi .ne v235 c0_i32_135
  let v240 : BitVec 1 := Scalar.andi v239 v236
  let v241 : BitVec 32 := Scalar.addi v235 v234
  let v242 : BitVec 32 := Scalar.select v240 v241 v235
  let v281 : Index := Scalar.indexCast v242
  let c0_159 : Index := 0#32
  let c0_160 : Index := 0#32
  ![v281.toNat, 0, 0]
def k0_off22 (i : grid0.Coords) : Fin 2 → Nat :=
  let c0_i32_63 : BitVec 32 := 0#32
  let arg1 : BitVec 32 := BitVec.ofNat 32 (i 1).val
  let c2_i32_49 : BitVec 32 := 2#32
  let c0_i32_50 : BitVec 32 := 0#32
  let v83 : BitVec 1 := Scalar.cmpi .eq c2_i32_49 c0_i32_50
  let c1_i32_51 : BitVec 32 := 1#32
  let v84 : BitVec 32 := Scalar.select v83 c1_i32_51 c2_i32_49
  let v85 : BitVec 32 := Scalar.remsi arg1 v84
  let c0_i32_53 : BitVec 32 := 0#32
  let v87 : BitVec 1 := Scalar.cmpi .slt v85 c0_i32_53
  let c0_i32_54 : BitVec 32 := 0#32
  let v88 : BitVec 1 := Scalar.cmpi .slt v84 c0_i32_54
  let v89 : BitVec 1 := Scalar.xori v87 v88
  let c0_i32_52 : BitVec 32 := 0#32
  let v86 : BitVec 1 := Scalar.cmpi .ne v85 c0_i32_52
  let v90 : BitVec 1 := Scalar.andi v89 v86
  let v91 : BitVec 32 := Scalar.addi v85 v84
  let v92 : BitVec 32 := Scalar.select v90 v91 v85
  ![0, v92.toNat]
def k0_off23 (i : grid0.Coords) : Fin 3 → Nat :=
  let arg1 : BitVec 32 := BitVec.ofNat 32 (i 1).val
  let c2_i32_49 : BitVec 32 := 2#32
  let c0_i32_50 : BitVec 32 := 0#32
  let v83 : BitVec 1 := Scalar.cmpi .eq c2_i32_49 c0_i32_50
  let c1_i32_51 : BitVec 32 := 1#32
  let v84 : BitVec 32 := Scalar.select v83 c1_i32_51 c2_i32_49
  let v85 : BitVec 32 := Scalar.remsi arg1 v84
  let c0_i32_53 : BitVec 32 := 0#32
  let v87 : BitVec 1 := Scalar.cmpi .slt v85 c0_i32_53
  let c0_i32_54 : BitVec 32 := 0#32
  let v88 : BitVec 1 := Scalar.cmpi .slt v84 c0_i32_54
  let v89 : BitVec 1 := Scalar.xori v87 v88
  let c0_i32_52 : BitVec 32 := 0#32
  let v86 : BitVec 1 := Scalar.cmpi .ne v85 c0_i32_52
  let v90 : BitVec 1 := Scalar.andi v89 v86
  let v91 : BitVec 32 := Scalar.addi v85 v84
  let v92 : BitVec 32 := Scalar.select v90 v91 v85
  let c0_i32_64 : BitVec 32 := 0#32
  let c0_i32_65 : BitVec 32 := 0#32
  ![v92.toNat, 0, 0]
def k0_off24 (i : grid0.Coords) : Fin 4 → Nat :=
  let arg0 : BitVec 32 := BitVec.ofNat 32 (i 0).val
  let arg1 : BitVec 32 := BitVec.ofNat 32 (i 1).val
  let c1_i32_55 : BitVec 32 := 1#32
  let v93 : BitVec 32 := Scalar.addi arg1 c1_i32_55
  let v94 : BitVec 32 := Scalar.muli arg1 v93
  let c0_i32_57 : BitVec 32 := 0#32
  let v96 : BitVec 1 := Scalar.cmpi .sgt v94 c0_i32_57
  let v97 : BitVec 32 := Scalar.extui v96
  let c0_i32_58 : BitVec 32 := 0#32
  let v98 : BitVec 1 := Scalar.cmpi .slt v94 c0_i32_58
  let v99 : BitVec 32 := Scalar.extui v98
  let v100 : BitVec 32 := Scalar.subi v97 v99
  let c2_i32_56 : BitVec 32 := 2#32
  let c0_i32_59 : BitVec 32 := 0#32
  let v101 : BitVec 1 := Scalar.cmpi .sgt c2_i32_56 c0_i32_59
  let v102 : BitVec 32 := Scalar.extui v101
  let c0_i32_60 : BitVec 32 := 0#32
  let v103 : BitVec 1 := Scalar.cmpi .slt c2_i32_56 c0_i32_60
  let v104 : BitVec 32 := Scalar.extui v103
  let v105 : BitVec 32 := Scalar.subi v102 v104
  let v106 : BitVec 1 := Scalar.cmpi .ne v100 v105
  let v107 : BitVec 32 := Scalar.remsi v94 c2_i32_56
  let c0_i32_61 : BitVec 32 := 0#32
  let v108 : BitVec 1 := Scalar.cmpi .ne v107 c0_i32_61
  let v109 : BitVec 1 := Scalar.andi v106 v108
  let v95 : BitVec 32 := Scalar.divsi v94 c2_i32_56
  let c1_i32_62 : BitVec 32 := 1#32
  let v110 : BitVec 32 := Scalar.subi v95 c1_i32_62
  let v111 : BitVec 32 := Scalar.select v109 v110 v95
  let v112 : BitVec 32 := Scalar.addi v111 arg1
  let c0_i32_66 : BitVec 32 := 0#32
  let c0_i32_67 : BitVec 32 := 0#32
  ![arg0.toNat, v112.toNat, 0, 0]
def k0_off25 (i : grid0.Coords) : Fin 2 → Nat :=
  let c1_i32_68 : BitVec 32 := 1#32
  let arg1 : BitVec 32 := BitVec.ofNat 32 (i 1).val
  let c2_i32_49 : BitVec 32 := 2#32
  let c0_i32_50 : BitVec 32 := 0#32
  let v83 : BitVec 1 := Scalar.cmpi .eq c2_i32_49 c0_i32_50
  let c1_i32_51 : BitVec 32 := 1#32
  let v84 : BitVec 32 := Scalar.select v83 c1_i32_51 c2_i32_49
  let v85 : BitVec 32 := Scalar.remsi arg1 v84
  let c0_i32_53 : BitVec 32 := 0#32
  let v87 : BitVec 1 := Scalar.cmpi .slt v85 c0_i32_53
  let c0_i32_54 : BitVec 32 := 0#32
  let v88 : BitVec 1 := Scalar.cmpi .slt v84 c0_i32_54
  let v89 : BitVec 1 := Scalar.xori v87 v88
  let c0_i32_52 : BitVec 32 := 0#32
  let v86 : BitVec 1 := Scalar.cmpi .ne v85 c0_i32_52
  let v90 : BitVec 1 := Scalar.andi v89 v86
  let v91 : BitVec 32 := Scalar.addi v85 v84
  let v92 : BitVec 32 := Scalar.select v90 v91 v85
  ![1, v92.toNat]
def k0_mult3 (i : grid0.Coords) : BitVec 32 :=
  let arg1 : BitVec 32 := BitVec.ofNat 32 (i 1).val
  let c256_i32_73 : BitVec 32 := 256#32
  let v125 : BitVec 32 := Scalar.muli arg1 c256_i32_73
  v125
def k0_off26 (i : grid0.Coords) : Fin 2 → Nat :=
  let arg1 : BitVec 32 := BitVec.ofNat 32 (i 1).val
  let c256_i32_73 : BitVec 32 := 256#32
  let v125 : BitVec 32 := Scalar.muli arg1 c256_i32_73
  let v126 : BitVec 32 := v125
  let v127 : Index := Scalar.indexCast v126
  let c0_74 : Index := 0#32
  ![v127.toNat, 0]
def k0_off27 (i : grid0.Coords) : Fin 3 → Nat :=
  let arg1 : BitVec 32 := BitVec.ofNat 32 (i 1).val
  let c2_i32_49 : BitVec 32 := 2#32
  let c0_i32_50 : BitVec 32 := 0#32
  let v83 : BitVec 1 := Scalar.cmpi .eq c2_i32_49 c0_i32_50
  let c1_i32_51 : BitVec 32 := 1#32
  let v84 : BitVec 32 := Scalar.select v83 c1_i32_51 c2_i32_49
  let v85 : BitVec 32 := Scalar.remsi arg1 v84
  let c0_i32_53 : BitVec 32 := 0#32
  let v87 : BitVec 1 := Scalar.cmpi .slt v85 c0_i32_53
  let c0_i32_54 : BitVec 32 := 0#32
  let v88 : BitVec 1 := Scalar.cmpi .slt v84 c0_i32_54
  let v89 : BitVec 1 := Scalar.xori v87 v88
  let c0_i32_52 : BitVec 32 := 0#32
  let v86 : BitVec 1 := Scalar.cmpi .ne v85 c0_i32_52
  let v90 : BitVec 1 := Scalar.andi v89 v86
  let v91 : BitVec 32 := Scalar.addi v85 v84
  let v92 : BitVec 32 := Scalar.select v90 v91 v85
  let v131 : Index := Scalar.indexCast v92
  let c0_76 : Index := 0#32
  let c0_77 : Index := 0#32
  ![v131.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S4096x2048 : Shape := ⟨2, ![4096, 2048]⟩
abbrev S4096x1024 : Shape := ⟨2, ![4096, 1024]⟩
abbrev S4096x512 : Shape := ⟨2, ![4096, 512]⟩
abbrev S4096x4x4x128 : Shape := ⟨4, ![4096, 4, 4, 128]⟩
abbrev S4096x4x128 : Shape := ⟨3, ![4096, 4, 128]⟩
abbrev S4x4096x4096x4 : Shape := ⟨4, ![4, 4096, 4096, 4]⟩
abbrev S4x4x4096x4096 : Shape := ⟨4, ![4, 4, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x128x4x4096 : Shape := ⟨4, ![4, 128, 4, 4096]⟩
abbrev S4x128x4096 : Shape := ⟨3, ![4, 128, 4096]⟩
abbrev S4x4096x4x128 : Shape := ⟨4, ![4, 4096, 4, 128]⟩
abbrev S4x4096x128 : Shape := ⟨3, ![4, 4096, 128]⟩

abbrev nBuf : Space → Nat
  | .hbm => 130
  | .vmem => 0
  | .smem => 0
  | _ => 0

abbrev hbmTy0_0 (i : Nat) : BufTy := match i % 128 with
  | 0 => ⟨S4096x2048, .bf16⟩
  | 1 => ⟨S4096x1024, .bf16⟩
  | 2 => ⟨S4096x2048, .bf16⟩
  | 3 => ⟨S4096x2048, .f32⟩
  | 4 => ⟨S4096x1024, .f32⟩
  | 5 => ⟨S4096x2048, .f32⟩
  | 6 => ⟨S4096x512, .f32⟩
  | 7 => ⟨S4096x512, .f32⟩
  | 8 => ⟨S4096x4x4x128, .f32⟩
  | 9 => ⟨S4096x4x128, .f32⟩
  | 10 => ⟨S4096x4x128, .f32⟩
  | 11 => ⟨S4x4096x4096x4, .f32⟩
  | 12 => ⟨S4x4x4096x4096, .f32⟩
  | 13 => ⟨S_, .f32⟩
  | 14 => ⟨S4x4x4096x4096, .f32⟩
  | 15 => ⟨S4x4x4096x4096, .f32⟩
  | 16 => ⟨S4096, .i32⟩
  | 17 => ⟨S1x4096, .i32⟩
  | 18 => ⟨S4096, .i32⟩
  | 19 => ⟨S4096x1, .i32⟩
  | 20 => ⟨S4096x4096, .i32⟩
  | 21 => ⟨S4096x4096, .i32⟩
  | 22 => ⟨S4096x4096, .i1⟩
  | 23 => ⟨S4x4x4096x4096, .f32⟩
  | 24 => ⟨S_, .f32⟩
  | 25 => ⟨S4x4x4096x4096, .f32⟩
  | 26 => ⟨S4x4x4096x4096, .f32⟩
  | 27 => ⟨S4x4x4096x4096, .f32⟩
  | 28 => ⟨S4x4x4096x4096, .f32⟩
  | 29 => ⟨S4x4x4096x4096, .i1⟩
  | 30 => ⟨S4x4x4096x4096, .f32⟩
  | 31 => ⟨S4x4x4096x4096, .f32⟩
  | 32 => ⟨S4x4x4096x4096, .f32⟩
  | 33 => ⟨S4x4x4096x4096, .f32⟩
  | 34 => ⟨S4x4x4096x4096, .f32⟩
  | 35 => ⟨S4x4x4096x4096, .f32⟩
  | 36 => ⟨S4x4x4096x4096, .f32⟩
  | 37 => ⟨S4x4x4096x4096, .f32⟩
  | 38 => ⟨S_, .f32⟩
  | 39 => ⟨S4x4x4096x4096, .f32⟩
  | 40 => ⟨S4x4x4096x4096, .i1⟩
  | 41 => ⟨S_, .f32⟩
  | 42 => ⟨S4x4x4096x4096, .f32⟩
  | 43 => ⟨S4x4x4096x4096, .f32⟩
  | 44 => ⟨S_, .f32⟩
  | 45 => ⟨S4x4x4096x4096, .f32⟩
  | 46 => ⟨S4x4x4096x4096, .i1⟩
  | 47 => ⟨S_, .f32⟩
  | 48 => ⟨S4x4x4096x4096, .f32⟩
  | 49 => ⟨S4x4x4096x4096, .f32⟩
  | 50 => ⟨S4x4x4096x4096, .f32⟩
  | 51 => ⟨S4x4x4096x4096, .f32⟩
  | 52 => ⟨S_, .f32⟩
  | 53 => ⟨S_, .f32⟩
  | 54 => ⟨S_, .i1⟩
  | 55 => ⟨S_, .f32⟩
  | 56 => ⟨S_, .f32⟩
  | 57 => ⟨S_, .f32⟩
  | 58 => ⟨S_, .f32⟩
  | 59 => ⟨S4x4x4096x4096, .f32⟩
  | 60 => ⟨S4x4x4096x4096, .i1⟩
  | 61 => ⟨S_, .f32⟩
  | 62 => ⟨S4x4x4096x4096, .f32⟩
  | 63 => ⟨S4x4x4096x4096, .f32⟩
  | 64 => ⟨S4x4x4096x4096, .f32⟩
  | 65 => ⟨S4x4x4096x4096, .f32⟩
  | 66 => ⟨S4x4x4096x4096, .f32⟩
  | 67 => ⟨S_, .f32⟩
  | 68 => ⟨S4x4x4096x4096, .f32⟩
  | 69 => ⟨S4x4x4096x4096, .f32⟩
  | 70 => ⟨S4x4x4096x4096, .f32⟩
  | 71 => ⟨S4x4x4096x4096, .f32⟩
  | 72 => ⟨S_, .f32⟩
  | 73 => ⟨S_, .f32⟩
  | 74 => ⟨S4x4x4096x4096, .i1⟩
  | 75 => ⟨S4x4x4096x4096, .f32⟩
  | 76 => ⟨S4x4x4096x4096, .f32⟩
  | 77 => ⟨S_, .f32⟩
  | 78 => ⟨S4x4x4096x4096, .f32⟩
  | 79 => ⟨S_, .f32⟩
  | 80 => ⟨S_, .f32⟩
  | 81 => ⟨S4x4x4096x4096, .f32⟩
  | 82 => ⟨S4x4x4096x4096, .f32⟩
  | 83 => ⟨S4x4x4096x4096, .f32⟩
  | 84 => ⟨S4x4x4096x4096, .f32⟩
  | 85 => ⟨S_, .f32⟩
  | 86 => ⟨S_, .f32⟩
  | 87 => ⟨S4x4x4096x4096, .i1⟩
  | 88 => ⟨S4x4x4096x4096, .f32⟩
  | 89 => ⟨S4x4x4096x4096, .f32⟩
  | 90 => ⟨S_, .f32⟩
  | 91 => ⟨S4x4x4096x4096, .f32⟩
  | 92 => ⟨S4x128x4x4096, .f32⟩
  | 93 => ⟨S4096x4x4x128, .f32⟩
  | 94 => ⟨S4096x2048, .f32⟩
  | 95 => ⟨S4096x4x4x128, .f32⟩
  | 96 => ⟨S4x128x4x4096, .f32⟩
  | 97 => ⟨S4x4x4096x4096, .f32⟩
  | 98 => ⟨S4x128x4096, .f32⟩
  | 99 => ⟨S4096x4x128, .f32⟩
  | 100 => ⟨S_, .f32⟩
  | 101 => ⟨S4x4x4096x4096, .f32⟩
  | 102 => ⟨S4x4x4096x4096, .f32⟩
  | 103 => ⟨S4x4x4096x4096, .f32⟩
  | 104 => ⟨S4x4x4096x4096, .f32⟩
  | 105 => ⟨S_, .f32⟩
  | 106 => ⟨S_, .f32⟩
  | 107 => ⟨S4x4x4096x4096, .f32⟩
  | 108 => ⟨S4x4x4096x4096, .f32⟩
  | 109 => ⟨S_, .f32⟩
  | 110 => ⟨S4x4x4096x4096, .f32⟩
  | 111 => ⟨S4x4x4096x4096, .f32⟩
  | 112 => ⟨S4x4x4096x4096, .f32⟩
  | 113 => ⟨S4x4x4096x4096, .f32⟩
  | 114 => ⟨S4x4x4096x4096, .f32⟩
  | 115 => ⟨S4x4x4096x4096, .f32⟩
  | 116 => ⟨S4x4x4096x4096, .f32⟩
  | 117 => ⟨S4x4x4096x4096, .f32⟩
  | 118 => ⟨S_, .f32⟩
  | 119 => ⟨S4x4x4096x4096, .f32⟩
  | 120 => ⟨S4x4x4096x4096, .f32⟩
  | 121 => ⟨S4x4096x4096x4, .f32⟩
  | 122 => ⟨S4x4096x4x128, .f32⟩
  | 123 => ⟨S4096x4x4x128, .f32⟩
  | 124 => ⟨S4x4096x128, .f32⟩
  | 125 => ⟨S4096x4x128, .f32⟩
  | 126 => ⟨S4096x512, .f32⟩
  | 127 => ⟨S4096x512, .f32⟩
  | _ => ⟨S4096x2048, .bf16⟩

abbrev hbmTy0_1 (i : Nat) : BufTy := match i % 128 with
  | 0 => ⟨S4096x2048, .f32⟩
  | 1 => ⟨S4096x2048, .bf16⟩
  | _ => ⟨S4096x2048, .bf16⟩

abbrev hbmTy (i : Nat) : BufTy := match i / 128 with
  | 0 => hbmTy0_0 i
  | 1 => hbmTy0_1 i
  | _ => ⟨S4096x2048, .bf16⟩

abbrev bufTy : (tb : Table) → Fin (tcTables nBuf tb) → BufTy
  | .hbm, ⟨i, _⟩ => hbmTy i
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1_0 : Ref sig .tc := ⟨.hbm, 37, rfl⟩
abbrev main_call0_call0_cst_0 : Ref sig .tc := ⟨.hbm, 38, rfl⟩
abbrev main_call0_call0_v13 : Ref sig .tc := ⟨.hbm, 39, rfl⟩
abbrev main_call0_call0_v14 : Ref sig .tc := ⟨.hbm, 40, rfl⟩
abbrev main_call0_call0_cst_1 : Ref sig .tc := ⟨.hbm, 41, rfl⟩
abbrev main_call0_call0_v15 : Ref sig .tc := ⟨.hbm, 42, rfl⟩
abbrev main_call0_call0_v16 : Ref sig .tc := ⟨.hbm, 43, rfl⟩
abbrev main_call0_call0_cst_2 : Ref sig .tc := ⟨.hbm, 44, rfl⟩
abbrev main_call0_call0_v17 : Ref sig .tc := ⟨.hbm, 45, rfl⟩
abbrev main_call0_call0_v18 : Ref sig .tc := ⟨.hbm, 46, rfl⟩
abbrev main_call0_call0_cst_3 : Ref sig .tc := ⟨.hbm, 47, rfl⟩
abbrev main_call0_call0_v19 : Ref sig .tc := ⟨.hbm, 48, rfl⟩
abbrev main_call0_call0_v20 : Ref sig .tc := ⟨.hbm, 49, rfl⟩
abbrev main_call0_call0_v21 : Ref sig .tc := ⟨.hbm, 50, rfl⟩
abbrev main_v19_1 : Ref sig .tc := ⟨.hbm, 51, rfl⟩
abbrev main_call0_call0_cst_4 : Ref sig .tc := ⟨.hbm, 52, rfl⟩
abbrev main_call0_call0_cst_5 : Ref sig .tc := ⟨.hbm, 53, rfl⟩
abbrev main_call0_call0_v23 : Ref sig .tc := ⟨.hbm, 54, rfl⟩
abbrev main_call0_call0_cst_6 : Ref sig .tc := ⟨.hbm, 55, rfl⟩
abbrev main_call0_call0_cst_7 : Ref sig .tc := ⟨.hbm, 56, rfl⟩
abbrev main_call0_call0_v24 : Ref sig .tc := ⟨.hbm, 57, rfl⟩
abbrev main_call0_call0_cst_8 : Ref sig .tc := ⟨.hbm, 58, rfl⟩
abbrev main_call0_call0_v25 : Ref sig .tc := ⟨.hbm, 59, rfl⟩
abbrev main_call0_call0_v26 : Ref sig .tc := ⟨.hbm, 60, rfl⟩
abbrev main_call0_call0_cst_9 : Ref sig .tc := ⟨.hbm, 61, rfl⟩
abbrev main_call0_call0_v27 : Ref sig .tc := ⟨.hbm, 62, rfl⟩
abbrev main_call0_call0_v28 : Ref sig .tc := ⟨.hbm, 63, rfl⟩
abbrev main_call0_call0_v29 : Ref sig .tc := ⟨.hbm, 64, rfl⟩
abbrev main_call0_call0_v30 : Ref sig .tc := ⟨.hbm, 65, rfl⟩
abbrev main_call0_call0_v31 : Ref sig .tc := ⟨.hbm, 66, rfl⟩
abbrev main_call0_call0_cst_10 : Ref sig .tc := ⟨.hbm, 67, rfl⟩
abbrev main_call0_call0_v32 : Ref sig .tc := ⟨.hbm, 68, rfl⟩
abbrev main_v19_2 : Ref sig .tc := ⟨.hbm, 69, rfl⟩
abbrev main_v19_0 : Ref sig .tc := ⟨.hbm, 70, rfl⟩
abbrev main_v20 : Ref sig .tc := ⟨.hbm, 71, rfl⟩
abbrev main_cst_0 : Ref sig .tc := ⟨.hbm, 72, rfl⟩
abbrev main_call1_v0 : Ref sig .tc := ⟨.hbm, 73, rfl⟩
abbrev main_v21_1 : Ref sig .tc := ⟨.hbm, 74, rfl⟩
abbrev main_call1_v2 : Ref sig .tc := ⟨.hbm, 75, rfl⟩
abbrev main_v21_0 : Ref sig .tc := ⟨.hbm, 76, rfl⟩
abbrev main_call1_cst : Ref sig .tc := ⟨.hbm, 77, rfl⟩
abbrev main_v21_2 : Ref sig .tc := ⟨.hbm, 78, rfl⟩
abbrev main_call2_cst : Ref sig .tc := ⟨.hbm, 79, rfl⟩
abbrev main_call2_v0 : Ref sig .tc := ⟨.hbm, 80, rfl⟩
abbrev main_v22 : Ref sig .tc := ⟨.hbm, 81, rfl⟩
abbrev main_v23 : Ref sig .tc := ⟨.hbm, 82, rfl⟩
abbrev main_v24 : Ref sig .tc := ⟨.hbm, 83, rfl⟩
abbrev main_v25 : Ref sig .tc := ⟨.hbm, 84, rfl⟩
abbrev main_cst_1 : Ref sig .tc := ⟨.hbm, 85, rfl⟩
abbrev main_call3_v0 : Ref sig .tc := ⟨.hbm, 86, rfl⟩
abbrev main_v26_1 : Ref sig .tc := ⟨.hbm, 87, rfl⟩
abbrev main_call3_v2 : Ref sig .tc := ⟨.hbm, 88, rfl⟩
abbrev main_v26_0 : Ref sig .tc := ⟨.hbm, 89, rfl⟩
abbrev main_call3_cst : Ref sig .tc := ⟨.hbm, 90, rfl⟩
abbrev main_v26_2 : Ref sig .tc := ⟨.hbm, 91, rfl⟩
abbrev main_v27 : Ref sig .tc := ⟨.hbm, 92, rfl⟩
abbrev main_v28 : Ref sig .tc := ⟨.hbm, 93, rfl⟩
abbrev main_v29 : Ref sig .tc := ⟨.hbm, 94, rfl⟩
abbrev main_v30 : Ref sig .tc := ⟨.hbm, 95, rfl⟩
abbrev main_v31 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_call4_cst : Ref sig .tc := ⟨.hbm, 100, rfl⟩
abbrev main_call4_v0 : Ref sig .tc := ⟨.hbm, 101, rfl⟩
abbrev main_v35 : Ref sig .tc := ⟨.hbm, 102, rfl⟩
abbrev main_v36 : Ref sig .tc := ⟨.hbm, 103, rfl⟩
abbrev main_v37 : Ref sig .tc := ⟨.hbm, 104, rfl⟩
abbrev main_call5_cst : Ref sig .tc := ⟨.hbm, 105, rfl⟩
abbrev main_call5_v0 : Ref sig .tc := ⟨.hbm, 106, rfl⟩
abbrev main_v38 : Ref sig .tc := ⟨.hbm, 107, rfl⟩
abbrev main_v39 : Ref sig .tc := ⟨.hbm, 108, rfl⟩
abbrev main_call6_cst : Ref sig .tc := ⟨.hbm, 109, rfl⟩
abbrev main_call6_v0 : Ref sig .tc := ⟨.hbm, 110, rfl⟩
abbrev main_v40 : Ref sig .tc := ⟨.hbm, 111, rfl⟩
abbrev main_v41 : Ref sig .tc := ⟨.hbm, 112, rfl⟩
abbrev main_v42 : Ref sig .tc := ⟨.hbm, 113, rfl⟩
abbrev main_call7_v0 : Ref sig .tc := ⟨.hbm, 114, rfl⟩
abbrev main_call7_v1 : Ref sig .tc := ⟨.hbm, 115, rfl⟩
abbrev main_v43 : Ref sig .tc := ⟨.hbm, 116, rfl⟩
abbrev main_v44 : Ref sig .tc := ⟨.hbm, 117, rfl⟩
abbrev main_cst_2 : Ref sig .tc := ⟨.hbm, 118, rfl⟩
abbrev main_v45 : Ref sig .tc := ⟨.hbm, 119, rfl⟩
abbrev main_v46 : Ref sig .tc := ⟨.hbm, 120, rfl⟩
abbrev main_v47 : Ref sig .tc := ⟨.hbm, 121, rfl⟩
abbrev main_v48 : Ref sig .tc := ⟨.hbm, 122, rfl⟩
abbrev main_v49 : Ref sig .tc := ⟨.hbm, 123, rfl⟩
abbrev main_v50 : Ref sig .tc := ⟨.hbm, 124, rfl⟩
abbrev main_v51 : Ref sig .tc := ⟨.hbm, 125, rfl⟩
abbrev main_v52 : Ref sig .tc := ⟨.hbm, 126, rfl⟩
abbrev main_v53 : Ref sig .tc := ⟨.hbm, 127, rfl⟩
abbrev main_v54 : Ref sig .tc := ⟨.hbm, 128, rfl⟩
abbrev main_v55 : Ref sig .tc := ⟨.hbm, 129, rfl⟩

abbrev nD : Nat := 1
abbrev τ : Topo := Topo.v7x

variable {F : FTy → Type} [FloatOps F]
-- ==== DownDw.lean ====
abbrev S4096x8192 : Shape := ⟨2, ![4096, 8192]⟩
abbrev S4096x2048 : Shape := ⟨2, ![4096, 2048]⟩
abbrev S8192x2048 : Shape := ⟨2, ![8192, 2048]⟩
abbrev S2048x512 : Shape := ⟨2, ![2048, 512]⟩
abbrev S2048x2048 : Shape := ⟨2, ![2048, 2048]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S8192x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 16, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S2048x8192 : Shape := ⟨2, ![2048, 8192]⟩

abbrev nBuf : Space → Nat
  | .hbm => 10
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S4096x8192, .f32⟩
  | .hbm, ⟨3, _⟩ => ⟨S4096x2048, .f32⟩
  | .hbm, ⟨4, _⟩ => ⟨S_, .f32⟩
  | .hbm, ⟨5, _⟩ => ⟨S8192x2048, .f32⟩
  | .hbm, ⟨6, _⟩ => ⟨S4096x2048, .f32⟩
  | .hbm, ⟨7, _⟩ => ⟨S2048x8192, .f32⟩
  | .hbm, ⟨8, _⟩ => ⟨S8192x2048, .f32⟩
  | .hbm, ⟨9, _⟩ => ⟨S8192x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DownDz.lean ====
abbrev S4096x2048 : Shape := ⟨2, ![4096, 2048]⟩
abbrev S8192x2048 : Shape := ⟨2, ![8192, 2048]⟩
abbrev S4096x8192 : Shape := ⟨2, ![4096, 8192]⟩
abbrev S_ : Shape := ⟨0, ![]⟩
abbrev S512x2048 : Shape := ⟨2, ![512, 2048]⟩
abbrev S2048x2048 : Shape := ⟨2, ![2048, 2048]⟩

abbrev nBuf : Space → Nat
  | .hbm => 7
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .bf16⟩
  | .hbm, ⟨3, _⟩ => ⟨S_, .bf16⟩
  | .hbm, ⟨4, _⟩ => ⟨S4096x8192, .bf16⟩
  | .hbm, ⟨5, _⟩ => ⟨S4096x8192, .bf16⟩
  | .hbm, ⟨6, _⟩ => ⟨S4096x8192, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownDzRefIdeal.lean ====
abbrev S4096x2048 : Shape := ⟨2, ![4096, 2048]⟩
abbrev S8192x2048 : Shape := ⟨2, ![8192, 2048]⟩
abbrev S4096x8192 : Shape := ⟨2, ![4096, 8192]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .bf16⟩
  | .hbm, ⟨3, _⟩ => ⟨S4096x2048, .f32⟩
  | .hbm, ⟨4, _⟩ => ⟨S8192x2048, .f32⟩
  | .hbm, ⟨5, _⟩ => ⟨S4096x8192, .f32⟩
  | .hbm, ⟨6, _⟩ => ⟨S_, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S4096x8192, .f32⟩
  | .hbm, ⟨11, _⟩ => ⟨S4096x8192, .i1⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S4096x2048, .f32⟩
  | .hbm, ⟨16, _⟩ => ⟨S4096x8192, .f32⟩
  | .hbm, ⟨17, _⟩ => ⟨S4096x8192, .f32⟩
  | .hbm, ⟨18, _⟩ => ⟨S4096x8192, .f32⟩
  | .hbm, ⟨19, _⟩ => ⟨S4096x8192, .f32⟩
  | .hbm, ⟨20, _⟩ => ⟨S_, .f32⟩
  | .hbm, ⟨21, _⟩ => ⟨S4096x8192, .f32⟩
  | .hbm, ⟨22, _⟩ => ⟨S4096x8192, .f32⟩
  | .hbm, ⟨23, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== UpDw.lean ====
abbrev S4096x2048 : Shape := ⟨2, ![4096, 2048]⟩
abbrev S4096x8192 : Shape := ⟨2, ![4096, 8192]⟩
abbrev S2048x8192 : Shape := ⟨2, ![2048, 8192]⟩
abbrev S2048x512 : Shape := ⟨2, ![2048, 512]⟩
abbrev S2048x2048 : Shape := ⟨2, ![2048, 2048]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S2048x8192, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S4096x2048, .f32⟩
  | .hbm, ⟨3, _⟩ => ⟨S4096x8192, .f32⟩
  | .hbm, ⟨4, _⟩ => ⟨S_, .f32⟩
  | .hbm, ⟨5, _⟩ => ⟨S2048x8192, .f32⟩
  | .hbm, ⟨6, _⟩ => ⟨S4096x8192, .f32⟩
  | .hbm, ⟨7, _⟩ => ⟨S8192x2048, .f32⟩
  | .hbm, ⟨8, _⟩ => ⟨S2048x8192, .f32⟩
  | .hbm, ⟨9, _⟩ => ⟨S2048x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpDh.lean ====
abbrev S4096x8192 : Shape := ⟨2, ![4096, 8192]⟩
abbrev S2048x8192 : Shape := ⟨2, ![2048, 8192]⟩
abbrev S4096x2048 : Shape := ⟨2, ![4096, 2048]⟩
abbrev S512x2048 : Shape := ⟨2, ![512, 2048]⟩
abbrev S2048x2048 : Shape := ⟨2, ![2048, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDhRefIdeal.lean ====
abbrev S4096x8192 : Shape := ⟨2, ![4096, 8192]⟩
abbrev S2048x8192 : Shape := ⟨2, ![2048, 8192]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S4096x8192, .f32⟩
  | .hbm, ⟨3, _⟩ => ⟨S2048x8192, .f32⟩
  | .hbm, ⟨4, _⟩ => ⟨S_, .f32⟩
  | .hbm, ⟨5, _⟩ => ⟨S4096x2048, .f32⟩
  | .hbm, ⟨6, _⟩ => ⟨S4096x8192, .f32⟩
  | .hbm, ⟨7, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutDw.lean ====
abbrev S4096x2048 : Shape := ⟨2, ![4096, 2048]⟩
abbrev S2048x2048 : Shape := ⟨2, ![2048, 2048]⟩
abbrev S2048x512 : Shape := ⟨2, ![2048, 512]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwRefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S2048x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutDu.lean ====
abbrev S4096x2048 : Shape := ⟨2, ![4096, 2048]⟩
abbrev S2048x2048 : Shape := ⟨2, ![2048, 2048]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDuRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== QDh.lean ====
abbrev S4096x2048 : Shape := ⟨2, ![4096, 2048]⟩
abbrev S2048x2048 : Shape := ⟨2, ![2048, 2048]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QDhRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KvDw.lean ====
abbrev S4096x2048 : Shape := ⟨2, ![4096, 2048]⟩
abbrev S4096x1024 : Shape := ⟨2, ![4096, 1024]⟩
abbrev S2048x1024 : Shape := ⟨2, ![2048, 1024]⟩
abbrev S4096x512 : Shape := ⟨2, ![4096, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S2048x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvDwRefIdeal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S4096x2048, .f32⟩
  | .hbm, ⟨3, _⟩ => ⟨S4096x1024, .f32⟩
  | .hbm, ⟨4, _⟩ => ⟨S_, .f32⟩
  | .hbm, ⟨5, _⟩ => ⟨S2048x1024, .f32⟩
  | .hbm, ⟨6, _⟩ => ⟨S4096x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KvDh.lean ====
abbrev S4096x1024 : Shape := ⟨2, ![4096, 1024]⟩
abbrev S2048x1024 : Shape := ⟨2, ![2048, 1024]⟩
abbrev S4096x2048 : Shape := ⟨2, ![4096, 2048]⟩
abbrev S512x1024 : Shape := ⟨2, ![512, 1024]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S4096x2048, .f32⟩
  | .local _ .vmem, ⟨0, _⟩ => ⟨S512x1024, .bf16⟩
  | .local _ .vmem, ⟨1, _⟩ => ⟨S512x1024, .bf16⟩
  | .local _ .vmem, ⟨2, _⟩ => ⟨S2048x1024, .bf16⟩
  | .local _ .vmem, ⟨3, _⟩ => ⟨S512x2048, .f32⟩
  | .local _ .vmem, ⟨4, _⟩ => ⟨S512x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvDhRefIdeal.lean ====
abbrev S4096x1024 : Shape := ⟨2, ![4096, 1024]⟩
abbrev S2048x1024 : Shape := ⟨2, ![2048, 1024]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S4096x1024, .f32⟩
  | .hbm, ⟨3, _⟩ => ⟨S2048x1024, .f32⟩
  | .hbm, ⟨4, _⟩ => ⟨S_, .f32⟩
  | .hbm, ⟨5, _⟩ => ⟨S4096x2048, .f32⟩
  | .hbm, ⟨6, _⟩ => ⟨S4096x1024, .f32⟩
  | .hbm, ⟨7, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MlpUp.lean ====
abbrev S4096x2048 : Shape := ⟨2, ![4096, 2048]⟩
abbrev S2048x8192 : Shape := ⟨2, ![2048, 8192]⟩
abbrev S4096x8192 : Shape := ⟨2, ![4096, 8192]⟩
abbrev S512x2048 : Shape := ⟨2, ![512, 2048]⟩
abbrev S2048x2048 : Shape := ⟨2, ![2048, 2048]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x8192, .bf16⟩
  | .hbm, ⟨3, _⟩ => ⟨S4096x8192, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpUpRefIdeal.lean ====
abbrev S4096x2048 : Shape := ⟨2, ![4096, 2048]⟩
abbrev S2048x8192 : Shape := ⟨2, ![2048, 8192]⟩
abbrev S4096x8192 : Shape := ⟨2, ![4096, 8192]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x2048, .f32⟩
  | .hbm, ⟨3, _⟩ => ⟨S2048x8192, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | .hbm, ⟨9, _⟩ => ⟨S4096x8192, .bf16⟩
  | .hbm, ⟨10, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== MlpDown.lean ====
abbrev S4096x8192 : Shape := ⟨2, ![4096, 8192]⟩
abbrev S8192x2048 : Shape := ⟨2, ![8192, 2048]⟩
abbrev S4096x2048 : Shape := ⟨2, ![4096, 2048]⟩
abbrev S1x2048 : Shape := ⟨2, ![1, 2048]⟩
abbrev S512x4096 : Shape := ⟨2, ![512, 4096]⟩
abbrev S4096x1024 : Shape := ⟨2, ![4096, 1024]⟩
abbrev S512x1024 : Shape := ⟨2, ![512, 1024]⟩
abbrev S1x1024 : Shape := ⟨2, ![1, 1024]⟩

abbrev nBuf : Space → Nat
  | .hbm => 6
  | .vmem => 13
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 8, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== MlpDownRefIdeal.lean ====
abbrev S4096x8192 : Shape := ⟨2, ![4096, 8192]⟩
abbrev S8192x2048 : Shape := ⟨2, ![8192, 2048]⟩
abbrev S4096x2048 : Shape := ⟨2, ![4096, 2048]⟩
abbrev S1x2048 : Shape := ⟨2, ![1, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .hbm, ⟨3, _⟩ => ⟨S1x2048, .f32⟩
  | .hbm, ⟨4, _⟩ => ⟨S4096x8192, .f32⟩
  | .hbm, ⟨5, _⟩ => ⟨S8192x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== AIn.lean ====
abbrev S4096x2048 : Shape := ⟨2, ![4096, 2048]⟩
abbrev S2048x8192 : Shape := ⟨2, ![2048, 8192]⟩
abbrev S4096x8192 : Shape := ⟨2, ![4096, 8192]⟩
abbrev S512x2048 : Shape := ⟨2, ![512, 2048]⟩
abbrev S2048x2048 : Shape := ⟨2, ![2048, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x8192, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .f32⟩
  | .local _ .vmem, ⟨5, _⟩ => ⟨S512x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AInRefIdeal.lean ====
abbrev S4096x2048 : Shape := ⟨2, ![4096, 2048]⟩
abbrev S2048x8192 : Shape := ⟨2, ![2048, 8192]⟩
abbrev S4096x8192 : Shape := ⟨2, ![4096, 8192]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x2048, .f32⟩
  | .hbm, ⟨3, _⟩ => ⟨S2048x8192, .f32⟩
  | .hbm, ⟨4, _⟩ => ⟨S4096x8192, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== QMm.lean ====
abbrev S4096x2048 : Shape := ⟨2, ![4096, 2048]⟩
abbrev S2048x2048 : Shape := ⟨2, ![2048, 2048]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QMmRefIdeal.lean ====
abbrev S4096x2048 : Shape := ⟨2, ![4096, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | .hbm, ⟨5, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KvMm.lean ====
abbrev S4096x2048 : Shape := ⟨2, ![4096, 2048]⟩
abbrev S2048x1024 : Shape := ⟨2, ![2048, 1024]⟩
abbrev S4096x1024 : Shape := ⟨2, ![4096, 1024]⟩
abbrev S512x2048 : Shape := ⟨2, ![512, 2048]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvMmRefIdeal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x2048, .f32⟩
  | .hbm, ⟨3, _⟩ => ⟨S2048x1024, .f32⟩
  | .hbm, ⟨4, _⟩ => ⟨S4096x1024, .f32⟩
  | .hbm, ⟨5, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Offsets.lean ====
/-
  Where the kernel's tiles, slots and loop trips lie, in closed form.

  The grid has 4 × 16 points: a key/value head and a block of 256 queries.  At query block `qi` the loop makes `qi`
  trips and the block on the diagonal follows it.  The saved weights are stored tile by tile; the tiles of query block
  `qi` start at `qi * (qi + 1) / 2`.
-/
module

public import proofs.«01_k».proof.Proof.Gen.KernelIdeal.Skeleton
public import proofs.«01_k».proof.Proof.Gen.KernelIdeal.Loops
public import Idealize.ShloMosaic.Lib.Ring
public import Idealize.ShloMosaic.Lib.Affine
public import Idealize.ShloMosaic.Lib.Tactic

@[expose] public section

noncomputable section

namespace Cert.Proof.AttnBwd

open Cert.KernelIdeal Cert.KernelIdeal.Gen
open Idealize.ShloMosaic
open Idealize.ShloMosaic.TcCoe Idealize.ShloMosaic.Tactic

/-! ## Trip counts -/

abbrev hd (i : grid0.Coords) : ℕ := (i 0).val
abbrev qb (i : grid0.Coords) : ℕ := (i 1).val

theorem hd_lt (i : grid0.Coords) : hd i < 4 := (i 0).isLt
theorem qb_lt (i : grid0.Coords) : qb i < 16 := (i 1).isLt

/-- A fact of all grid points follows from the one about all pairs of a head and a query block. -/
theorem trips1_eq (i : grid0.Coords) : (k0_t1_loop i).trips = qb i :=
  (by decide +kernel : ∀ i : grid0.Coords, (k0_t1_loop i).trips = qb i) i
theorem trips2_eq (i : grid0.Coords) : (k0_t2_loop i).trips = 0 :=
  (by decide +kernel : ∀ i : grid0.Coords, (k0_t2_loop i).trips = 0) i

/-- The number, in head-major order, of the first saved tile of the grid point. -/
def base (i : grid0.Coords) : ℕ := 136 * hd i + qb i * (qb i + 1) / 2

abbrev semOff (r s : Fin 2) : Fin 2 → Nat := ![r.val, s.val]
abbrev slotOff (s : Fin 2) : Fin 3 → Nat := ![s.val, 0, 0]
abbrev tileOff (n : Fin 544) : Fin 4 → Nat := ![n.val / 136, n.val % 136, 0, 0]
abbrev rowOff (k : ℕ) : Fin 2 → Nat := ![256 * k, 0]

theorem off1_eq : ∀ i : grid0.Coords, k0_off1 i = tileOff (Ring.bk 544 (base i)) := by decide +kernel
theorem off22_eq : ∀ i : grid0.Coords, k0_off22 i = semOff 0 (Ring.sl 2 (qb i)) := by decide +kernel
theorem off23_eq : ∀ i : grid0.Coords, k0_off23 i = slotOff (Ring.sl 2 (qb i)) := by decide +kernel
theorem off24_eq : ∀ i : grid0.Coords, k0_off24 i = tileOff (Ring.bk 544 (base i + qb i)) := by decide +kernel
theorem off25_eq : ∀ i : grid0.Coords, k0_off25 i = semOff 1 (Ring.sl 2 (qb i)) := by decide +kernel
theorem off26_eq : ∀ i : grid0.Coords, k0_off26 i = rowOff (qb i) := by decide +kernel
theorem off27_eq : ∀ i : grid0.Coords, k0_off27 i = slotOff (Ring.sl 2 (qb i)) := by decide +kernel

theorem off2_eq : ∀ (i : grid0.Coords) (k : Fin (k0_t1_loop i).trips), k0_off2 i k = semOff 0 (Ring.sl 2 (k.val + 1)) := by decide +kernel
theorem off3_eq : ∀ (i : grid0.Coords) (k : Fin (k0_t1_loop i).trips), k0_off3 i k = slotOff (Ring.sl 2 (k.val + 1)) := by decide +kernel
theorem off4_eq : ∀ (i : grid0.Coords) (k : Fin (k0_t1_loop i).trips), k0_off4 i k = tileOff (Ring.bk 544 (base i + k.val + 1)) := by decide +kernel
theorem off5_eq : ∀ (i : grid0.Coords) (k : Fin (k0_t1_loop i).trips), k0_off5 i k = semOff 1 (Ring.sl 2 (k.val + 1)) := by decide +kernel
theorem off6_eq : ∀ (i : grid0.Coords) (k : Fin (k0_t1_loop i).trips), k0_off6 i k = semOff 0 (Ring.sl 2 k.val) := by decide +kernel
theorem off7_eq : ∀ (i : grid0.Coords) (k : Fin (k0_t1_loop i).trips), k0_off7 i k = slotOff (Ring.sl 2 k.val) := by decide +kernel
theorem off8_eq : ∀ (i : grid0.Coords) (k : Fin (k0_t1_loop i).trips), k0_off8 i k = tileOff (Ring.bk 544 (base i + k.val)) := by decide +kernel
theorem off9_eq : ∀ (i : grid0.Coords) (k : Fin (k0_t1_loop i).trips), k0_off9 i k = semOff 1 (Ring.sl 2 k.val) := by decide +kernel
theorem off10_eq : ∀ (i : grid0.Coords) (k : Fin (k0_t1_loop i).trips), k0_off10 i k = rowOff k.val := by decide +kernel
theorem off11_eq : ∀ (i : grid0.Coords) (k : Fin (k0_t1_loop i).trips), k0_off11 i k = slotOff (Ring.sl 2 k.val) := by decide +kernel

theorem base_add_lt (i : grid0.Coords) (k : ℕ) (hk : k ≤ qb i) : base i + k < 544 := by
  have : ∀ i : grid0.Coords, base i + qb i < 544 := by decide +kernel
  have := this i; omega

end Cert.Proof.AttnBwd
-- ==== Proof.Names.lean ====
/-
  Names for what the kernel's copies touch — a tile of a saved array, a slot of a stage, a semaphore cell — and the
  equations that bring the program's own slices to these names.
-/
module

public import proofs.«01_k».proof.Proof.Offsets

@[expose] public section

noncomputable section

namespace Cert.Proof.AttnBwd

open Cert.KernelIdeal Cert.KernelIdeal.Gen
open Idealize.ShloMosaic
open Idealize.ShloMosaic.TcCoe Idealize.ShloMosaic.Tactic

/-- The saved weights and the saved derivative factors, tile by tile, and the stages they are copied to. -/
abbrev wM : Memref sig .tc .hbm S4x136x1024x256 .bf16 := Memref.whole main_v60
abbrev bM : Memref sig .tc .hbm S4x136x1024x256 .bf16 := Memref.whole main_v103
abbrev wBuf : Memref sig .tc .vmem S2x1024x256 .bf16 := Memref.whole cc0_scratch2
abbrev bBuf : Memref sig .tc .vmem S2x1024x256 .bf16 := Memref.whole cc0_scratch3

theorem semOff_inb (r s : Fin 2) : ∀ a, semOff r s a + S1x1.size a ≤ S2x2.size a := by
  have := r.isLt; have := s.isLt; intro a; fin_cases a
  · show r.val + 1 ≤ 2; omega
  · show s.val + 1 ≤ 2; omega
theorem slotOff_inb (s : Fin 2) : ∀ a, slotOff s a + S1x1024x256.size a ≤ S2x1024x256.size a := by
  have := s.isLt; intro a; fin_cases a
  · show s.val + 1 ≤ 2; omega
  · show 0 + 1024 ≤ 1024; omega
  · show 0 + 256 ≤ 256; omega
theorem tileOff_inb (n : Fin 544) : ∀ a, tileOff n a + S1x1x1024x256.size a ≤ S4x136x1024x256.size a := by
  have := n.isLt; intro a; fin_cases a
  · show n.val / 136 + 1 ≤ 4; omega
  · show n.val % 136 + 1 ≤ 136; omega
  · show 0 + 1024 ≤ 1024; omega
  · show 0 + 256 ≤ 256; omega
theorem rowOff_inb (k : ℕ) (hk : k < 16) : ∀ a, rowOff k a + S256x128.size a ≤ S4096x128.size a := by
  intro a; fin_cases a
  · show 256 * k + 256 ≤ 4096; omega
  · show 0 + 128 ≤ 128; omega

def wTile (n : Fin 544) : Memref sig .tc .hbm S1024x256 .bf16 :=
  (wM.slice (Rect.unit (s := S4x136x1024x256) (tileOff n) S1x1x1024x256.size (tileOff_inb n)) (fun _ => rfl)).squeeze S1024x256 squeezes_S1x1x1024x256_S1024x256
def bTile (n : Fin 544) : Memref sig .tc .hbm S1024x256 .bf16 :=
  (bM.slice (Rect.unit (s := S4x136x1024x256) (tileOff n) S1x1x1024x256.size (tileOff_inb n)) (fun _ => rfl)).squeeze S1024x256 squeezes_S1x1x1024x256_S1024x256
def wSlot (s : Fin 2) : Memref sig .tc .vmem S1024x256 .bf16 :=
  (wBuf.slice (Rect.unit (s := S2x1024x256) (slotOff s) S1x1024x256.size (slotOff_inb s)) (fun _ => rfl)).squeeze S1024x256 squeezes_S1x1024x256_S1024x256
def bSlot (s : Fin 2) : Memref sig .tc .vmem S1024x256 .bf16 :=
  (bBuf.slice (Rect.unit (s := S2x1024x256) (slotOff s) S1x1024x256.size (slotOff_inb s)) (fun _ => rfl)).squeeze S1024x256 squeezes_S1x1024x256_S1024x256
/-- The semaphore of array `r` (0: the weights, 1: the factors) and slot `s`. -/
def cell (r s : Fin 2) : DmaSems sig S_ :=
  (cc0_scratch4.slice (Rect.unit (s := S2x2) (semOff r s) S1x1.size (semOff_inb r s))).squeeze S_ squeezes_S1x1_S_

instance (s : Fin 2) : ClosedOff (slotOff s) := ⟨slotOff s, rfl⟩
instance (n : Fin 544) : ClosedOff (tileOff n) := ⟨tileOff n, rfl⟩
instance (i : grid0.Coords) (k : Fin (k0_t1_loop i).trips) : ClosedOff (k0_off3 i k) := ⟨slotOff (Ring.sl 2 (k.val + 1)), off3_eq i k⟩
instance (i : grid0.Coords) (k : Fin (k0_t1_loop i).trips) : ClosedOff (k0_off7 i k) := ⟨slotOff (Ring.sl 2 k.val), off7_eq i k⟩
instance (i : grid0.Coords) (k : Fin (k0_t1_loop i).trips) : ClosedOff (k0_off11 i k) := ⟨slotOff (Ring.sl 2 k.val), off11_eq i k⟩
instance (i : grid0.Coords) : ClosedOff (k0_off23 i) := ⟨slotOff (Ring.sl 2 (qb i)), off23_eq i⟩
instance (i : grid0.Coords) : ClosedOff (k0_off27 i) := ⟨slotOff (Ring.sl 2 (qb i)), off27_eq i⟩

private theorem cell_congr {off : Fin 2 → Nat} {r s : Fin 2} (e : off = semOff r s) (hh) :
    (cc0_scratch4.slice (Rect.unit (s := S2x2) off S1x1.size hh)).squeeze S_ squeezes_S1x1_S_ = cell r s :=
  congrArg (fun A : DmaSems sig S1x1 => A.squeeze S_ squeezes_S1x1_S_) (SemArray.slice_unit_congr _ e _ _)
private theorem wSlot_congr {off : Fin 3 → Nat} {s : Fin 2} (e : off = slotOff s) (hh hs) :
    (wBuf.slice (Rect.unit (s := S2x1024x256) off S1x1024x256.size hh) hs).squeeze S1024x256 squeezes_S1x1024x256_S1024x256 = wSlot s :=
  congrArg (fun M : Memref sig .tc .vmem S1x1024x256 .bf16 => M.squeeze S1024x256 squeezes_S1x1024x256_S1024x256) (Memref.slice_unit_congr _ e _ _ _ _)
private theorem bSlot_congr {off : Fin 3 → Nat} {s : Fin 2} (e : off = slotOff s) (hh hs) :
    (bBuf.slice (Rect.unit (s := S2x1024x256) off S1x1024x256.size hh) hs).squeeze S1024x256 squeezes_S1x1024x256_S1024x256 = bSlot s :=
  congrArg (fun M : Memref sig .tc .vmem S1x1024x256 .bf16 => M.squeeze S1024x256 squeezes_S1x1024x256_S1024x256) (Memref.slice_unit_congr _ e _ _ _ _)
private theorem wTile_congr {off : Fin 4 → Nat} {n : Fin 544} (e : off = tileOff n) (hh hs) :
    (wM.slice (Rect.unit (s := S4x136x1024x256) off S1x1x1024x256.size hh) hs).squeeze S1024x256 squeezes_S1x1x1024x256_S1024x256 = wTile n :=
  congrArg (fun M : Memref sig .tc .hbm S1x1x1024x256 .bf16 => M.squeeze S1024x256 squeezes_S1x1x1024x256_S1024x256) (Memref.slice_unit_congr _ e _ _ _ _)
private theorem bTile_congr {off : Fin 4 → Nat} {n : Fin 544} (e : off = tileOff n) (hh hs) :
    (bM.slice (Rect.unit (s := S4x136x1024x256) off S1x1x1024x256.size hh) hs).squeeze S1024x256 squeezes_S1x1x1024x256_S1024x256 = bTile n :=
  congrArg (fun M : Memref sig .tc .hbm S1x1x1024x256 .bf16 => M.squeeze S1024x256 squeezes_S1x1x1024x256_S1024x256) (Memref.slice_unit_congr _ e _ _ _ _)

/-! ### The first copy -/
@[sl_canon] theorem cellW0 (hh) : (cc0_scratch4.slice (Rect.unit (s := S2x2) ![0, 0] S1x1.size hh)).squeeze S_ squeezes_S1x1_S_ = cell 0 0 := cell_congr (by decide) _
@[sl_canon] theorem cellB0 (hh) : (cc0_scratch4.slice (Rect.unit (s := S2x2) ![1, 0] S1x1.size hh)).squeeze S_ squeezes_S1x1_S_ = cell 1 0 := cell_congr (by decide) _
@[sl_canon] theorem wSlot0 (hh hs) : (wBuf.slice (Rect.unit (s := S2x1024x256) ![0, 0, 0] S1x1024x256.size hh) hs).squeeze S1024x256 squeezes_S1x1024x256_S1024x256 = wSlot 0 := wSlot_congr (by decide) _ _
@[sl_canon] theorem bSlot0 (hh hs) : (bBuf.slice (Rect.unit (s := S2x1024x256) ![0, 0, 0] S1x1024x256.size hh) hs).squeeze S1024x256 squeezes_S1x1024x256_S1024x256 = bSlot 0 := bSlot_congr (by decide) _ _
section Point
variable (i : grid0.Coords)
@[sl_canon] theorem wTile0 (hh hs) : (wM.slice (Rect.unit (s := S4x136x1024x256) (k0_off1 i) S1x1x1024x256.size hh) hs).squeeze S1024x256 squeezes_S1x1x1024x256_S1024x256 = wTile (Ring.bk 544 (base i)) := wTile_congr (off1_eq i) _ _
@[sl_canon] theorem bTile0 (hh hs) : (bM.slice (Rect.unit (s := S4x136x1024x256) (k0_off1 i) S1x1x1024x256.size hh) hs).squeeze S1024x256 squeezes_S1x1x1024x256_S1024x256 = bTile (Ring.bk 544 (base i)) := bTile_congr (off1_eq i) _ _

/-! ### The wait after the loop -/
@[sl_canon] theorem cellWE (hh) : (cc0_scratch4.slice (Rect.unit (s := S2x2) (k0_off22 i) S1x1.size hh)).squeeze S_ squeezes_S1x1_S_ = cell 0 (Ring.sl 2 (qb i)) := cell_congr (off22_eq i) _
@[sl_canon] theorem cellBE (hh) : (cc0_scratch4.slice (Rect.unit (s := S2x2) (k0_off25 i) S1x1.size hh)).squeeze S_ squeezes_S1x1_S_ = cell 1 (Ring.sl 2 (qb i)) := cell_congr (off25_eq i) _
@[sl_canon] theorem wSlotE (hh hs) : (wBuf.slice (Rect.unit (s := S2x1024x256) (k0_off23 i) S1x1024x256.size hh) hs).squeeze S1024x256 squeezes_S1x1024x256_S1024x256 = wSlot (Ring.sl 2 (qb i)) := wSlot_congr (off23_eq i) _ _
@[sl_canon] theorem bSlotE (hh hs) : (bBuf.slice (Rect.unit (s := S2x1024x256) (k0_off23 i) S1x1024x256.size hh) hs).squeeze S1024x256 squeezes_S1x1024x256_S1024x256 = bSlot (Ring.sl 2 (qb i)) := bSlot_congr (off23_eq i) _ _
@[sl_canon] theorem wTileE (hh hs) : (wM.slice (Rect.unit (s := S4x136x1024x256) (k0_off24 i) S1x1x1024x256.size hh) hs).squeeze S1024x256 squeezes_S1x1x1024x256_S1024x256 = wTile (Ring.bk 544 (base i + qb i)) := wTile_congr (off24_eq i) _ _
@[sl_canon] theorem bTileE (hh hs) : (bM.slice (Rect.unit (s := S4x136x1024x256) (k0_off24 i) S1x1x1024x256.size hh) hs).squeeze S1024x256 squeezes_S1x1x1024x256_S1024x256 = bTile (Ring.bk 544 (base i + qb i)) := bTile_congr (off24_eq i) _ _

/-! ### A trip: the copy of the next tile, the wait for this one -/
variable (k : Fin (k0_t1_loop i).trips)
@[sl_canon] theorem cellWN (hh) : (cc0_scratch4.slice (Rect.unit (s := S2x2) (k0_off2 i k) S1x1.size hh)).squeeze S_ squeezes_S1x1_S_ = cell 0 (Ring.sl 2 (k.val + 1)) := cell_congr (off2_eq i k) _
@[sl_canon] theorem cellBN (hh) : (cc0_scratch4.slice (Rect.unit (s := S2x2) (k0_off5 i k) S1x1.size hh)).squeeze S_ squeezes_S1x1_S_ = cell 1 (Ring.sl 2 (k.val + 1)) := cell_congr (off5_eq i k) _
@[sl_canon] theorem wSlotN (hh hs) : (wBuf.slice (Rect.unit (s := S2x1024x256) (k0_off3 i k) S1x1024x256.size hh) hs).squeeze S1024x256 squeezes_S1x1024x256_S1024x256 = wSlot (Ring.sl 2 (k.val + 1)) := wSlot_congr (off3_eq i k) _ _
@[sl_canon] theorem bSlotN (hh hs) : (bBuf.slice (Rect.unit (s := S2x1024x256) (k0_off3 i k) S1x1024x256.size hh) hs).squeeze S1024x256 squeezes_S1x1024x256_S1024x256 = bSlot (Ring.sl 2 (k.val + 1)) := bSlot_congr (off3_eq i k) _ _
@[sl_canon] theorem wTileN (hh hs) : (wM.slice (Rect.unit (s := S4x136x1024x256) (k0_off4 i k) S1x1x1024x256.size hh) hs).squeeze S1024x256 squeezes_S1x1x1024x256_S1024x256 = wTile (Ring.bk 544 (base i + k.val + 1)) := wTile_congr (off4_eq i k) _ _
@[sl_canon] theorem bTileN (hh hs) : (bM.slice (Rect.unit (s := S4x136x1024x256) (k0_off4 i k) S1x1x1024x256.size hh) hs).squeeze S1024x256 squeezes_S1x1x1024x256_S1024x256 = bTile (Ring.bk 544 (base i + k.val + 1)) := bTile_congr (off4_eq i k) _ _
@[sl_canon] theorem cellWK (hh) : (cc0_scratch4.slice (Rect.unit (s := S2x2) (k0_off6 i k) S1x1.size hh)).squeeze S_ squeezes_S1x1_S_ = cell 0 (Ring.sl 2 k.val) := cell_congr (off6_eq i k) _
@[sl_canon] theorem cellBK (hh) : (cc0_scratch4.slice (Rect.unit (s := S2x2) (k0_off9 i k) S1x1.size hh)).squeeze S_ squeezes_S1x1_S_ = cell 1 (Ring.sl 2 k.val) := cell_congr (off9_eq i k) _
@[sl_canon] theorem wSlotK (hh hs) : (wBuf.slice (Rect.unit (s := S2x1024x256) (k0_off7 i k) S1x1024x256.size hh) hs).squeeze S1024x256 squeezes_S1x1024x256_S1024x256 = wSlot (Ring.sl 2 k.val) := wSlot_congr (off7_eq i k) _ _
@[sl_canon] theorem bSlotK (hh hs) : (bBuf.slice (Rect.unit (s := S2x1024x256) (k0_off7 i k) S1x1024x256.size hh) hs).squeeze S1024x256 squeezes_S1x1024x256_S1024x256 = bSlot (Ring.sl 2 k.val) := bSlot_congr (off7_eq i k) _ _
@[sl_canon] theorem wTileK (hh hs) : (wM.slice (Rect.unit (s := S4x136x1024x256) (k0_off8 i k) S1x1x1024x256.size hh) hs).squeeze S1024x256 squeezes_S1x1x1024x256_S1024x256 = wTile (Ring.bk 544 (base i + k.val)) := wTile_congr (off8_eq i k) _ _
@[sl_canon] theorem bTileK (hh hs) : (bM.slice (Rect.unit (s := S4x136x1024x256) (k0_off8 i k) S1x1x1024x256.size hh) hs).squeeze S1024x256 squeezes_S1x1x1024x256_S1024x256 = bTile (Ring.bk 544 (base i + k.val)) := bTile_congr (off8_eq i k) _ _
end Point

end Cert.Proof.AttnBwd
-- ==== Proof.State.lean ====
/-
  What the kernel computes, as plain functions: the state of the sweep over the key blocks of one query block (the
  gradient of the queries, the running row sums, the gradients of the keys and the values), a step of it, and the step on
  the diagonal that ends it.
-/
module

public import proofs.«01_k».proof.Proof.Names
public import proofs.«01_k».proof.Proof.Gen.KernelIdeal.Skeleton
public import Idealize.ShloMosaic.Lib.VecWindow
public import Idealize.ShloMosaic.Lib.ValueIdxCore

@[expose] public section

noncomputable section

namespace Cert.Proof.AttnBwd

open Cert.KernelIdeal Cert.KernelIdeal.Gen
open Idealize.ShloMosaic
open Idealize.ShloMosaic.ValueIdx
open Idealize.ShloMosaic.TcCoe Idealize.ShloMosaic.Tactic

variable {F : FTy → Type} [FloatOps F]

/-- Tile `n` of a saved array, as the kernel loads it from a stage. -/
def tileOf (A : FVec F S4x136x1024x256 .bf16) (n : Fin 544) : FVec F S1x1024x256 .bf16 :=
  fun x => A ((Rect.unit (s := S4x136x1024x256) (tileOff n) S1x1x1024x256.size (tileOff_inb n)).emb (Shape.reshapeEquiv (s' := S1x1024x256) (s := S1x1x1024x256) (by decide) x))

/-- Rows `256 k .. 256 k + 255` of an array of 4096 rows. -/
def rowsOf {α : Type} (X : S4096x128.Idx → α) (k : ℕ) : S256x128.Idx → α :=
  fun y => X (ix2 ⟨(256 * k + (y 0).val) % 4096, Nat.mod_lt _ (by decide)⟩ (y 1))

theorem window_rowOff {α : Type} (X : S4096x128.Idx → α) (k : ℕ) (hk : k < 16) :
    VecWindow.window X (rowOff k) S256x128.size (rowOff_inb k hk) = rowsOf X k := by
  funext y
  refine congrArg X (funext fun a => ?_)
  have h0 : (y 0).val < 256 := (y 0).isLt
  fin_cases a
  · refine Fin.ext ?_
    show 256 * k + 1 * (y 0).val = (256 * k + (y 0).val) % 4096
    omega
  · refine Fin.ext ?_
    show 0 + 1 * (y 1).val = (y 1).val
    omega

/-- Head `g`'s 128 columns of a block of 256 rows. -/
def colsOf {α : Type} (X : S256x512.Idx → α) (g : Fin 4) : S256x128.Idx → α :=
  fun y => X (ix2 (y 0) ⟨128 * g.val + (y 1).val, by have := g.isLt; have : (y 1).val < 128 := (y 1).isLt; show _ < 512; omega⟩)

/-- The four heads of a block, one below the other. -/
def stackQ (X : FVec F S256x512 .bf16) : FVec F S1024x128 .bf16 := k0_pay11 (colsOf X 0) (colsOf X 1) (colsOf X 2) (colsOf X 3)
def stackD (X : FVec F S256x512 .bf16) : FVec F S1024x128 .bf16 := k0_pay12 (colsOf X 0) (colsOf X 1) (colsOf X 2) (colsOf X 3)

/-- The matrix that sums over the earlier columns. -/
def tri : FVec F S256x256 .bf16 := k0_pay14 (iota .tc S256x256 32 [0] iota_S256x256_d0_w32)

/-- What the sweep carries. -/
structure St (F : FTy → Type) where
  dq : FVec F S1024x128 .f32
  es : FVec F S1024x256 .f32
  dk : FVec F S4096x128 .f32
  dv : FVec F S4096x128 .f32

/-- What the sweep reads. -/
structure Inp (F : FTy → Type) where
  w : FVec F S4x136x1024x256 .bf16
  b : FVec F S4x136x1024x256 .bf16
  q : FVec F S1024x128 .bf16
  d : FVec F S1024x128 .bf16
  k : FVec F S4096x128 .bf16
  v : FVec F S4096x128 .bf16

/-- The gradient of the scores of key block `k`, with tile `n` of the saved arrays. -/
def dz (I : Inp F) (n : Fin 544) (k : ℕ) (s : St F) : FVec F S1024x256 .bf16 :=
  k0_pay5 I.d tri (rowsOf I.v k) (tileOf I.w n) (tileOf I.b n) s.es

/-- Key block `k`, with tile `n` of the saved arrays. -/
def step (I : Inp F) (n : Fin 544) (k : ℕ) (s : St F) : St F where
  dq := k0_pay17 (rowsOf I.k k) (dz I n k s) s.dq
  es := k0_pay20 (k0_pay4 I.d (rowsOf I.v k) (tileOf I.w n)) s.es
  dk := VecWindow.put s.dk (rowOff k) S256x128.size (k0_pay18 I.q (dz I n k s) (rowsOf s.dk k))
  dv := VecWindow.put s.dv (rowOff k) S256x128.size (k0_pay19 I.d (k0_pay3 (tileOf I.w n)) (rowsOf s.dv k))

/-- The first `k` key blocks, the first with tile `m`. -/
def steps (I : Inp F) (m : ℕ) (s : St F) : ℕ → St F
  | 0 => s
  | k + 1 => step I (Ring.bk 544 (m + k)) k (steps I m s k)

/-- The block on the diagonal, `k`, with tile `n`. -/
def last (I : Inp F) (n : Fin 544) (k : ℕ) (s : St F) : St F where
  dq := k0_pay30 k0_pay13 tri (rowsOf I.k k) (k0_pay25 (tileOf I.w n)) (k0_pay26 (tileOf I.b n)) (k0_pay27 I.d (rowsOf I.v k)) s.es s.dq
  es := k0_pay1 s.es (k0_pay33 (k0_pay25 (tileOf I.w n)) (k0_pay27 I.d (rowsOf I.v k)))
  dk := VecWindow.put s.dk (rowOff k) S256x128.size
    (k0_pay31 I.q k0_pay13 tri (k0_pay25 (tileOf I.w n)) (k0_pay26 (tileOf I.b n)) (k0_pay27 I.d (rowsOf I.v k)) s.es (rowsOf s.dk k))
  dv := VecWindow.put s.dv (rowOff k) S256x128.size (k0_pay32 I.d (k0_pay25 (tileOf I.w n)) (rowsOf s.dv k))

/-- A grid point, from the gradients of the keys and the values it finds. -/
def sweep (I : Inp F) (m qi : ℕ) (dk dv : FVec F S4096x128 .f32) : St F :=
  last I (Ring.bk 544 (m + qi)) qi (steps I m ⟨k0_pay15, k0_pay16, dk, dv⟩ qi)

end Cert.Proof.AttnBwd
-- ==== Proof.Stores.lean ====
/-
  A buffer of a memref held at given values, and what a store leaves of it: the two forms a store of this kernel has (a
  block of the buffer, the whole buffer), for any signature.
-/
module

public import Idealize.ShloMosaic.Lib.VecWindow

@[expose] public section

noncomputable section

namespace Cert.Proof.AttnBwd

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix] {Val : EltTy → Type} {Name : Type} [DecidableEq Name]
variable {U : Type} [URA U] {Lvl : Type} [∀ e, Nonempty (Val e)]

local notation "𝕄" => MT nD τ sig Ix Val Name U Lvl

/-- The memref's buffer at the values `X`. -/
abbrev Held (c : Dev nD) {sp : Space} {s : Shape} {e : EltTy} (M : Memref sig .tc sp s e) (X : s.Idx → Val e) : sProp 𝕄 :=
  M.view.loc (c : Thread nD τ) ↦[M.view.set]{fullShare} (M.view.rep X)

/-- A buffer stored over whole holds the payload. -/
theorem store_full (c : Dev nD) {sp : Space} {s : Shape} {e : EltTy} (M : Memref sig .tc sp s e) (f : Buf Val (M.view.loc (c : Thread nD τ))) {off : Fin s.rank → ℕ}
    (inb : ∀ a, off a + s.size a ≤ s.size a) (w : s.Idx → Val e) (L : List (View.Piece Val s e)) (w' : s.Idx → Val e) (h : w = w') :
    (M.view.loc (c : Thread nD τ) ↦[M.view.set]{fullShare} M.view.writes Val f (⟨Rect.unit off s.size inb, w⟩ :: L) : sProp 𝕄) ⊢ Held c M w' := by
  subst h; exact pointsTo_rep_of_read (c : Thread nD τ) M _ _ _ (View.read_writes_full M.view f inb w L)

/-- A buffer with a block stored over holds its values with the block put there. -/
theorem store_unit (c : Dev nD) {sp : Space} {s : Shape} {e : EltTy} (M : Memref sig .tc sp s e) (X : s.Idx → Val e) {off off' size : Fin s.rank → ℕ} (h : off = off')
    (inb : ∀ a, off a + size a ≤ s.size a) (w : (Rect.unit off size inb).shape.Idx → Val e) (X' : s.Idx → Val e) (h' : VecWindow.put X off' size w = X') :
    (M.view.loc (c : Thread nD τ) ↦[M.view.set]{fullShare} M.view.writes Val (M.view.rep X) [⟨Rect.unit off size inb, w⟩] : sProp 𝕄) ⊢ Held c M X' := by
  subst h'; exact pointsTo_rep_of_read (c : Thread nD τ) M _ _ _ (View.read_writes_rep_unit M.view X inb w h)

end Cert.Proof.AttnBwd
-- ==== Proof.Trip.lean ====
/-
  One trip of the sweep: the next tile's copies start, this tile's arrive, and the state takes one step.
-/
module

public import proofs.«01_k».proof.Proof.Names
public import proofs.«01_k».proof.Proof.Gen.KernelIdeal.Launch
public import proofs.«01_k».proof.Proof.Gen.KernelIdeal.Points
public import proofs.«01_k».proof.Proof.State
public import proofs.«01_k».proof.Proof.Stores

@[expose] public section

noncomputable section

namespace Cert.Proof.AttnBwd

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UU (nD : Nat) (τ : Topo) : Type := Pipeline.UD sig nD τ
local notation "𝕄" => MT nD τ sig Unit (Elt F) ℕ (Pipeline.UD sig nD τ) ℕ
abbrev 𝒱₀ : Variants := Variants.none

theorem entails_of_eq {nD : Nat} {τ : Topo} {P Q : sProp 𝕄} (e : P = Q) : P ⊢ Q := e ▸ .rfl

/-! ### What a stage holds once a tile has landed -/

theorem tileOf_eq (A : FVec F S4x136x1024x256 .bf16) (n : Fin 544) (h : S1024x256.numel = S1x1x1024x256.numel) (h' : S1x1024x256.numel = S1024x256.numel) (x : S1x1024x256.Idx) :
    A ((Rect.unit (s := S4x136x1024x256) (tileOff n) S1x1x1024x256.size (tileOff_inb n)).emb (Shape.reshapeEquiv (s' := S1024x256) (s := S1x1x1024x256) h (Shape.reshapeEquiv (s' := S1x1024x256) (s := S1024x256) h' x)))
      = tileOf A n x := by
  rw [Shape.reshapeEquiv_reshapeEquiv]; rfl

theorem load_w (XW : wM.view.ty.Contents (Elt F)) (s : Fin 2) (n : Fin 544) {off : Fin 3 → ℕ} (h : off = slotOff s) (inb : ∀ a, off a + S1x1024x256.size a ≤ S2x1024x256.size a)
    (f : (wSlot s).view.ty.Contents (Elt F)) :
    wBuf.view.readAt (Elt F) (Rect.unit (s := S2x1024x256) off S1x1024x256.size inb).toLoadRect
      ((wSlot s).view.writes (Elt F) f [⟨Rect.whole S1024x256, ReadAs.same.apply ((wTile n).view.read (Elt F) XW)⟩])
      = tileOf (wM.view.read (Elt F) XW) n := by
  subst h
  funext x
  have h2 : S1x1024x256.numel = S1024x256.numel := by decide
  have h3 : S1024x256.numel = S1x1024x256.numel := by decide
  refine Eq.trans ?_ (tileOf_eq (wM.view.read (Elt F) XW) n (by decide) h2 x)
  have hx : x = Shape.reshapeEquiv (s' := S1024x256) (s := S1x1024x256) h3 (Shape.reshapeEquiv (s' := S1x1024x256) (s := S1024x256) h2 x) := by
    rw [Shape.reshapeEquiv_reshapeEquiv, Shape.reshapeEquiv_self]
  have e : (wSlot s).view.read (Elt F) ((wSlot s).view.writes (Elt F) f [⟨Rect.whole S1024x256, ReadAs.same.apply ((wTile n).view.read (Elt F) XW)⟩])
      = (wTile n).view.read (Elt F) XW := by
    rw [View.read_writes_whole]
  refine Eq.trans ?_ (congrFun e (Shape.reshapeEquiv (s' := S1x1024x256) (s := S1024x256) h2 x))
  conv_lhs => rw [hx]
  rfl

theorem load_b (XB : bM.view.ty.Contents (Elt F)) (s : Fin 2) (n : Fin 544) {off : Fin 3 → ℕ} (h : off = slotOff s) (inb : ∀ a, off a + S1x1024x256.size a ≤ S2x1024x256.size a)
    (f : (bSlot s).view.ty.Contents (Elt F)) :
    bBuf.view.readAt (Elt F) (Rect.unit (s := S2x1024x256) off S1x1024x256.size inb).toLoadRect
      ((bSlot s).view.writes (Elt F) f [⟨Rect.whole S1024x256, ReadAs.same.apply ((bTile n).view.read (Elt F) XB)⟩])
      = tileOf (bM.view.read (Elt F) XB) n := by
  subst h
  funext x
  have h2 : S1x1024x256.numel = S1024x256.numel := by decide
  have h3 : S1024x256.numel = S1x1024x256.numel := by decide
  refine Eq.trans ?_ (tileOf_eq (bM.view.read (Elt F) XB) n (by decide) h2 x)
  have hx : x = Shape.reshapeEquiv (s' := S1024x256) (s := S1x1024x256) h3 (Shape.reshapeEquiv (s' := S1x1024x256) (s := S1024x256) h2 x) := by
    rw [Shape.reshapeEquiv_reshapeEquiv, Shape.reshapeEquiv_self]
  have e : (bSlot s).view.read (Elt F) ((bSlot s).view.writes (Elt F) f [⟨Rect.whole S1024x256, ReadAs.same.apply ((bTile n).view.read (Elt F) XB)⟩])
      = (bTile n).view.read (Elt F) XB := by
    rw [View.read_writes_whole]
  refine Eq.trans ?_ (congrFun e (Shape.reshapeEquiv (s' := S1x1024x256) (s := S1024x256) h2 x))
  conv_lhs => rw [hx]
  rfl

section Pieces
variable (c : Dev nD) (XW : Buf (Elt F) (wM.view.loc (c : Thread nD τ))) (XB : Buf (Elt F) (bM.view.loc (c : Thread nD τ)))

abbrev cellP (r s : Fin 2) : sProp 𝕄 := semVal ((c : Thread nD τ), SemLoc.dma (cell r s).sem) 0
abbrev wSlotP (s : Fin 2) (f : Buf (Elt F) ((wSlot s).view.loc (c : Thread nD τ))) : sProp 𝕄 :=
  (wSlot s).view.loc (c : Thread nD τ) ↦[(wSlot s).view.set]{fullShare} f
abbrev bSlotP (s : Fin 2) (f : Buf (Elt F) ((bSlot s).view.loc (c : Thread nD τ))) : sProp 𝕄 :=
  (bSlot s).view.loc (c : Thread nD τ) ↦[(bSlot s).view.set]{fullShare} f
abbrev wHome (n : Fin 544) : sProp 𝕄 := (wTile n).view.loc (c : Thread nD τ) ↦[(wTile n).view.set]{fullShare} XW
abbrev bHome (n : Fin 544) : sProp 𝕄 := (bTile n).view.loc (c : Thread nD τ) ↦[(bTile n).view.set]{fullShare} XB
abbrev wLanded (s : Fin 2) (n : Fin 544) (f : Buf (Elt F) ((wSlot s).view.loc (c : Thread nD τ))) : Buf (Elt F) ((wSlot s).view.loc (c : Thread nD τ)) :=
  (wSlot s).view.writes (Elt F) f [⟨Rect.whole S1024x256, ReadAs.same.apply ((wTile n).view.read (Elt F) XW)⟩]
abbrev bLanded (s : Fin 2) (n : Fin 544) (f : Buf (Elt F) ((bSlot s).view.loc (c : Thread nD τ))) : Buf (Elt F) ((bSlot s).view.loc (c : Thread nD τ)) :=
  (bSlot s).view.writes (Elt F) f [⟨Rect.whole S1024x256, ReadAs.same.apply ((bTile n).view.read (Elt F) XB)⟩]
abbrev wFlight (s : Fin 2) (n : Fin 544) (f : Buf (Elt F) ((wSlot s).view.loc (c : Thread nD τ))) : sProp 𝕄 :=
  Transfers.Flight countersEmb (c : Thread nD τ) (SemLoc.dma (cell 0 s).sem) () 16384 iprop(wSlotP c s (wLanded c XW s n f) ∗ wHome c XW n)
abbrev bFlight (s : Fin 2) (n : Fin 544) (f : Buf (Elt F) ((bSlot s).view.loc (c : Thread nD τ))) : sProp 𝕄 :=
  Transfers.Flight countersEmb (c : Thread nD τ) (SemLoc.dma (cell 1 s).sem) () 16384 iprop(bSlotP c s (bLanded c XB s n f) ∗ bHome c XB n)
end Pieces

section Trip
variable (c : Dev nD) (XW : Buf (Elt F) (wM.view.loc (c : Thread nD τ))) (XB : Buf (Elt F) (bM.view.loc (c : Thread nD τ)))
  (i : grid0.Coords)
  (arg2 : Memref sig .tc .vmem S256x512 .bf16) (harg2 : arg2.IsWhole) (arg3 : Memref sig .tc .vmem S4096x128 .bf16) (harg3 : arg3.IsWhole)
  (arg4 : Memref sig .tc .vmem S4096x128 .bf16) (harg4 : arg4.IsWhole) (arg7 : Memref sig .tc .vmem S256x512 .bf16) (harg7 : arg7.IsWhole)
  (arg8 : Memref sig .tc .vmem S8x128 .f32) (harg8 : arg8.IsWhole) (arg9 : Memref sig .tc .vmem S256x512 .bf16) (harg9 : arg9.IsWhole)
  (arg10 : Memref sig .tc .vmem S4096x128 .f32) (harg10 : arg10.IsWhole) (arg11 : Memref sig .tc .vmem S4096x128 .f32) (harg11 : arg11.IsWhole)
  (arg12 : Memref sig .tc .vmem S1024x128 .f32) (harg12 : arg12.IsWhole) (arg13 : Memref sig .tc .vmem S1024x256 .f32) (harg13 : arg13.IsWhole)
  (a1 : BitVec 32) (I : Inp F)

abbrev tripG (k : Fin (k0_t1_loop i).trips) : Prog (TpuEff nD τ sig (Elt F) Λ₀ .tc) Unit :=
  k0_t1_body (F := F) i arg2 harg2 arg3 harg3 arg4 harg4 wM (Memref.isWhole_whole _) bM (Memref.isWhole_whole _) arg7 harg7 arg8 harg8 arg9 harg9
    arg10 harg10 arg11 harg11 arg12 harg12 arg13 harg13 wBuf (Memref.isWhole_whole _) bBuf (Memref.isWhole_whole _) cc0_scratch4 a1 I.q I.d tri k ()

abbrev holds {sp : Space} {s : Shape} {e : EltTy} (M : Memref sig .tc sp s e) (X : s.Idx → Elt F e) : sProp 𝕄 := Held (Val := Elt F) c M X

/-- The buffers of the sweep, between two trips. -/
abbrev core (s : St F) : sProp 𝕄 :=
  iprop(holds c arg3 I.k ∗ holds c arg4 I.v ∗ holds c arg10 s.dk ∗ holds c arg11 s.dv ∗ holds c arg12 s.dq ∗ holds c arg13 s.es)

/-- The stages and their cells before trip `k`: tile `base i + k` on its way to slot `k`, the other slot idle. -/
abbrev ringAt (k : ℕ) : sProp 𝕄 :=
  iprop((∃ W, owes (c : Thread nD τ) 0 W)
      ∗ (∃ f, wFlight c XW (Ring.sl 2 k) (Ring.bk 544 (base i + k)) f) ∗ (∃ f, bFlight c XB (Ring.sl 2 k) (Ring.bk 544 (base i + k)) f)
      ∗ (∃ f, wSlotP c (Ring.sl 2 (k + 1)) f) ∗ (∃ f, bSlotP c (Ring.sl 2 (k + 1)) f)
      ∗ cellP c 0 (Ring.sl 2 (k + 1)) ∗ cellP c 1 (Ring.sl 2 (k + 1)))

theorem trips_lt (k : Fin (k0_t1_loop i).trips) : k.val < qb i := Nat.lt_of_lt_of_eq k.isLt (trips1_eq i)
theorem trips_lt16 (k : Fin (k0_t1_loop i).trips) : k.val < 16 := lt_trans (trips_lt i k) (qb_lt i)
theorem sl2_add2 (k : ℕ) : Ring.sl 2 (k + 1 + 1) = Ring.sl 2 k := Ring.sl_add 2 k

theorem rows_load {e : EltTy} (M : Memref sig .tc .vmem S4096x128 e) (X : S4096x128.Idx → Elt F e) (k : Fin (k0_t1_loop i).trips) (inb) :
    View.readAt (Elt F) M.view (Rect.unit (s := S4096x128) (k0_off10 i k) S256x128.size inb).toLoadRect (M.view.rep X) = rowsOf X k.val :=
  (View.readAt_rep_unit M.view X inb (off10_eq i k) (rowOff_inb k.val (trips_lt16 i k))).trans (window_rowOff X k.val (trips_lt16 i k))

theorem full_load {s : Shape} {e : EltTy} (M : Memref sig .tc .vmem s e) (X : s.Idx → Elt F e) {off : Fin s.rank → ℕ} (inb : ∀ a, off a + s.size a ≤ s.size a) :
    View.readAt (Elt F) M.view (Rect.unit off s.size inb).toLoadRect (M.view.rep X) = X :=
  View.readAt_rep_full M.view X inb

theorem es_load (M : Memref sig .tc .vmem S1024x256 .f32) (X : FVec F S1024x256 .f32) :
    View.readAt (Elt F) M.view (Rect.unit (s := S1024x256) ![0, 0] S1024x256.size inb_S1024x256_S1024x256_0_0).toLoadRect (M.view.rep X) = X :=
  full_load M X _
theorem dq_load (M : Memref sig .tc .vmem S1024x128 .f32) (X : FVec F S1024x128 .f32) :
    View.readAt (Elt F) M.view (Rect.unit (s := S1024x128) ![0, 0] S1024x128.size inb_S1024x128_S1024x128_0_0).toLoadRect (M.view.rep X) = X :=
  full_load M X _

theorem pay5_congr {d : FVec F S1024x128 .bf16} {t : FVec F S256x256 .bf16} {a a' : Vec F S256x128 .bf16} {b b' e e' : Vec F S1x1024x256 .bf16} {f f' : Vec F S1024x256 .f32}
    (ha : a = a') (hb : b = b') (he : e = e') (hf : f = f') : k0_pay5 d t a b e f = k0_pay5 d t a' b' e' f' := by
  subst ha hb he hf; rfl

theorem trip (hw : wM.view.read (Elt F) XW = I.w) (hb : bM.view.read (Elt F) XB = I.b) (k : Fin (k0_t1_loop i).trips) (s : St F) :
    iprop(core c arg3 arg4 arg10 arg11 arg12 arg13 I s ∗ ringAt c XW XB i k.val ∗ wHome c XW (Ring.bk 544 (base i + k.val + 1)) ∗ bHome c XB (Ring.bk 544 (base i + k.val + 1)))
    ⊢ wp frame (wpE (defs₀ (F := F)) 𝒱₀ (c : Thread nD τ) none) Set.univ
        (tripG i arg2 harg2 arg3 harg3 arg4 harg4 arg7 harg7 arg8 harg8 arg9 harg9 arg10 harg10 arg11 harg11 arg12 harg12 arg13 harg13 a1 I k)
        (fun _ => iprop(core c arg3 arg4 arg10 arg11 arg12 arg13 I (step I (Ring.bk 544 (base i + k.val)) k.val s)
          ∗ ringAt c XW XB i (k.val + 1) ∗ wHome c XW (Ring.bk 544 (base i + k.val)) ∗ bHome c XB (Ring.bk 544 (base i + k.val)))) := by
  iintro ⟨⟨HK, HV, HDK, HDV, HDQ, HES⟩, ⟨⟨%W, HW⟩, ⟨%f0, HF0⟩, ⟨%f1, HF1⟩, ⟨%g0, HS0⟩, ⟨%g1, HS1⟩, Hc0, Hc1⟩, Hw, Hb⟩
  dsimp only [tripG]
  sl_unfold [k0_t1_body]
  rw [k0_part1_eq_skeleton, k0_part2_eq_skeleton, k0_part3_eq_skeleton]
  sl_exec
  sl_step
  have hk16 := trips_lt16 i k
  have ew : trip.sl.v282 c XW i k = tileOf I.w (Ring.bk 544 (base i + k.val)) := by rw [← hw]; exact load_w XW _ _ (off11_eq i k) _ _
  have eb : trip.sl.v285 c XB i k = tileOf I.b (Ring.bk 544 (base i + k.val)) := by rw [← hb]; exact load_b XB _ _ (off11_eq i k) _ _
  have e0 : trip.sl.r i arg3 I k = rowsOf I.k k.val := rows_load i arg3 I.k k _
  have e1 : trip.sl.r_1 c XW i k = k0_pay3 (tileOf I.w (Ring.bk 544 (base i + k.val))) := congrArg k0_pay3 ew
  have e2 : trip.sl.r_2 c XW i arg4 I k = k0_pay4 I.d (rowsOf I.v k.val) (tileOf I.w (Ring.bk 544 (base i + k.val))) :=
    congr (congrArg (k0_pay4 I.d) (rows_load i arg4 I.v k _)) ew
  have e3 : trip.sl.r_3 c XW XB i arg4 arg13 I k s = dz I (Ring.bk 544 (base i + k.val)) k.val s :=
    pay5_congr (rows_load i arg4 I.v k _) ew eb (es_load arg13 s.es)
  rw [e0, e1, e2, e3]
  ihave HDK := (store_unit c arg10 s.dk (off10_eq i k) _ _ (step I (Ring.bk 544 (base i + k.val)) k.val s).dk
    (congrArg (fun x => VecWindow.put s.dk (rowOff k.val) S256x128.size (k0_pay18 I.q (dz I (Ring.bk 544 (base i + k.val)) k.val s) x)) (rows_load i arg10 s.dk k _))) $$ HDK
  ihave HDV := (store_unit c arg11 s.dv (off10_eq i k) _ _ (step I (Ring.bk 544 (base i + k.val)) k.val s).dv
    (congrArg (fun x => VecWindow.put s.dv (rowOff k.val) S256x128.size (k0_pay19 I.d (k0_pay3 (tileOf I.w (Ring.bk 544 (base i + k.val)))) x)) (rows_load i arg11 s.dv k _))) $$ HDV
  ihave HDQ := (store_full c arg12 _ _ _ _ (step I (Ring.bk 544 (base i + k.val)) k.val s).dq
    (congrArg (k0_pay17 (rowsOf I.k k.val) (dz I (Ring.bk 544 (base i + k.val)) k.val s)) (dq_load arg12 s.dq))) $$ HDQ
  ihave HES := (store_full c arg13 _ _ _ _ (step I (Ring.bk 544 (base i + k.val)) k.val s).es
    (congrArg (k0_pay20 (k0_pay4 I.d (rowsOf I.v k.val) (tileOf I.w (Ring.bk 544 (base i + k.val))))) (es_load arg13 s.es))) $$ HES
  isplitl [HK HV HDK HDV HDQ HES]
  · isplitl [HK]; iexact HK
    isplitl [HV]; iexact HV
    isplitl [HDK]; iexact HDK
    isplitl [HDV]; iexact HDV
    isplitl [HDQ]; iexact HDQ
    iexact HES
  isplitr [HF0_src HF1_src]
  · isplitl [HW]; iexists _; iexact HW
    isplitl [Hc0]; iexists g0; iexact Hc0
    isplitl [Hc1]; iexists g1; iexact Hc1
    rw [sl2_add2]
    isplitl [HF0_dst]; iexists _; iexact HF0_dst
    isplitl [HF1_dst]; iexists _; iexact HF1_dst
    isplitl [HF0]; iexact HF0
    iexact HF1
  · isplitl [HF0_src]; iexact HF0_src
    iexact HF1_src
end Trip
end Cert.Proof.AttnBwd
-- ==== Proof.Loop.lean ====
/-
  The loop of a grid point: the sweep over the key blocks below the diagonal, which steps the state once per trip.
-/
module

public import proofs.«01_k».proof.Proof.Trip

@[expose] public section

noncomputable section

namespace Cert.Proof.AttnBwd

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The tiles not in flight before tile `p`: the next one apart, and the one that came back in its place. -/
theorem homes_here {P : Fin 544 → sProp 𝕄} (p : ℕ) (hp : p + 1 < 544) :
    bigSep (Ring.homeSet 1 p) P = iprop(P (Ring.bk 544 (p + 1)) ∗ bigSep ((Ring.homeSet 1 p).erase (Ring.bk 544 (p + 1))) P) := by
  conv_lhs => rw [Ring.homeSet_out 1 p hp, bigSep_insert (Ring.bkL_not_mem_erase 1 p)]
  rfl
theorem homes_next {P : Fin 544 → sProp 𝕄} (p : ℕ) (hp : p + 1 < 544) :
    bigSep (Ring.homeSet 1 (p + 1)) P = iprop(P (Ring.bk 544 p) ∗ bigSep ((Ring.homeSet 1 p).erase (Ring.bk 544 (p + 1))) P) := by
  conv_lhs => rw [Ring.homeSet_succ 1 p hp, bigSep_insert (Ring.bk_not_mem_erase 1 p (by omega) (by decide))]
  rfl
/-- All tiles are the one in flight and the others. -/
theorem homes_all {P : Fin 544 → sProp 𝕄} (p : ℕ) (hp : p < 544) :
    bigSep Finset.univ P = iprop(P (Ring.bk 544 p) ∗ bigSep (Ring.homeSet 1 p) P) := by
  have e : (Finset.univ : Finset (Fin 544)) = insert (Ring.bk 544 p) (Ring.homeSet (NB := 544) 1 p) := by
    ext b; simp only [Finset.mem_univ, Finset.mem_insert, Ring.mem_homeSet, true_iff, Fin.ext_iff, Ring.bk_val hp]; omega
  rw [e, bigSep_insert (Ring.bk_not_mem_homeSet 1 p hp (by decide))]
  rfl

section Loop
variable (c : Dev nD) (XW : Buf (Elt F) (wM.view.loc (c : Thread nD τ))) (XB : Buf (Elt F) (bM.view.loc (c : Thread nD τ)))
  (i : grid0.Coords)
  (arg2 : Memref sig .tc .vmem S256x512 .bf16) (harg2 : arg2.IsWhole) (arg3 : Memref sig .tc .vmem S4096x128 .bf16) (harg3 : arg3.IsWhole)
  (arg4 : Memref sig .tc .vmem S4096x128 .bf16) (harg4 : arg4.IsWhole) (arg7 : Memref sig .tc .vmem S256x512 .bf16) (harg7 : arg7.IsWhole)
  (arg8 : Memref sig .tc .vmem S8x128 .f32) (harg8 : arg8.IsWhole) (arg9 : Memref sig .tc .vmem S256x512 .bf16) (harg9 : arg9.IsWhole)
  (arg10 : Memref sig .tc .vmem S4096x128 .f32) (harg10 : arg10.IsWhole) (arg11 : Memref sig .tc .vmem S4096x128 .f32) (harg11 : arg11.IsWhole)
  (arg12 : Memref sig .tc .vmem S1024x128 .f32) (harg12 : arg12.IsWhole) (arg13 : Memref sig .tc .vmem S1024x256 .f32) (harg13 : arg13.IsWhole)
  (a1 : BitVec 32) (I : Inp F)

/-- What the loops carry. -/
abbrev swept (k : ℕ) (s : St F) : sProp 𝕄 :=
  iprop(core c arg3 arg4 arg10 arg11 arg12 arg13 I s ∗ ringAt c XW XB i k
    ∗ bigSep (Ring.homeSet 1 (base i + k)) (wHome c XW) ∗ bigSep (Ring.homeSet 1 (base i + k)) (bHome c XB))

theorem loopStep (hw : wM.view.read (Elt F) XW = I.w) (hb : bM.view.read (Elt F) XB = I.b) (k : Fin (k0_t1_loop i).trips) (s : St F) :
    swept c XW XB i arg3 arg4 arg10 arg11 arg12 arg13 I k.val s
    ⊢ wp frame (wpE (defs₀ (F := F)) 𝒱₀ (c : Thread nD τ) none) Set.univ
        (tripG i arg2 harg2 arg3 harg3 arg4 harg4 arg7 harg7 arg8 harg8 arg9 harg9 arg10 harg10 arg11 harg11 arg12 harg12 arg13 harg13 a1 I k)
        (fun _ => swept c XW XB i arg3 arg4 arg10 arg11 arg12 arg13 I (k.val + 1) (step I (Ring.bk 544 (base i + k.val)) k.val s)) := by
  have hn : base i + k.val + 1 < 544 := base_add_lt i (k.val + 1) (trips_lt i k)
  unfold swept
  rw [show base i + (k.val + 1) = base i + k.val + 1 from rfl]
  rw [homes_here (P := wHome c XW) _ hn, homes_here (P := bHome c XB) _ hn, homes_next (P := wHome c XW) _ hn, homes_next (P := bHome c XB) _ hn]
  iintro ⟨HC, HR, ⟨Hw, HWs⟩, ⟨Hb, HBs⟩⟩
  iapply (wp_wand_r Idealize.ShloMosaic.frame (wpE (defs₀ (F := F)) 𝒱₀ (c : Thread nD τ) none) Set.univ)
  isplitl [HC HR Hw Hb]
  · iapply (trip c XW XB i arg2 harg2 arg3 harg3 arg4 harg4 arg7 harg7 arg8 harg8 arg9 harg9 arg10 harg10 arg11 harg11 arg12 harg12 arg13 harg13 a1 I hw hb k s)
    isplitl [HC]; · iexact HC
    isplitl [HR]; · iexact HR
    isplitl [Hw]; · iexact Hw
    iexact Hb
  · iintro %_ ⟨HC, HR, Hw, Hb⟩
    isplitl [HC]; · iexact HC
    isplitl [HR]; · iexact HR
    isplitl [Hw HWs]
    · isplitl [Hw]; · iexact Hw
      iexact HWs
    · isplitl [Hb]; · iexact Hb
      iexact HBs

set_option warn.classDefReducibility false in
/-- The sweep's invariant: before trip `k` the state is `k` steps in. -/
@[sl_loop] def loopInv1 (hw : wM.view.read (Elt F) XW = I.w) (hb : bM.view.read (Elt F) XB = I.b) (s : St F) :
    LoopInvTy_k0_t1 (F := F) Unit ℕ (UU nD τ) ℕ 𝒱₀ c none Set.univ i arg2 harg2 arg3 harg3 arg4 harg4 wM (Memref.isWhole_whole _) bM (Memref.isWhole_whole _) arg7 harg7 arg8 harg8 arg9 harg9
    arg10 harg10 arg11 harg11 arg12 harg12 arg13 harg13 wBuf (Memref.isWhole_whole _) bBuf (Memref.isWhole_whole _) cc0_scratch4 a1 I.q I.d tri where
  inv k _ := swept c XW XB i arg3 arg4 arg10 arg11 arg12 arg13 I k (steps I (base i) s k)
  step k _ := loopStep c XW XB i arg2 harg2 arg3 harg3 arg4 harg4 arg7 harg7 arg8 harg8 arg9 harg9 arg10 harg10 arg11 harg11 arg12 harg12 arg13 harg13 a1 I hw hb k (steps I (base i) s k.val)

end Loop
end Cert.Proof.AttnBwd
-- ==== Proof.Head.lean ====
/-
  The loop of a grid point: the sweep over the key blocks below the diagonal, which steps the state once per trip.
-/
module

public import proofs.«01_k».proof.Proof.Loop

@[expose] public section

noncomputable section

namespace Cert.Proof.AttnBwd

open Cert.KernelIdeal Cert.KernelIdeal.Gen
open Idealize.ShloMosaic
open Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem window_cols {α : Type} (X : S256x512.Idx → α) (g : Fin 4) (inb : ∀ a, (![0, 128 * g.val] : Fin 2 → ℕ) a + S256x128.size a ≤ S256x512.size a) :
    VecWindow.window X ![0, 128 * g.val] S256x128.size inb = colsOf X g := by
  funext y
  refine congrArg X (funext fun a => ?_)
  fin_cases a
  · refine Fin.ext ?_
    show 0 + 1 * (y 0).val = (y 0).val
    omega
  · refine Fin.ext ?_
    show 128 * g.val + 1 * (y 1).val = 128 * g.val + (y 1).val
    omega

theorem cols_load (M : Memref sig .tc .vmem S256x512 .bf16) (X : S256x512.Idx → Elt F .bf16) (g : Fin 4) {off : Fin 2 → ℕ} (h : off = ![0, 128 * g.val])
    (inb : ∀ a, off a + S256x128.size a ≤ S256x512.size a) (inb' : ∀ a, (![0, 128 * g.val] : Fin 2 → ℕ) a + S256x128.size a ≤ S256x512.size a) :
    View.readAt (Elt F) M.view (Rect.unit (s := S256x512) off S256x128.size inb).toLoadRect (M.view.rep X) = colsOf X g :=
  (View.readAt_rep_unit M.view X inb h inb').trans (window_cols X g inb')

section Head
variable (c : Dev nD) (XW : Buf (Elt F) (wM.view.loc (c : Thread nD τ))) (XB : Buf (Elt F) (bM.view.loc (c : Thread nD τ)))
  (i : grid0.Coords)
  (arg2 : Memref sig .tc .vmem S256x512 .bf16) (harg2 : arg2.IsWhole) (arg3 : Memref sig .tc .vmem S4096x128 .bf16) (harg3 : arg3.IsWhole)
  (arg4 : Memref sig .tc .vmem S4096x128 .bf16) (harg4 : arg4.IsWhole) (arg7 : Memref sig .tc .vmem S256x512 .bf16) (harg7 : arg7.IsWhole)
  (arg8 : Memref sig .tc .vmem S8x128 .f32) (harg8 : arg8.IsWhole) (arg9 : Memref sig .tc .vmem S256x512 .bf16) (harg9 : arg9.IsWhole)
  (arg10 : Memref sig .tc .vmem S4096x128 .f32) (harg10 : arg10.IsWhole) (arg11 : Memref sig .tc .vmem S4096x128 .f32) (harg11 : arg11.IsWhole)
  (arg12 : Memref sig .tc .vmem S1024x128 .f32) (harg12 : arg12.IsWhole) (arg13 : Memref sig .tc .vmem S1024x256 .f32) (harg13 : arg13.IsWhole)
  (a1 : BitVec 32) (I : Inp F)

/-- The program's test for the first query block. -/
abbrev atFirst (i : grid0.Coords) : Prop :=
  Scalar.cmpi .ne (Scalar.extui (Scalar.cmpi .eq (BitVec.ofNat 32 (i 1).val) 0#32) : BitVec 32) 0#32 = 1#1
theorem atFirst_iff : ∀ i : grid0.Coords, atFirst i ↔ qb i = 0 := by decide +kernel

/-- The gradient a grid point starts from: cleared at the first query block. -/
def begun (i : grid0.Coords) (z X : FVec F S4096x128 .f32) : FVec F S4096x128 .f32 := if qb i = 0 then z else X

theorem stackQ_load (M : Memref sig .tc .vmem S256x512 .bf16) (X : FVec F S256x512 .bf16) {a b d e : Vec F S256x128 .bf16}
    (ha : a = colsOf X 0) (hb : b = colsOf X 1) (hd : d = colsOf X 2) (he : e = colsOf X 3) : k0_pay11 a b d e = stackQ X := by
  subst ha hb hd he; rfl
theorem stackD_load (M : Memref sig .tc .vmem S256x512 .bf16) (X : FVec F S256x512 .bf16) {a b d e : Vec F S256x128 .bf16}
    (ha : a = colsOf X 0) (hb : b = colsOf X 1) (hd : d = colsOf X 2) (he : e = colsOf X 3) : k0_pay12 a b d e = stackD X := by
  subst ha hb hd he; rfl

abbrev headG : Prog (TpuEff nD τ sig (Elt F) Λ₀ .tc) (Σ' (arg1 : BitVec 32) (v7 : FVec F S1024x128 .bf16) (v12 : FVec F S1024x128 .bf16) (v31 : IVec S1024x256 1), IVec S256x256 32) :=
  k0_part7 (F := F) i arg2 harg2 arg3 harg3 arg4 harg4 wM (Memref.isWhole_whole _) bM (Memref.isWhole_whole _) arg7 harg7 arg8 harg8 arg9 harg9
    arg10 harg10 arg11 harg11 arg12 harg12 arg13 harg13 wBuf (Memref.isWhole_whole _) bBuf (Memref.isWhole_whole _) cc0_scratch4

/-- What the beginning hands on. -/
def headOut (i : grid0.Coords) (Q D : FVec F S256x512 .bf16) : Σ' (arg1 : BitVec 32) (v7 : FVec F S1024x128 .bf16) (v12 : FVec F S1024x128 .bf16) (v31 : IVec S1024x256 1), IVec S256x256 32 :=
  ⟨BitVec.ofNat 32 (i 1).val, stackQ Q, stackD D, k0_pay13, iota .tc S256x256 32 [0] iota_S256x256_d0_w32⟩

theorem headOut_congr {i : grid0.Coords} {Q D : FVec F S256x512 .bf16} {a b : FVec F S1024x128 .bf16} (ha : a = stackQ Q) (hb : b = stackD D) :
    (⟨BitVec.ofNat 32 (i 1).val, a, b, k0_pay13, iota .tc S256x256 32 [0] iota_S256x256_d0_w32⟩ : Σ' (arg1 : BitVec 32) (v7 : FVec F S1024x128 .bf16) (v12 : FVec F S1024x128 .bf16) (v31 : IVec S1024x256 1), IVec S256x256 32) = headOut i Q D := by
  subst ha hb; rfl

theorem headRun (Q D : FVec F S256x512 .bf16) (DK DV : FVec F S4096x128 .f32) :
    iprop(holds c arg2 Q ∗ holds c arg7 D ∗ holds c arg10 DK ∗ holds c arg11 DV)
    ⊢ wp frame (wpE (defs₀ (F := F)) 𝒱₀ (c : Thread nD τ) none) Set.univ
        (headG i arg2 harg2 arg3 harg3 arg4 harg4 arg7 harg7 arg8 harg8 arg9 harg9 arg10 harg10 arg11 harg11 arg12 harg12 arg13 harg13)
        (fun r => iprop(⌜r = headOut i Q D⌝ ∗ holds c arg2 Q ∗ holds c arg7 D ∗ holds c arg10 (begun i k0_pay9 DK) ∗ holds c arg11 (begun i k0_pay10 DV))) := by
  iintro ⟨HQ, HD, HDK, HDV⟩
  dsimp only [headG]
  rw [k0_part7_eq_skeleton]
  dsimp only [k0_part7_skel]
  by_cases hz : Scalar.cmpi .ne (Scalar.extui (Scalar.cmpi .eq (BitVec.ofNat 32 (i 1).val) 0#32) : BitVec 32) 0#32 = 1#1
  · have h0 : qb i = 0 := (atFirst_iff i).mp hz
    rw [show begun i (k0_pay9 (F := F)) DK = k0_pay9 from if_pos h0, show begun i (k0_pay10 (F := F)) DV = k0_pay10 from if_pos h0]
    sl_exec
    sl_step
    isplitr [HQ HD HDK HDV]
    · ipureintro
      exact headOut_congr (stackQ_load arg2 Q (cols_load arg2 Q 0 rfl _ (inb_S256x512_S256x128_0_0)) (cols_load arg2 Q 1 rfl _ (inb_S256x512_S256x128_0_128)) (cols_load arg2 Q 2 rfl _ (inb_S256x512_S256x128_0_256)) (cols_load arg2 Q 3 rfl _ (inb_S256x512_S256x128_0_384)))
        (stackD_load arg7 D (cols_load arg7 D 0 rfl _ (inb_S256x512_S256x128_0_0)) (cols_load arg7 D 1 rfl _ (inb_S256x512_S256x128_0_128)) (cols_load arg7 D 2 rfl _ (inb_S256x512_S256x128_0_256)) (cols_load arg7 D 3 rfl _ (inb_S256x512_S256x128_0_384)))
    ihave HDK := (store_full c arg10 _ _ _ _ k0_pay9 rfl) $$ HDK
    ihave HDV := (store_full c arg11 _ _ _ _ k0_pay10 rfl) $$ HDV
    isplitl [HQ]; iexact HQ
    isplitl [HD]; iexact HD
    isplitl [HDK]; iexact HDK
    iexact HDV
  · have h0 : ¬ qb i = 0 := fun h => hz ((atFirst_iff i).mpr h)
    rw [show begun i (k0_pay9 (F := F)) DK = DK from if_neg h0, show begun i (k0_pay10 (F := F)) DV = DV from if_neg h0]
    sl_exec
    sl_step
    isplitr [HQ HD HDK HDV]
    · ipureintro
      exact headOut_congr (stackQ_load arg2 Q (cols_load arg2 Q 0 rfl _ (inb_S256x512_S256x128_0_0)) (cols_load arg2 Q 1 rfl _ (inb_S256x512_S256x128_0_128)) (cols_load arg2 Q 2 rfl _ (inb_S256x512_S256x128_0_256)) (cols_load arg2 Q 3 rfl _ (inb_S256x512_S256x128_0_384)))
        (stackD_load arg7 D (cols_load arg7 D 0 rfl _ (inb_S256x512_S256x128_0_0)) (cols_load arg7 D 1 rfl _ (inb_S256x512_S256x128_0_128)) (cols_load arg7 D 2 rfl _ (inb_S256x512_S256x128_0_256)) (cols_load arg7 D 3 rfl _ (inb_S256x512_S256x128_0_384)))
    isplitl [HQ]; iexact HQ
    isplitl [HD]; iexact HD
    isplitl [HDK]; iexact HDK
    iexact HDV
end Head
end Cert.Proof.AttnBwd
-- ==== Proof.Point.lean ====
/-
  A grid point of the kernel: from any gradients of the keys and the values to those the sweep leaves, with the block of
  the gradient of the queries written out, the saved arrays whole again, the stages idle.
-/
module

public import proofs.«01_k».proof.Proof.Head

@[expose] public section

noncomputable section

namespace Cert.Proof.AttnBwd

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem diag_load {e : EltTy} (i : grid0.Coords) (M : Memref sig .tc .vmem S4096x128 e) (X : S4096x128.Idx → Elt F e) (inb) :
    View.readAt (Elt F) M.view (Rect.unit (s := S4096x128) (k0_off26 i) S256x128.size inb).toLoadRect (M.view.rep X) = rowsOf X (qb i) :=
  (View.readAt_rep_unit M.view X inb (off26_eq i) (rowOff_inb (qb i) (qb_lt i))).trans (window_rowOff X (qb i) (qb_lt i))

theorem dq_load' (M : Memref sig .tc .vmem S1024x128 .f32) (X : S1024x128.Idx → Elt F .f32) (L : List (View.Piece (Elt F) S1024x128 .f32)) :
    M.view.readCov (⟨Rect.unit (s := S1024x128) ![0, 0] S1024x128.size inb_S1024x128_S1024x128_0_0, X⟩ :: L)
      (Rect.unit (s := S1024x128) ![0, 0] S1024x128.size inb_S1024x128_S1024x128_0_0).toLoadRect = X :=
  View.readCov_full M.view _ _ X L

theorem any_held (c : Dev nD) {s : Shape} {e : EltTy} (M : Memref sig .tc .vmem s e) (f : Buf (Elt F) (M.view.loc (c : Thread nD τ))) :
    (M.view.loc (c : Thread nD τ) ↦[M.view.set]{fullShare} f : sProp 𝕄) ⊢ iprop(∃ X, holds c M X) := by
  iintro H
  ihave H := (pointsTo_rep_entails (c : Thread nD τ) M f fullShare) $$ H
  iexists _; iexact H

theorem pay30_congr {m : IVec S1024x256 1} {t : FVec F S256x256 .bf16} {k k' : Vec F S256x128 .bf16} {w w' : FVec F S1024x256 .bf16} {b b' v v' e e' : FVec F S1024x256 .f32} {q q' : FVec F S1024x128 .f32}
    (hk : k = k') (hw : w = w') (hb : b = b') (hv : v = v') (he : e = e') (hq : q = q') : k0_pay30 m t k w b v e q = k0_pay30 m t k' w' b' v' e' q' := by
  subst hk hw hb hv he hq; rfl
theorem pay31_congr {Q : FVec F S1024x128 .bf16} {m : IVec S1024x256 1} {t : FVec F S256x256 .bf16} {w : FVec F S1024x256 .bf16} {b v e e' : FVec F S1024x256 .f32} {q q' : FVec F S256x128 .f32}
    (he : e = e') (hq : q = q') : k0_pay31 Q m t w b v e q = k0_pay31 Q m t w b v e' q' := by
  subst he hq; rfl

section Point
variable (c : Dev nD) (XW : Buf (Elt F) (wM.view.loc (c : Thread nD τ))) (XB : Buf (Elt F) (bM.view.loc (c : Thread nD τ)))
  (i : grid0.Coords)
  (arg2 : Memref sig .tc .vmem S256x512 .bf16) (harg2 : arg2.IsWhole) (arg3 : Memref sig .tc .vmem S4096x128 .bf16) (harg3 : arg3.IsWhole)
  (arg4 : Memref sig .tc .vmem S4096x128 .bf16) (harg4 : arg4.IsWhole) (arg7 : Memref sig .tc .vmem S256x512 .bf16) (harg7 : arg7.IsWhole)
  (arg8 : Memref sig .tc .vmem S8x128 .f32) (harg8 : arg8.IsWhole) (arg9 : Memref sig .tc .vmem S256x512 .bf16) (harg9 : arg9.IsWhole)
  (arg10 : Memref sig .tc .vmem S4096x128 .f32) (harg10 : arg10.IsWhole) (arg11 : Memref sig .tc .vmem S4096x128 .f32) (harg11 : arg11.IsWhole)
  (arg12 : Memref sig .tc .vmem S1024x128 .f32) (harg12 : arg12.IsWhole) (arg13 : Memref sig .tc .vmem S1024x256 .f32) (harg13 : arg13.IsWhole)

theorem sl2_0 : Ring.sl 2 0 = 0 := Fin.ext (by rfl)
theorem sl2_1 : Ring.sl 2 (0 + 1) = 1 := Fin.ext (by rfl)

/-- Slots `n % 2` and `(n + 1) % 2` are slots 0 and 1. -/
theorem two_of_roles (P : Fin 2 → sProp 𝕄) (T : ℕ) : iprop(P (Ring.sl 2 T) ∗ P (Ring.sl 2 (T + 1))) ⊢ iprop(P 0 ∗ P 1) := by
  rcases Nat.mod_two_eq_zero_or_one T with h | h
  · have e0 : Ring.sl 2 T = 0 := Fin.ext (by simp [Ring.sl, Fin.ofNat, h])
    have e1 : Ring.sl 2 (T + 1) = 1 := Fin.ext (by simp [Ring.sl, Fin.ofNat]; omega)
    rw [e0, e1]
  · have e0 : Ring.sl 2 T = 1 := Fin.ext (by simp [Ring.sl, Fin.ofNat, h])
    have e1 : Ring.sl 2 (T + 1) = 0 := Fin.ext (by simp [Ring.sl, Fin.ofNat]; omega)
    rw [e0, e1]; iintro ⟨H1, H0⟩; isplitl [H0] <;> iassumption

/-- The kernel on the given staging buffers. -/
abbrev pointG : Prog (TpuEff nD τ sig (Elt F) Λ₀ .tc) PUnit :=
  cc0_attn_bwd (F := F) i arg2 harg2 arg3 harg3 arg4 harg4 wM (Memref.isWhole_whole _) bM (Memref.isWhole_whole _) arg7 harg7 arg8 harg8 arg9 harg9
    arg10 harg10 arg11 harg11 arg12 harg12 arg13 harg13 wBuf (Memref.isWhole_whole _) bBuf (Memref.isWhole_whole _) cc0_scratch4

/-- What a point reads. -/
def inpOf (w b : FVec F S4x136x1024x256 .bf16) (Q D : FVec F S256x512 .bf16) (K V : FVec F S4096x128 .bf16) : Inp F := ⟨w, b, stackQ Q, stackD D, K, V⟩

/-- What a point leaves. -/
def pointOut (i : grid0.Coords) (w b : FVec F S4x136x1024x256 .bf16) (Q D : FVec F S256x512 .bf16) (K V : FVec F S4096x128 .bf16) (DK DV : FVec F S4096x128 .f32) : St F :=
  sweep (inpOf w b Q D K V) (base i) (qb i) (begun i k0_pay9 DK) (begun i k0_pay10 DV)

abbrev stages : sProp 𝕄 :=
  iprop((∃ f, wSlotP (F := F) c 0 f) ∗ (∃ f, wSlotP (F := F) c 1 f) ∗ (∃ f, bSlotP (F := F) c 0 f) ∗ (∃ f, bSlotP (F := F) c 1 f)
    ∗ cellP (F := F) c 0 0 ∗ cellP (F := F) c 0 1 ∗ cellP (F := F) c 1 0 ∗ cellP (F := F) c 1 1)

attribute [local sl_canon] sl2_0 sl2_1 in
set_option maxHeartbeats 800000 in
theorem pointRun (w b : FVec F S4x136x1024x256 .bf16) (hw : wM.view.read (Elt F) XW = w) (hb : bM.view.read (Elt F) XB = b)
    (Q D : FVec F S256x512 .bf16) (K V : FVec F S4096x128 .bf16) (DK DV : FVec F S4096x128 .f32) (g9 : Buf (Elt F) (arg9.view.loc (c : Thread nD τ)))
    (DQ : FVec F S1024x128 .f32) (ES : FVec F S1024x256 .f32) (W) :
    iprop(holds c arg2 Q ∗ holds c arg7 D ∗ holds c arg3 K ∗ holds c arg4 V ∗ (arg9.view.loc (c : Thread nD τ) ↦[arg9.view.set]{fullShare} g9) ∗ holds c arg10 DK ∗ holds c arg11 DV
      ∗ holds c arg12 DQ ∗ holds c arg13 ES ∗ owes (c : Thread nD τ) 0 W ∗ bigSep Finset.univ (wHome c XW) ∗ bigSep Finset.univ (bHome c XB) ∗ stages c)
    ⊢ wp frame (wpE (defs₀ (F := F)) 𝒱₀ (c : Thread nD τ) none) Set.univ
        (pointG i arg2 harg2 arg3 harg3 arg4 harg4 arg7 harg7 arg8 harg8 arg9 harg9 arg10 harg10 arg11 harg11 arg12 harg12 arg13 harg13)
        (fun _ => iprop(holds c arg2 Q ∗ holds c arg7 D ∗ holds c arg3 K ∗ holds c arg4 V ∗ holds c arg9 (k0_pay2 (pointOut i w b Q D K V DK DV).dq)
          ∗ holds c arg10 (pointOut i w b Q D K V DK DV).dk ∗ holds c arg11 (pointOut i w b Q D K V DK DV).dv
          ∗ (∃ X, holds c arg12 X) ∗ (∃ X, holds c arg13 X) ∗ (∃ W, owes (c : Thread nD τ) 0 W) ∗ bigSep Finset.univ (wHome c XW) ∗ bigSep Finset.univ (bHome c XB) ∗ stages c)) := by
  have hm : base i < 544 := base_add_lt i 0 (Nat.zero_le _)
  have hm' : base i + qb i < 544 := base_add_lt i (qb i) le_rfl
  conv_lhs => rw [homes_all (P := wHome c XW) _ hm, homes_all (P := bHome c XB) _ hm]
  rw [homes_all (P := wHome c XW) _ hm', homes_all (P := bHome c XB) _ hm']
  iintro ⟨HQ, HD, HK, HV, HO, HDK, HDV, HDQ, HES, HW, ⟨Hw, HWs⟩, ⟨Hb, HBs⟩, ⟨⟨%f0, Hs0⟩, ⟨%f1, Hs1⟩, ⟨%f2, Ht0⟩, ⟨%f3, Ht1⟩, Hc00, Hc01, Hc10, Hc11⟩⟩
  dsimp only [pointG]
  rw [cc0_attn_bwd_eq_skeleton]
  dsimp only [cc0_attn_bwd_skel]
  rw [wp_bind]
  iapply (wp_wand_r Idealize.ShloMosaic.frame (wpE (defs₀ (F := F)) 𝒱₀ (c : Thread nD τ) none) Set.univ)
  isplitl [HQ HD HDK HDV]
  · iapply (headRun c i arg2 harg2 arg3 harg3 arg4 harg4 arg7 harg7 arg8 harg8 arg9 harg9 arg10 harg10 arg11 harg11 arg12 harg12 arg13 harg13 Q D DK DV)
    isplitl [HQ]; iexact HQ
    isplitl [HD]; iexact HD
    isplitl [HDK]; iexact HDK
    iexact HDV
  iintro %r ⟨%hr, HQ, HD, HDK, HDV⟩
  subst hr
  dsimp only [headOut]
  rw [k0_part8_eq_skeleton, k0_part9_eq_skeleton, k0_part10_eq_skeleton, k0_part11_eq_skeleton]
  letI L1 := loopInv1 c XW XB i arg2 harg2 arg3 harg3 arg4 harg4 arg7 harg7 arg8 harg8 arg9 harg9 arg10 harg10 arg11 harg11 arg12 harg12 arg13 harg13 (BitVec.ofNat 32 (i 1).val) (inpOf w b Q D K V) hw hb
    ⟨k0_pay15, k0_pay16, begun i k0_pay9 DK, begun i k0_pay10 DV⟩
  sl_exec
  have er : pointRun.sl.r (F := F) = tri := rfl
  have e1 : pointRun.sl.HDQ_1 (F := F) = [⟨Rect.unit (s := S1024x128) ![0, 0] S1024x128.size inb_S1024x128_S1024x128_0_0, k0_pay15⟩] := rfl
  have e2 : pointRun.sl.HES_1 (F := F) = [⟨Rect.unit (s := S1024x256) ![0, 0] S1024x256.size inb_S1024x256_S1024x256_0_0, k0_pay16⟩] := rfl
  rw [er, e1, e2]
  ihave HDQ := (store_full c arg12 _ _ _ _ k0_pay15 rfl) $$ HDQ
  ihave HES := (store_full c arg13 _ _ _ _ k0_pay16 rfl) $$ HES
  sl_exec
  have et : Scf.trips (k0_t1_loop i).lb (k0_t1_loop i).ub (k0_t1_loop i).st = qb i := trips1_eq i
  rw [et]
  sl_for0 (trips2_eq i)
  sl_exec
  sl_step
  set I : Inp F := inpOf w b Q D K V with hI
  set S : St F := steps I (base i) ⟨k0_pay15, k0_pay16, begun i k0_pay9 DK, begun i k0_pay10 DV⟩ (qb i) with hS
  have hout : pointOut i w b Q D K V DK DV = last I (Ring.bk 544 (base i + qb i)) (qb i) S := rfl
  have ew : pointRun.sl.r_2 c XW i = k0_pay25 (tileOf I.w (Ring.bk 544 (base i + qb i))) :=
    congrArg k0_pay25 ((load_w XW _ _ (off27_eq i) _ _).trans (congrArg (fun A => tileOf A (Ring.bk 544 (base i + qb i))) hw))
  have eb : pointRun.sl.r_3 c XB i = k0_pay26 (tileOf I.b (Ring.bk 544 (base i + qb i))) :=
    congrArg k0_pay26 ((load_b XB _ _ (off27_eq i) _ _).trans (congrArg (fun A => tileOf A (Ring.bk 544 (base i + qb i))) hb))
  have ev : pointRun.sl.r_4 i arg4 w b Q D K V = k0_pay27 I.d (rowsOf I.v (qb i)) := congrArg (k0_pay27 I.d) (diag_load i arg4 I.v _)
  have e5 : pointRun.sl.r_5 i arg13 w b Q D K V DK DV = S.es := es_load arg13 S.es
  have e6 : pointRun.sl.r_6 c XW i arg4 w b Q D K V = k0_pay33 (k0_pay25 (tileOf I.w (Ring.bk 544 (base i + qb i)))) (k0_pay27 I.d (rowsOf I.v (qb i))) :=
    congr (congrArg k0_pay33 ew) ev
  have edq : pointRun.sl.v181 c XW XB i arg3 arg4 arg12 arg13 w b Q D K V DK DV = (last I (Ring.bk 544 (base i + qb i)) (qb i) S).dq :=
    (dq_load' arg12 _ _).trans (pay30_congr (diag_load i arg3 I.k _) ew eb ev (es_load arg13 S.es) (dq_load arg12 S.dq))
  rw [hout, ew, eb, ev, e5, e6, edq]
  ihave HDK := (store_unit c arg10 S.dk (off26_eq i) _ _ (last I (Ring.bk 544 (base i + qb i)) (qb i) S).dk
    (congrArg (fun x => VecWindow.put S.dk (rowOff (qb i)) S256x128.size x) (pay31_congr (es_load arg13 S.es) (diag_load i arg10 S.dk _)))) $$ HDK
  ihave HDV := (store_unit c arg11 S.dv (off26_eq i) _ _ (last I (Ring.bk 544 (base i + qb i)) (qb i) S).dv
    (congrArg (fun x => VecWindow.put S.dv (rowOff (qb i)) S256x128.size (k0_pay32 I.d (k0_pay25 (tileOf I.w (Ring.bk 544 (base i + qb i)))) x)) (diag_load i arg11 S.dv _))) $$ HDV
  ihave HO := (store_full c arg9 _ _ _ _ (k0_pay2 (last I (Ring.bk 544 (base i + qb i)) (qb i) S).dq) rfl) $$ HO
  ihave Hw2 := (two_of_roles (fun s => iprop(∃ f, wSlotP c s f)) (qb i)) $$ [Hc00_dst Hs1]
  · isplitl [Hc00_dst]; iexists _; iexact Hc00_dst
    iexists _; iexact Hs1
  ihave Hb2 := (two_of_roles (fun s => iprop(∃ f, bSlotP c s f)) (qb i)) $$ [Hc10_dst Ht1]
  · isplitl [Hc10_dst]; iexists _; iexact Hc10_dst
    iexists _; iexact Ht1
  ihave Hcw := (two_of_roles (cellP c 0) (qb i)) $$ [Hc00 Hc01]
  · isplitl [Hc00]; iexact Hc00
    iexact Hc01
  ihave Hcb := (two_of_roles (cellP c 1) (qb i)) $$ [Hc10 Hc11]
  · isplitl [Hc10]; iexact Hc10
    iexact Hc11
  icases Hw2 with ⟨Hw0, Hw1⟩
  icases Hb2 with ⟨Hb0, Hb1⟩
  icases Hcw with ⟨Hcw0, Hcw1⟩
  icases Hcb with ⟨Hcb0, Hcb1⟩
  isplitl [HQ]; iexact HQ
  isplitl [HD]; iexact HD
  isplitl [HK]; iexact HK
  isplitl [HV]; iexact HV
  isplitl [HO]; iexact HO
  isplitl [HDK]; iexact HDK
  isplitl [HDV]; iexact HDV
  isplitl [HDQ]
  · iapply (any_held c arg12); iexact HDQ
  isplitl [HES]
  · iapply (any_held c arg13); iexact HES
  isplitl [HW]; iexists _; iexact HW
  isplitl [Hc00_src HWs]
  · isplitl [Hc00_src]; iexact Hc00_src
    iexact HWs
  isplitl [Hc10_src HBs]
  · isplitl [Hc10_src]; iexact Hc10_src
    iexact HBs
  isplitl [Hw0]; iexact Hw0
  isplitl [Hw1]; iexact Hw1
  isplitl [Hb0]; iexact Hb0
  isplitl [Hb1]; iexact Hb1
  isplitl [Hcw0]; iexact Hcw0
  isplitl [Hcw1]; iexact Hcw1
  isplitl [Hcb0]; iexact Hcb0
  iexact Hcb1
end Point
end Cert.Proof.AttnBwd
-- ==== Proof.Blocks.lean ====
/-
  The saved arrays whole are their tiles home, a stage whole is its two slots, and the kernel's own semaphores are the
  four cells.
-/
module

public import proofs.«01_k».proof.Proof.Point

@[expose] public section

noncomputable section

namespace Cert.Proof.AttnBwd

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem of_eq {P Q : sProp 𝕄} (e : P = Q) : P ⊢ Q := e ▸ .rfl

/-! ### Element sets -/

abbrev tileSet (n : Fin 544) : Finset S4x136x1024x256.Idx := (Rect.unit (s := S4x136x1024x256) (tileOff n) S1x1x1024x256.size (tileOff_inb n)).set
abbrev slotSet (s : Fin 2) : Finset S2x1024x256.Idx := (Rect.unit (s := S2x1024x256) (slotOff s) S1x1024x256.size (slotOff_inb s)).set

theorem wTile_set (n : Fin 544) : (wTile n).view.set = tileSet n := (View.set_reshape _ _).trans (View.set_slice_whole _ _)
theorem bTile_set (n : Fin 544) : (bTile n).view.set = tileSet n := (View.set_reshape _ _).trans (View.set_slice_whole _ _)
theorem wSlot_set (s : Fin 2) : (wSlot s).view.set = slotSet s := (View.set_reshape _ _).trans (View.set_slice_whole _ _)
theorem bSlot_set (s : Fin 2) : (bSlot s).view.set = slotSet s := (View.set_reshape _ _).trans (View.set_slice_whole _ _)

theorem mem_tileSet (n : Fin 544) (y : S4x136x1024x256.Idx) : y ∈ tileSet n ↔ (y 0).val = n.val / 136 ∧ (y 1).val = n.val % 136 := by
  rw [Rect.mem_set_unit]
  have h2 : (y 2).val < 1024 := (y 2).isLt
  have h3 : (y 3).val < 256 := (y 3).isLt
  constructor
  · intro H
    have a0 : n.val / 136 ≤ (y 0).val ∧ (y 0).val < n.val / 136 + 1 := H 0
    have a1 : n.val % 136 ≤ (y 1).val ∧ (y 1).val < n.val % 136 + 1 := H 1
    omega
  · intro H i; fin_cases i
    · show n.val / 136 ≤ (y 0).val ∧ (y 0).val < n.val / 136 + 1; omega
    · show n.val % 136 ≤ (y 1).val ∧ (y 1).val < n.val % 136 + 1; omega
    · show 0 ≤ (y 2).val ∧ (y 2).val < 0 + 1024; omega
    · show 0 ≤ (y 3).val ∧ (y 3).val < 0 + 256; omega
theorem mem_slotSet (s : Fin 2) (y : S2x1024x256.Idx) : y ∈ slotSet s ↔ (y 0).val = s.val := by
  rw [Rect.mem_set_unit]
  have h1 : (y 1).val < 1024 := (y 1).isLt
  have h2 : (y 2).val < 256 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1024; omega
    · show 0 ≤ (y 2).val ∧ (y 2).val < 0 + 256; omega
theorem tiles_disjoint : ∀ n n' : Fin 544, n ≠ n' → Disjoint (tileSet n) (tileSet n') := by
  intro n n' hne; rw [Finset.disjoint_left]; intro y hy hy'; rw [mem_tileSet] at hy hy'; exact hne (Fin.ext (by omega))
theorem tiles_cover : (Finset.univ : Finset (Fin 544)).biUnion tileSet = Finset.univ := by
  ext y; simp only [Finset.mem_biUnion, Finset.mem_univ, true_and, iff_true]
  have h0 : (y 0).val < 4 := (y 0).isLt
  have h1 : (y 1).val < 136 := (y 1).isLt
  exact ⟨⟨136 * (y 0).val + (y 1).val, by omega⟩, by rw [mem_tileSet]; dsimp only; omega⟩
theorem slots_disjoint : ∀ s s' : Fin 2, s ≠ s' → Disjoint (slotSet s) (slotSet s') := by
  intro s s' hne; rw [Finset.disjoint_left]; intro y hy hy'; rw [mem_slotSet] at hy hy'; exact hne (Fin.ext (hy.symm.trans hy'))
theorem slots_cover : (Finset.univ : Finset (Fin 2)).biUnion slotSet = Finset.univ := by
  ext y; simp only [Finset.mem_biUnion, Finset.mem_univ, true_and, iff_true]; exact ⟨(y 0).cast (by decide), by rw [mem_slotSet]; rfl⟩

theorem sep_fin2 (Φ : Fin 2 → sProp 𝕄) : bigSep Finset.univ Φ = iprop(Φ 0 ∗ Φ 1) :=
  bigSep_univ_eq_bigSepL [(0 : Fin 2), (1 : Fin 2)] (by decide) (by decide) Φ

/-! ### The saved arrays -/

theorem w_eq (c : Dev nD) (XW : Buf (Elt F) (wM.view.loc (c : Thread nD τ))) :
    (((c : Thread nD τ).loc main_v60) ↦{fullShare} XW : sProp 𝕄) = bigSep Finset.univ (wHome c XW) := by
  rw [Ring.pointsTo_blocks (ℓ := (c : Thread nD τ).loc main_v60) tileSet tiles_disjoint tiles_cover]
  exact bigSep_congr fun n _ => by rw [← wTile_set]; rfl
theorem b_eq (c : Dev nD) (XB : Buf (Elt F) (bM.view.loc (c : Thread nD τ))) :
    (((c : Thread nD τ).loc main_v103) ↦{fullShare} XB : sProp 𝕄) = bigSep Finset.univ (bHome c XB) := by
  rw [Ring.pointsTo_blocks (ℓ := (c : Thread nD τ).loc main_v103) tileSet tiles_disjoint tiles_cover]
  exact bigSep_congr fun n _ => by rw [← bTile_set]; rfl

/-! ### The stages -/

theorem wSlotP_eq (c : Dev nD) (s : Fin 2) (f) : wSlotP c s f = (((c : Thread nD τ).loc cc0_scratch2) ↦[slotSet s]{fullShare} f : sProp 𝕄) :=
  congrArg (fun S => (_ ↦[S]{fullShare} f : sProp 𝕄)) (wSlot_set s)
theorem bSlotP_eq (c : Dev nD) (s : Fin 2) (f) : bSlotP c s f = (((c : Thread nD τ).loc cc0_scratch3) ↦[slotSet s]{fullShare} f : sProp 𝕄) :=
  congrArg (fun S => (_ ↦[S]{fullShare} f : sProp 𝕄)) (bSlot_set s)

theorem w_split (c : Dev nD) : iprop(∃ f : Buf (Elt F) ((c : Thread nD τ).loc cc0_scratch2), ((c : Thread nD τ).loc cc0_scratch2) ↦{fullShare} f)
    ⊢ (iprop((∃ f, wSlotP c 0 f) ∗ ∃ f, wSlotP c 1 f) : sProp 𝕄) := by
  iintro ⟨%f, H⟩
  ihave H2 := (of_eq ((Ring.pointsTo_blocks (Ix := Unit) (Name := ℕ) (U := UU nD τ) (Lvl := ℕ) (q := fullShare) (ℓ := (c : Thread nD τ).loc cc0_scratch2) slotSet slots_disjoint slots_cover f).trans (sep_fin2 _))) $$ H
  icases H2 with ⟨H0, H1⟩
  isplitl [H0]
  · iexists f; iapply (of_eq (wSlotP_eq c 0 f).symm); iexact H0
  · iexists f; iapply (of_eq (wSlotP_eq c 1 f).symm); iexact H1
theorem w_join (c : Dev nD) : iprop((∃ f, wSlotP c 0 f) ∗ ∃ f, wSlotP c 1 f)
    ⊢ (iprop(∃ f : Buf (Elt F) ((c : Thread nD τ).loc cc0_scratch2), ((c : Thread nD τ).loc cc0_scratch2) ↦{fullShare} f) : sProp 𝕄) := by
  iintro ⟨⟨%f0, H0⟩, ⟨%f1, H1⟩⟩
  iapply (Ring.pointsTo_blocks_join_exists (ℓ := (c : Thread nD τ).loc cc0_scratch2) slotSet slots_disjoint slots_cover f0)
  irw [sep_fin2]
  isplitl [H0]
  · iexists f0; iapply (of_eq (wSlotP_eq c 0 f0)); iexact H0
  · iexists f1; iapply (of_eq (wSlotP_eq c 1 f1)); iexact H1
theorem b_split (c : Dev nD) : iprop(∃ f : Buf (Elt F) ((c : Thread nD τ).loc cc0_scratch3), ((c : Thread nD τ).loc cc0_scratch3) ↦{fullShare} f)
    ⊢ (iprop((∃ f, bSlotP c 0 f) ∗ ∃ f, bSlotP c 1 f) : sProp 𝕄) := by
  iintro ⟨%f, H⟩
  ihave H2 := (of_eq ((Ring.pointsTo_blocks (Ix := Unit) (Name := ℕ) (U := UU nD τ) (Lvl := ℕ) (q := fullShare) (ℓ := (c : Thread nD τ).loc cc0_scratch3) slotSet slots_disjoint slots_cover f).trans (sep_fin2 _))) $$ H
  icases H2 with ⟨H0, H1⟩
  isplitl [H0]
  · iexists f; iapply (of_eq (bSlotP_eq c 0 f).symm); iexact H0
  · iexists f; iapply (of_eq (bSlotP_eq c 1 f).symm); iexact H1
theorem b_join (c : Dev nD) : iprop((∃ f, bSlotP c 0 f) ∗ ∃ f, bSlotP c 1 f)
    ⊢ (iprop(∃ f : Buf (Elt F) ((c : Thread nD τ).loc cc0_scratch3), ((c : Thread nD τ).loc cc0_scratch3) ↦{fullShare} f) : sProp 𝕄) := by
  iintro ⟨⟨%f0, H0⟩, ⟨%f1, H1⟩⟩
  iapply (Ring.pointsTo_blocks_join_exists (ℓ := (c : Thread nD τ).loc cc0_scratch3) slotSet slots_disjoint slots_cover f0)
  irw [sep_fin2]
  isplitl [H0]
  · iexists f0; iapply (of_eq (bSlotP_eq c 0 f0)); iexact H0
  · iexists f1; iapply (of_eq (bSlotP_eq c 1 f1)); iexact H1

/-! ### The cells -/

abbrev cells : Fin 4 → SemLoc sig := fun k => .dma (cell (![0, 0, 1, 1] k) (![0, 1, 0, 1] k)).sem
theorem cells_own : Pipeline.OwnSemFacts spec0 cells := by decide
theorem cells_eq (c : Dev nD) : (Pipeline.ownSems0 (Ix := Unit) (Name := ℕ) (U := UU nD τ) (Lvl := ℕ) (Val := Elt F) (τ := τ) cells c : sProp 𝕄)
    = iprop(cellP c 0 0 ∗ cellP c 0 1 ∗ cellP c 1 0 ∗ cellP c 1 1) := by
  unfold Pipeline.ownSems0
  exact bigSep_univ_eq_bigSepL [(0 : Fin 4), (1 : Fin 4), (2 : Fin 4), (3 : Fin 4)] (by decide) (by decide) _

/-! ### The buffers the kernel reads where they lie -/

def saved : Finset (Ref sig .tc) := {main_v60, main_v103}
theorem saved_sub : saved ⊆ Pipeline.restRefs sig spec0 := by decide
theorem saved_eq (c : Dev nD) (V : (b : Ref sig .tc) → Buf (Elt F) ((c : Thread nD τ).loc b)) :
    (bigSep saved fun b => (((c : Thread nD τ).loc b) ↦{fullShare} V b : sProp 𝕄))
      = iprop(bigSep Finset.univ (wHome c (V main_v60)) ∗ bigSep Finset.univ (bHome c (V main_v103))) := by
  unfold saved
  rw [bigSep_insert (by decide), bigSep_singleton, w_eq, b_eq]
  rfl

end Cert.Proof.AttnBwd
-- ==== Proof.Run.lean ====
/-
  The launch: at every float interpretation the program runs to its end, the arguments as launched, every semaphore at
  zero, and the results at what the grid's points leave.
-/
module

public import proofs.«01_k».proof.Proof.Blocks
public import proofs.«01_k».proof.Proof.Gen.KernelIdeal.Frame
public import Idealize.ShloMosaic.Lib.Pipeline.Frame

@[expose] public section

set_option maxRecDepth 16384

noncomputable section

namespace Cert.Proof.AttnBwd

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
theorem main_region : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7] (by simp only [List.Forall]; exact ⟨hostOps0_sub, hostOps0_1_sub, hostOps0_2_sub, hostOps0_3_sub, hostOps0_4_sub, hostOps0_5_sub, hostOps0_6_sub, hostOps0_7_sub⟩)
    (by simp only [List.Forall]; exact ⟨hostOps0_fresh, hostOps0_1_fresh, hostOps0_2_fresh, hostOps0_3_fresh, hostOps0_4_fresh, hostOps0_5_fresh, hostOps0_6_fresh, hostOps0_7_fresh⟩) main_chain

/-! ### What the points leave -/

/-- The saved arrays as the region finds them, and the blocks of the other operands at a point. -/
abbrev wV (c : Dev nD) : FVec F S4x136x1024x256 .bf16 := wM.view.read (Elt F) (V m c main_v60)
abbrev bV (c : Dev nD) : FVec F S4x136x1024x256 .bf16 := bM.view.read (Elt F) (V m c main_v103)
abbrev qAt (c : Dev nD) (t : Fin cfg0.N) : FVec F S256x512 .bf16 := iblk m c 0 t
abbrev kAt (c : Dev nD) (t : Fin cfg0.N) : FVec F S4096x128 .bf16 := iblk m c 1 t
abbrev vAt (c : Dev nD) (t : Fin cfg0.N) : FVec F S4096x128 .bf16 := iblk m c 2 t
abbrev dAt (c : Dev nD) (t : Fin cfg0.N) : FVec F S256x512 .bf16 := iblk m c 3 t

/-- What point `t` leaves, from the gradients of the keys and the values it finds. -/
abbrev leave (c : Dev nD) (t : Fin cfg0.N) (DK DV : FVec F S4096x128 .f32) : St F :=
  pointOut (grid0.coords t) (wV m c) (bV m c) (qAt m c t) (dAt m c t) (kAt m c t) (vAt m c t) DK DV

/-- The gradients of the keys and the values before point `n`. -/
def accAt (c : Dev nD) : ℕ → FVec F S4096x128 .f32 × FVec F S4096x128 .f32
  | 0 => (k0_pay9, k0_pay10)
  | n + 1 => if h : n < cfg0.N then ((leave m c ⟨n, h⟩ (accAt c n).1 (accAt c n).2).dk, (leave m c ⟨n, h⟩ (accAt c n).1 (accAt c n).2).dv) else (k0_pay9, k0_pay10)

/-- The state after point `t`. -/
def stateAt (c : Dev nD) (t : Fin cfg0.N) : St F := leave m c t (accAt m c t.val).1 (accAt m c t.val).2

theorem accAt_succ (c : Dev nD) (n : ℕ) (h : n < cfg0.N) : accAt m c (n + 1) = ((stateAt m c ⟨n, h⟩).dk, (stateAt m c ⟨n, h⟩).dv) := by
  rw [accAt, dif_pos h]; rfl

theorem pointOut_first (i : grid0.Coords) (h : qb i = 0) (w b : FVec F S4x136x1024x256 .bf16) (Q D : FVec F S256x512 .bf16) (K V : FVec F S4096x128 .bf16)
    (DK DV DK' DV' : FVec F S4096x128 .f32) : pointOut i w b Q D K V DK DV = pointOut i w b Q D K V DK' DV' := by
  unfold pointOut begun; simp only [if_pos h]

theorem qb_coords : ∀ t : Fin grid0.N, qb (grid0.coords t) = t.val % 16 := by decide +kernel
theorem hd_coords : ∀ t : Fin grid0.N, hd (grid0.coords t) = t.val / 16 := by decide +kernel

/-! ### The proof data -/

def Φ (c : Dev nD) : sProp 𝕄 :=
  iprop(bigSep Finset.univ (wHome c (V m c main_v60)) ∗ bigSep Finset.univ (bHome c (V m c main_v103)) ∗ stages (F := F) c
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ r, prngReg c r))

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay2 (stateAt m c t).dq
    | ⟨6, _⟩ => (stateAt m c t).dk
    | ⟨7, _⟩ => (stateAt m c t).dv
    | ⟨_ + 8, h⟩ => absurd h (Nat.not_lt.2 (Nat.le_add_left _ _))
  Φ _ := Φ m c
  q w := Pipeline.shareOf spec0 w
  owed _ := 0

theorem dats_A (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = k0_pay2 (stateAt m c t).dq := by dsimp only [dats]
theorem after_6 (c : Dev nD) (t : Fin cfg0.N) : (dats m 0 c).after 6 t = (stateAt m c t).dk := by dsimp only [dats]
theorem after_7 (c : Dev nD) (t : Fin cfg0.N) : (dats m 0 c).after 7 t = (stateAt m c t).dv := by dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [dats_A]; try rfl) t d).trans
    (by unfold Dat.fetched Dat.blockOf iblk; rw [dats_A]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [dats_A]; try rfl) t d).trans
    (by unfold Dat.fetched Dat.blockOf iblk; rw [dats_A]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [dats_A]; try rfl) t d).trans
    (by unfold Dat.fetched Dat.blockOf iblk; rw [dats_A]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [dats_A]; try rfl) t d).trans
    (by unfold Dat.fetched Dat.blockOf iblk; rw [dats_A]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [dats_A]; try rfl) t d).trans
    (by unfold Dat.fetched Dat.blockOf iblk; rw [dats_A]; try rfl)

/-- Past a head's first point the buffers of the gradients of the keys and the values hold what the point before left. -/
theorem before_6 (c : Dev nD) (t : Fin cfg0.N) (h : t.val % 16 ≠ 0) (d) : (dats m 0 c).before 6 t d = (accAt m c t.val).1 := by
  have ht : t.val ≠ 0 := fun e => h (by rw [e])
  have hlt : t.val - 1 < cfg0.N := Nat.lt_of_le_of_lt (Nat.sub_le _ _) t.isLt
  refine ((dats m 0 c).before_out_kept 6 rfl t ht ?_ (fun _ => rfl) (fun _ _ => rfl) d).trans ?_
  · rw [Bool.eq_false_iff, Ne, flush0_6]; dsimp only; omega
  · rw [after_6]
    have e := accAt_succ m c (t.val - 1) hlt
    rw [show t.val - 1 + 1 = t.val by omega] at e
    rw [e]
theorem before_7 (c : Dev nD) (t : Fin cfg0.N) (h : t.val % 16 ≠ 0) (d) : (dats m 0 c).before 7 t d = (accAt m c t.val).2 := by
  have ht : t.val ≠ 0 := fun e => h (by rw [e])
  have hlt : t.val - 1 < cfg0.N := Nat.lt_of_le_of_lt (Nat.sub_le _ _) t.isLt
  refine ((dats m 0 c).before_out_kept 7 rfl t ht ?_ (fun _ => rfl) (fun _ _ => rfl) d).trans ?_
  · rw [Bool.eq_false_iff, Ne, flush0_7]; dsimp only; omega
  · rw [after_7]
    have e := accAt_succ m c (t.val - 1) hlt
    rw [show t.val - 1 + 1 = t.val by omega] at e
    rw [e]

theorem leave_before (c : Dev nD) (t : Fin cfg0.N) (d6 d7) :
    leave m c t ((dats m 0 c).before 6 t d6) ((dats m 0 c).before 7 t d7) = stateAt m c t := by
  by_cases h : t.val % 16 = 0
  · exact pointOut_first _ ((qb_coords t).trans h) _ _ _ _ _ _ _ _ _ _
  · rw [before_6 m c t h, before_7 m c t h]; rfl

/-! ### The body -/

abbrev dqM : Memref sig .tc .vmem S1024x128 .f32 := Memref.whole cc0_scratch0
abbrev esM : Memref sig .tc .vmem S1024x256 .f32 := Memref.whole cc0_scratch1

theorem dq_any (c : Dev nD) (f : Buf (Elt F) ((c : Thread nD τ).loc cc0_scratch0)) : (((c : Thread nD τ).loc cc0_scratch0) ↦{fullShare} f : sProp 𝕄) ⊢ iprop(∃ X, holds c dqM X) :=
  (of_eq (congrArg (fun S => (((c : Thread nD τ).loc cc0_scratch0) ↦[S]{fullShare} f : sProp 𝕄)) (View.set_whole cc0_scratch0).symm)).trans (any_held c dqM f)
theorem es_any (c : Dev nD) (f : Buf (Elt F) ((c : Thread nD τ).loc cc0_scratch1)) : (((c : Thread nD τ).loc cc0_scratch1) ↦{fullShare} f : sProp 𝕄) ⊢ iprop(∃ X, holds c esM X) :=
  (of_eq (congrArg (fun S => (((c : Thread nD τ).loc cc0_scratch1) ↦[S]{fullShare} f : sProp 𝕄)) (View.set_whole cc0_scratch1).symm)).trans (any_held c esM f)
theorem dq_back (c : Dev nD) (X : FVec F S1024x128 .f32) : (holds c dqM X : sProp 𝕄)
    ⊢ iprop(∃ f : Buf (Elt F) ((c : Thread nD τ).loc cc0_scratch0), ((c : Thread nD τ).loc cc0_scratch0) ↦{fullShare} f) := by
  refine (of_eq (congrArg (fun S => (((c : Thread nD τ).loc cc0_scratch0) ↦[S]{fullShare} (dqM.view.rep X) : sProp 𝕄)) (View.set_whole cc0_scratch0))).trans ?_
  iintro H; iexists _; iexact H
theorem es_back (c : Dev nD) (X : FVec F S1024x256 .f32) : (holds c esM X : sProp 𝕄)
    ⊢ iprop(∃ f : Buf (Elt F) ((c : Thread nD τ).loc cc0_scratch1), ((c : Thread nD τ).loc cc0_scratch1) ↦{fullShare} f) := by
  refine (of_eq (congrArg (fun S => (((c : Thread nD τ).loc cc0_scratch1) ↦[S]{fullShare} (esM.view.rep X) : sProp 𝕄)) (View.set_whole cc0_scratch1))).trans ?_
  iintro H; iexists _; iexact H

abbrev pointAt (t : Fin cfg0.N) : Prog (TpuEff nD τ sig (Elt F) Λ₀ .tc) PUnit :=
  pointG (F := F) (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) (st0_5 t) (hstage0_5 ((cfg0.slots t 5).cast nbuf0_5))
    (st0_6 t) (hstage0_6 ((cfg0.slots t 6).cast nbuf0_6)) (st0_7 t) (hstage0_7 ((cfg0.slots t 7).cast nbuf0_7))
    dqM (Memref.isWhole_whole _) esM (Memref.isWhole_whole _)

theorem body_eq (t : Fin cfg0.N) : bodyAt0 (F := F) t = pointAt t := rfl

theorem bodyRun (c : Dev nD) (t : Fin cfg0.N) (g5 : Buf (Elt F) ((st0_5 t).view.loc (c : Thread nD τ))) (DK DV : FVec F S4096x128 .f32) (W) :
    iprop(holds c (st0_0 t) (qAt m c t) ∗ holds c (st0_1 t) (kAt m c t) ∗ holds c (st0_2 t) (vAt m c t) ∗ holds c (st0_3 t) (dAt m c t)
      ∗ ((st0_5 t).view.loc (c : Thread nD τ) ↦[(st0_5 t).view.set]{fullShare} g5) ∗ holds c (st0_6 t) DK ∗ holds c (st0_7 t) DV ∗ owes (c : Thread nD τ) 0 W ∗ Φ m c)
    ⊢ wp frame (wpE (defs₀ (F := F)) 𝒱₀ (c : Thread nD τ) none) Set.univ (pointAt t)
        (fun _ => iprop(holds c (st0_0 t) (qAt m c t) ∗ holds c (st0_1 t) (kAt m c t) ∗ holds c (st0_2 t) (vAt m c t) ∗ holds c (st0_3 t) (dAt m c t)
          ∗ holds c (st0_5 t) (k0_pay2 (leave m c t DK DV).dq) ∗ holds c (st0_6 t) (leave m c t DK DV).dk ∗ holds c (st0_7 t) (leave m c t DK DV).dv
          ∗ (∃ W, owes (c : Thread nD τ) 0 W) ∗ Φ m c)) := by
  unfold Φ
  iintro ⟨HQ, HK, HV, HD, HO, HDK, HDV, HW, Hw, Hb, Hst, ⟨%f0, Hdq⟩, ⟨%f1, Hes⟩, Hg⟩
  ihave Hdq := (dq_any c f0) $$ Hdq
  ihave Hes := (es_any c f1) $$ Hes
  icases Hdq with ⟨%DQ, Hdq⟩
  icases Hes with ⟨%ES, Hes⟩
  iapply (wp_wand_r Idealize.ShloMosaic.frame (wpE (defs₀ (F := F)) 𝒱₀ (c : Thread nD τ) none) Set.univ)
  isplitl [HQ HK HV HD HO HDK HDV HW Hw Hb Hst Hdq Hes]
  · iapply (pointRun c (V m c main_v60) (V m c main_v103) (grid0.coords t) (st0_0 t) _ (st0_1 t) _ (st0_2 t) _ (st0_3 t) _ (st0_4 t) _ (st0_5 t) _ (st0_6 t) _ (st0_7 t) _ dqM _ esM _
      (wV m c) (bV m c) rfl rfl (qAt m c t) (dAt m c t) (kAt m c t) (vAt m c t) DK DV g5 DQ ES W)
    isplitl [HQ]; iexact HQ
    isplitl [HD]; iexact HD
    isplitl [HK]; iexact HK
    isplitl [HV]; iexact HV
    isplitl [HO]; iexact HO
    isplitl [HDK]; iexact HDK
    isplitl [HDV]; iexact HDV
    isplitl [Hdq]; iexact Hdq
    isplitl [Hes]; iexact Hes
    isplitl [HW]; iexact HW
    isplitl [Hw]; iexact Hw
    isplitl [Hb]; iexact Hb
    iexact Hst
  · iintro %_ ⟨HQ, HD, HK, HV, HO, HDK, HDV, ⟨%X0, Hdq⟩, ⟨%X1, Hes⟩, HW, Hw, Hb, Hst⟩
    isplitl [HQ]; iexact HQ
    isplitl [HK]; iexact HK
    isplitl [HV]; iexact HV
    isplitl [HD]; iexact HD
    isplitl [HO]; iexact HO
    isplitl [HDK]; iexact HDK
    isplitl [HDV]; iexact HDV
    isplitl [HW]; iexact HW
    isplitl [Hw]; iexact Hw
    isplitl [Hb]; iexact Hb
    isplitl [Hst]; iexact Hst
    isplitl [Hdq]; iapply (dq_back c X0); iexact Hdq
    isplitl [Hes]; iapply (es_back c X1); iexact Hes
    iexact Hg

theorem defs_tc : (defs₀ (F := F)) .tc cfg0.body
    = fun a => cc0_attn_bwd (grid0.coords a.1) (win0_0.stage (a.2 0)) (hstage0_0 ((a.2 0).cast nbuf0_0)) (win0_1.stage (a.2 1)) (hstage0_1 ((a.2 1).cast nbuf0_1)) (win0_2.stage (a.2 2)) (hstage0_2 ((a.2 2).cast nbuf0_2)) (Memref.whole main_v60) (Memref.isWhole_whole _) (Memref.whole main_v103) (Memref.isWhole_whole _) (win0_3.stage (a.2 3)) (hstage0_3 ((a.2 3).cast nbuf0_3)) (win0_4.stage (a.2 4)) (hstage0_4 ((a.2 4).cast nbuf0_4)) (win0_5.stage (a.2 5)) (hstage0_5 ((a.2 5).cast nbuf0_5)) (win0_6.stage (a.2 6)) (hstage0_6 ((a.2 6).cast nbuf0_6)) (win0_7.stage (a.2 7)) (hstage0_7 ((a.2 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 := rfl
theorem prog_eq (t : Fin cfg0.N) : (defs₀ (F := F)) .tc cfg0.body (cfg0.bodyArgs t (cfg0.slots t)) = pointAt t :=
  (congrFun defs_tc _).trans rfl

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [before_0, before_1, before_2, before_3, before_4, after_0, after_1, after_2, after_3, after_4, after_5, after_6, after_7]
  rw [show (dats m 0 c).Φ t.castSucc = Φ m c from rfl, show (dats m 0 c).Φ t.succ = Φ m c from rfl]
  unfold Dat.owesAt Pipeline.owesWithin
  rw [show (dats m 0 c).owed t.castSucc = 0 from rfl, show (dats m 0 c).owed t.succ = 0 from rfl]
  unfold owns
  iintro ⟨HΦ, ⟨%W, -, HW⟩, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, -, H5⟩, ⟨%d6, %g6, %hg6, H6⟩, ⟨%d7, %g7, %hg7, H7⟩⟩
  ihave H0 := (pointsTo_rep_entails (c : Thread nD τ) (st0_0 t) g0 fullShare) $$ H0
  rw [hg0]
  ihave H1 := (pointsTo_rep_entails (c : Thread nD τ) (st0_1 t) g1 fullShare) $$ H1
  rw [hg1]
  ihave H2 := (pointsTo_rep_entails (c : Thread nD τ) (st0_2 t) g2 fullShare) $$ H2
  rw [hg2]
  ihave H3 := (pointsTo_rep_entails (c : Thread nD τ) (st0_3 t) g3 fullShare) $$ H3
  rw [hg3]
  ihave H6 := (pointsTo_rep_entails (c : Thread nD τ) (st0_6 t) g6 fullShare) $$ H6
  rw [hg6]
  ihave H7 := (pointsTo_rep_entails (c : Thread nD τ) (st0_7 t) g7 fullShare) $$ H7
  rw [hg7]
  rw [← leave_before m c t d6 d7]
  sl_rw [prog_eq t]
  iapply (wp_wand_r Idealize.ShloMosaic.frame (wpE (defs₀ (F := F)) 𝒱₀ (c : Thread nD τ) none) Set.univ)
  isplitl [H0 H1 H2 H3 H5 H6 H7 HW HΦ]
  · iapply (bodyRun m c t g5 ((dats m 0 c).before 6 t d6) ((dats m 0 c).before 7 t d7) W)
    isplitl [H0]; iexact H0
    isplitl [H1]; iexact H1
    isplitl [H2]; iexact H2
    isplitl [H3]; iexact H3
    isplitl [H5]; iexact H5
    isplitl [H6]; iexact H6
    isplitl [H7]; iexact H7
    isplitl [HW]; iexact HW
    iexact HΦ
  · iintro %_ ⟨H0, H1, H2, H3, H5, H6, H7, ⟨%W', HW⟩, HΦ⟩
    isplitl [HΦ]; iexact HΦ
    isplitl [HW]
    · iexists W'; isplitr; · ipureintro; exact fun _ _ => Or.inl trivial
      iexact HW
    isplitl [H0]
    · iexists _; isplitr; · ipureintro; exact View.read_rep _ _
      iexact H0
    isplitl [H1]
    · iexists _; isplitr; · ipureintro; exact View.read_rep _ _
      iexact H1
    isplitl [H2]
    · iexists _; isplitr; · ipureintro; exact View.read_rep _ _
      iexact H2
    isplitl [H3]
    · iexists _; isplitr; · ipureintro; exact View.read_rep _ _
      iexact H3
    isplitl [H4]
    · iexists _; isplitr; · ipureintro; exact hg4
      iexact H4
    isplitl [H5]
    · iexists _; isplitr; · ipureintro; exact View.read_rep _ _
      iexact H5
    isplitl [H6]
    · iexists _; isplitr; · ipureintro; exact View.read_rep _ _
      iexact H6
    iexists _; isplitr; · ipureintro; exact View.read_rep _ _
    iexact H7

/-! ### The run -/

theorem Φ_in (c : Dev nD) : Pipeline.ΦD cells spec0 saved (V m) c ⊢ Φ m c := by
  unfold Pipeline.ΦD Φ
  rw [scopedRest0_eq, cells_eq, saved_eq]
  iintro ⟨⟨H0, H1, H2, H3⟩, Hg, ⟨Hc0, Hc1, Hc2, Hc3⟩, Hw, Hb⟩
  ihave H2 := (w_split c) $$ H2
  ihave H3 := (b_split c) $$ H3
  icases H2 with ⟨Hs0, Hs1⟩
  icases H3 with ⟨Ht0, Ht1⟩
  isplitl [Hw]; iexact Hw
  isplitl [Hb]; iexact Hb
  isplitl [Hs0 Hs1 Ht0 Ht1 Hc0 Hc1 Hc2 Hc3]
  · isplitl [Hs0]; iexact Hs0
    isplitl [Hs1]; iexact Hs1
    isplitl [Ht0]; iexact Ht0
    isplitl [Ht1]; iexact Ht1
    isplitl [Hc0]; iexact Hc0
    isplitl [Hc1]; iexact Hc1
    isplitl [Hc2]; iexact Hc2
    iexact Hc3
  isplitl [H0]; iexact H0
  isplitl [H1]; iexact H1
  iexact Hg

theorem Φ_out (c : Dev nD) : Φ m c ⊢ Pipeline.ΦD cells spec0 saved (V m) c := by
  unfold Pipeline.ΦD Φ
  rw [scopedRest0_eq, cells_eq, saved_eq]
  iintro ⟨Hw, Hb, ⟨Hs0, Hs1, Ht0, Ht1, Hc0, Hc1, Hc2, Hc3⟩, H0, H1, Hg⟩
  isplitl [H0 H1 Hs0 Hs1 Ht0 Ht1]
  · isplitl [H0]; iexact H0
    isplitl [H1]; iexact H1
    isplitl [Hs0 Hs1]
    · iapply (w_join c)
      isplitl [Hs0]; iexact Hs0
      iexact Hs1
    · iapply (b_join c)
      isplitl [Ht0]; iexact Ht0
      iexact Ht1
  isplitl [Hg]; iexact Hg
  isplitl [Hc0 Hc1 Hc2 Hc3]
  · isplitl [Hc0]; iexact Hc0
    isplitl [Hc1]; iexact Hc1
    isplitl [Hc2]; iexact Hc2
    iexact Hc3
  isplitl [Hw]; iexact Hw
  iexact Hb

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma_shared (Q' := _) cfgs (dats m) (0 : Fin 1) launch₀0 cells defs₀ 𝒱₀ cells_own saved saved_sub m ρ main
    (hbody := fun c => (body_obligation m c).loose) (hq := fun _ _ _ => rfl)
    (howed := fun _ _ => rfl) (V := V m) (hmain := main_region m) (hA := dats_A m)
    (hin := fun c => Φ_in m c) (hout := fun c => Φ_out m c)

theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).1 0).trans (((dats m 0 c).arrAt_in 0 rfl _).trans ((dats_A m c 0).trans (V_main_arg0 m c))),
      ((h.1 c).1 2).trans (((dats m 0 c).arrAt_in 2 rfl _).trans ((dats_A m c 2).trans (V_main_arg1 m c))),
      ((h.1 c).1 3).trans (((dats m 0 c).arrAt_in 3 rfl _).trans ((dats_A m c 3).trans (V_main_arg2 m c)))⟩, h.2⟩) (run_main m ρ)

end Cert.Proof.AttnBwd
-- ==== Proof.Same.lean ====
/- The idealized kernel is printed from the same text as the kernel (no rewrite rule applies), so at
   every reading of the numbers the two programs are the same program. The equations are checked
   function by function. -/
module

public import proofs.«01_k».proof.Defs
public import proofs.«01_k».proof.Proof.Gen.Kernel
public import proofs.«01_k».proof.Proof.Gen.KernelIdeal

@[expose] public section

set_option maxRecDepth 16384

namespace Cert.Proof.AttnBwd

open Idealize.ShloMosaic Idealize.SL.Sem

/-- The bodies of the two launches are one. -/
theorem same_bodies : (Cert.Kernel.defs₀ (F := Bits)) = Cert.KernelIdeal.defs₀ (F := Bits) := by
  show Defs.onTc _ = Defs.onTc _
  congr 1
  funext l x
  match l, x with
  | 0, (t, s) => rfl
  | ⟨_ + 1, h⟩, _ => exact absurd h (Nat.not_lt.2 (Nat.le_add_left _ _))

set_option maxHeartbeats 2000000 in
/-- The host operations up to the cumulative sum are the same. -/
theorem same_part0 :
    (Cert.Kernel.main_part0 (F := Bits)) = Cert.KernelIdeal.main_part0 (F := Bits) := rfl

set_option maxHeartbeats 2000000 in
/-- The other host operations and the launch are the same. -/
theorem same_part1 :
    (Cert.Kernel.main_part1 (F := Bits)) = Cert.KernelIdeal.main_part1 (F := Bits) := rfl

theorem same_main : (Cert.Kernel.main (F := Bits)) = Cert.KernelIdeal.main (F := Bits) := by
  funext d
  exact congrArg₂ (fun a b => Prog.bind a fun _ => b) (congrFun same_part0 d) (congrFun same_part1 d)

theorem same_defs : (Cert.Kernel.defs (F := Bits)) = Cert.KernelIdeal.defs (F := Bits) :=
  congrArg (Pipeline.defs (Cert.Kernel.pcfgs (F := Bits))) same_bodies

end Cert.Proof.AttnBwd
-- ==== Proof.Frames.lean ====
/- The frame claims. The kernel's run is written once, for any reading `F` of the numbers
   (`frame_run`): at `Bits` it is the printed kernel's frame, at `Ideal` the idealized kernel's. The
   reference's frame comes from the run of its host operations. -/
module

public import proofs.«01_k».proof.Defs
public import proofs.«01_k».proof.Proof.Run
public import proofs.«01_k».proof.Proof.Same
public import proofs.«01_k».proof.Proof.Gen.Kernel
public import proofs.«01_k».proof.Proof.Gen.ReferenceIdeal
public import proofs.«01_k».proof.Proof.Gen.ReferenceIdeal.Run
public import Idealize.ShloMosaic.Adequacy

@[expose] public section

set_option maxRecDepth 16384

namespace Cert.Proof.AttnBwd

open Idealize.ShloMosaic Idealize.SL.Sem

theorem frame_kernel : Cert.quiescent_Kernel := fun m ρ _ => by
  have h := frame_run (F := Bits) m ρ
  rw [← same_defs, ← same_main] at h
  exact h

theorem frame_kernel_ideal : Cert.quiescent_KernelIdeal := fun m ρ _ => frame_run (F := Ideal) m ρ

theorem frame_reference : Cert.quiescent_ReferenceIdeal := fun m ρ _ =>
  (θ_run Cert.ReferenceIdeal.defs _ _).mono
    (fun r h => ⟨fun c => ⟨(h c).2.2.2.1, (h c).2.2.2.2.1, (h c).2.2.2.2.2⟩,
      sem_eq_zero_of_no_sems (by decide) r.2⟩)
    (Cert.ReferenceIdeal.Value.run (F := Ideal) m ρ)

theorem frame_kernel_ideal_finite [Cert.Pre_finite.Facts] : Cert.quiescent_KernelIdeal_pre_finite := fun m ρ _ => frame_run (F := Ideal) m ρ

theorem frame_reference_finite [Cert.Pre_finite.Facts] : Cert.quiescent_ReferenceIdeal_pre_finite := fun m ρ _ => frame_reference m ρ trivial

end Cert.Proof.AttnBwd
-- ==== Proof.Reals.lean ====
/-
  Real numbers among the extended reals: an array whose every element is a real number is written as the image of an array
  of reals, and the operations of the programs are read on such arrays as the operations on reals.
-/
module

public import Idealize.ShloMosaic.Lib.Pointwise
public import Mathlib.Analysis.SpecialFunctions.Log.Basic

@[expose] public section

noncomputable section

namespace Cert.Proof.AttnBwd

open Idealize.ShloMosaic

/-- A finite sum of reals, seen among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- The greater of two reals. -/
theorem coe_max (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-- A choice between two reals. -/
theorem coe_ite (p : Prop) [Decidable p] (a b : ℝ) : (if p then (a : EReal) else (b : EReal)) = ((if p then a else b : ℝ) : EReal) := by
  split <;> rfl

/-- The logarithm of one plus a positive real. -/
theorem log1p_coe {a : ℝ} (h : 0 ≤ a) : Ideal.log1p (a : EReal) = ((Real.log (1 + a) : ℝ) : EReal) := by
  unfold Ideal.log1p
  rw [← EReal.coe_one, ← EReal.coe_add, Ideal.log_coe, if_neg (by linarith)]

/-- A quotient by a real that is not zero. -/
theorem div_coe_coe (a : ℝ) {b : ℝ} (h : b ≠ 0) : Ideal.div (a : EReal) (b : EReal) = ((a / b : ℝ) : EReal) := by
  rw [Ideal.div_coe h, ← EReal.coe_mul]; congr 1; ring

/-- `log (1 + eˣ)` in the form that does not overflow. -/
theorem softplus_eq (x : ℝ) : max x 0 + Real.log (1 + Real.exp (-|x|)) = Real.log (1 + Real.exp x) := by
  have h1 : (0 : ℝ) < 1 + Real.exp (-|x|) := by positivity
  have : Real.exp (max x 0 + Real.log (1 + Real.exp (-|x|))) = 1 + Real.exp x := by
    rw [Real.exp_add, Real.exp_log h1, mul_add, mul_one, ← Real.exp_add]
    rcases le_total 0 x with h | h
    · rw [max_eq_left h, abs_of_nonneg h, add_neg_cancel, Real.exp_zero, add_comm]
    · rw [max_eq_right h, abs_of_nonpos h, neg_neg, zero_add, Real.exp_zero]
  rw [← this, Real.log_exp]

/-- The derivative of softplus at `x`, as `exp (x − softplus x)`, is one less the logistic of `−x`. -/
theorem exp_sub_softplus (x : ℝ) : Real.exp (x - Real.log (1 + Real.exp x)) = 1 - 1 / (1 + Real.exp x) := by
  have h1 : (0 : ℝ) < 1 + Real.exp x := by positivity
  rw [Real.exp_sub, Real.exp_log h1]; field_simp; ring

/-- A fold that adds, as a sum. -/
theorem foldl_add {ι : Type} (l : List ι) (f : ι → EReal) (v : EReal) : l.foldl (fun r k => r + f k) v = v + (l.map f).sum := by
  induction l generalizing v with
  | nil => simp
  | cons a l ih => rw [List.foldl_cons, ih, List.map_cons, List.sum_cons, add_assoc]

/-- The factor of the scores. -/
def scale : ℝ := (Ideal.ofBits .f32 0x3DB504F3#32).toReal

theorem scale_coe : Ideal.ofBits .f32 0x3DB504F3#32 = (scale : EReal) := by
  unfold scale
  rw [EReal.coe_toReal]
  · simp [Ideal.ofBits, Ideal.ieee]
    rw [← EReal.coe_mul]
    exact EReal.coe_ne_top _
  · simp [Ideal.ofBits, Ideal.ieee]
    rw [← EReal.coe_mul]
    exact EReal.coe_ne_bot _

theorem inf_coe : Ideal.ofBits .f32 0x7F800000#32 = ⊤ := by simp [Ideal.ofBits, Ideal.ieee]

end Cert.Proof.AttnBwd
-- ==== Proof.Ref.lean ====
/-
  The reference's results, step by step: each stage of the mathematics of the attention's backward pass as one function of
  the stages before it, and the three results of the reference program as these functions of its arguments.
-/
module

public import proofs.«01_k».proof.Proof.Gen.ReferenceIdeal.Run
public import proofs.«01_k».proof.Proof.Reals

@[expose] public section

noncomputable section

namespace Cert.Proof.AttnBwd.Ref

open Cert.ReferenceIdeal Cert.ReferenceIdeal.Gen Cert.ReferenceIdeal.Value
open Idealize.ShloMosaic Idealize.ShloMosaic.TcCoe

/-- The scores' shape: key/value head, query head of the group, query, key. -/
abbrev Sc := FVec Ideal S4x4x4096x4096 .f32

/-- One number in every place. -/
def all (b : BitVec 32) : Sc := broadcastInDim S4x4x4096x4096 ![] bcast_S_S4x4x4096x4096 (constant S_ .f32 b)

/-- The queries, by position, head, query head of the group. -/
def qR (q : FVec Ideal S4096x2048 .bf16) : FVec Ideal S4096x4x4x128 .f32 :=
  shapeCast _ (extf .f32 q bitsLt_bf16_f32) shapeCasts_S4096x2048_S4096x4x4x128
/-- The keys, by position and head. -/
def kR (kv : FVec Ideal S4096x1024 .bf16) : FVec Ideal S4096x4x128 .f32 :=
  shapeCast _ (extractStridedSlice S4096x512 ![0, 0] (extf .f32 kv bitsLt_bf16_f32) slices_S4096x1024_S4096x512_0_0) shapeCasts_S4096x512_S4096x4x128
/-- The values, by position and head. -/
def vR (kv : FVec Ideal S4096x1024 .bf16) : FVec Ideal S4096x4x128 .f32 :=
  shapeCast _ (extractStridedSlice S4096x512 ![0, 512] (extf .f32 kv bitsLt_bf16_f32) slices_S4096x1024_S4096x512_0_512) shapeCasts_S4096x512_S4096x4x128
/-- The gradient of the output, by head, column, query head of the group and position. -/
def gR (g : FVec Ideal S4096x2048 .bf16) : FVec Ideal S4x128x4x4096 .f32 :=
  transpose S4x128x4x4096 [1, 3, 2, 0] (shapeCast _ (extf .f32 g bitsLt_bf16_f32) shapeCasts_S4096x2048_S4096x4x4x128) transposes_S4096x4x4x128_S4x128x4x4096_1_3_2_0

/-- The scores: keys against queries, scaled. -/
def zR (q : FVec Ideal S4096x2048 .bf16) (kv : FVec Ideal S4096x1024 .bf16) : Sc :=
  mulf (transpose S4x4x4096x4096 [0, 3, 2, 1] (Host.dotGeneral dot_S4096x4x128_S4096x4x4x128_S4x4096x4096x4_2_3_0_02_1_1 none (kR kv) (qR q)) transposes_S4x4096x4096x4_S4x4x4096x4096_0_3_2_1) (all 0x3DB504F3#32)

/-- The keys strictly before the query. -/
def maskR : IVec S4x4x4096x4096 1 :=
  broadcastInDim S4x4x4096x4096 ![2, 3] bcast_S4096x4096_S4x4x4096x4096_2_3 (cmpi .slt (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))

/-- Softplus. -/
def spR (x : Sc) : Sc :=
  select (cmpf .une (subf x (all 0x00000000#32)) (subf x (all 0x00000000#32))) (addf x (all 0x00000000#32)) (addf (maximumf x (all 0x00000000#32)) (Host.log1p (Host.exp (Host.negf (Host.absf (subf x (all 0x00000000#32)))))))

/-- The derivative of softplus. -/
def sgR (x : Sc) : Sc :=
  Host.exp (subf (select (cmpf .oeq x (all 0x7F800000#32)) (all 0x00000000#32) x) (select (cmpf .oeq (spR x) (all 0x7F800000#32)) (all 0x00000000#32) (spR x)))

/-- Log of the logistic of the scores. -/
def lbR (z : Sc) : Sc := Host.negf (spR (Host.negf z))

/-- A running sum towards the earlier keys. -/
def revR (x : Sc) : Sc :=
  Host.reduceWindowAdd ![1, 1, 1, 4096] ![1, 1, 1, 1] ![0, 0, 0, 0] ![0, 0, 0, 4095] x (broadcastInDim S_ ![] bcast_S_S_ (constant S_ .f32 0x00000000#32)) reduceWindows_S4x4x4096x4096_S4x4x4096x4096_w1s1p0_0_w1s1p0_0_w1s1p0_0_w4096s1p0_4095 h_S_
/-- A running sum towards the later keys. -/
def fwdR (x : Sc) : Sc :=
  Host.reduceWindowAdd ![1, 1, 1, 4096] ![1, 1, 1, 1] ![0, 0, 0, 4095] ![0, 0, 0, 0] x (broadcastInDim S_ ![] bcast_S_S_ (constant S_ .f32 0x00000000#32)) reduceWindows_S4x4x4096x4096_S4x4x4096x4096_w1s1p0_0_w1s1p0_0_w1s1p0_0_w4096s1p4095_0 h_S_

/-- What is left of the stick at each key, its logarithm, masked. -/
def lrR (z : Sc) : Sc := select maskR (subf (lbR z) z) (all 0x00000000#32)
/-- The weights before the mask. -/
def wfR (z : Sc) : Sc := Host.exp (addf (lbR z) (subf (revR (lrR z)) (lrR z)))
/-- The weights. -/
def wR (z : Sc) : Sc := select maskR (wfR z) (all 0x00000000#32)

/-- The gradient of the weights. -/
def gwR (g : FVec Ideal S4096x2048 .bf16) (kv : FVec Ideal S4096x1024 .bf16) : Sc :=
  Host.dotGeneral dot_S4x128x4x4096_S4096x4x128_S4x4x4096x4096_1_2_23_0_0_1 none (gR g) (vR kv)
/-- The gradient of the weights' logarithm. -/
def eR (gw z : Sc) : Sc := mulf (select maskR gw (all 0x00000000#32)) (wfR z)
/-- What the earlier keys receive from a later one. -/
def rR (e : Sc) : Sc := select maskR (addf (Host.negf e) (fwdR e)) (all 0x00000000#32)
/-- The gradient of the scores, scaled. -/
def dzR (e r z : Sc) : Sc :=
  mulf (addf (Host.negf r) (Host.negf (mulf (Host.negf (addf e r)) (sgR (Host.negf z))))) (all 0x3DB504F3#32)

/-- The gradient of the scores, from the arguments. -/
def dR (q : FVec Ideal S4096x2048 .bf16) (kv : FVec Ideal S4096x1024 .bf16) (g : FVec Ideal S4096x2048 .bf16) : Sc :=
  dzR (eR (gwR g kv) (zR q kv)) (rR (eR (gwR g kv) (zR q kv))) (zR q kv)

/-- The gradient of the queries. -/
def dqR (d : Sc) (kv : FVec Ideal S4096x1024 .bf16) : FVec Ideal S4096x2048 .bf16 :=
  truncf .bf16 (shapeCast _ (transpose S4096x4x4x128 [1, 0, 2, 3] (Host.dotGeneral dot_S4x4096x4096x4_S4096x4x128_S4x4096x4x128_1_0_23_2_0_1 none (transpose S4x4096x4096x4 [0, 3, 2, 1] d transposes_S4x4x4096x4096_S4x4096x4096x4_0_3_2_1) (kR kv)) transposes_S4x4096x4x128_S4096x4x4x128_1_0_2_3) shapeCasts_S4096x4x4x128_S4096x2048) bitsLt_bf16_f32
/-- The gradient of the keys. -/
def dkR (d : Sc) (q : FVec Ideal S4096x2048 .bf16) : FVec Ideal S4096x512 .f32 :=
  shapeCast _ (transpose S4096x4x128 [1, 0, 2] (Host.dotGeneral dot_S4x4096x4096x4_S4096x4x4x128_S4x4096x128_23_02_1_3_0_1 none (transpose S4x4096x4096x4 [0, 3, 2, 1] d transposes_S4x4x4096x4096_S4x4096x4096x4_0_3_2_1) (qR q)) transposes_S4x4096x128_S4096x4x128_1_0_2) shapeCasts_S4096x4x128_S4096x512
/-- The gradient of the values. -/
def dvR (w : Sc) (g : FVec Ideal S4096x2048 .bf16) : FVec Ideal S4096x512 .f32 :=
  shapeCast _ (transpose S4096x4x128 [2, 0, 1] (Host.dotGeneral dot_S4x128x4x4096_S4x4x4096x4096_S4x128x4096_23_12_1_3_0_0 none (gR g) w) transposes_S4x128x4096_S4096x4x128_2_0_1) shapeCasts_S4096x4x128_S4096x512

set_option maxHeartbeats 2000000 in
theorem out_dv (m : (ℓ : Loc nD τ sig) → Buf (Elt Ideal) ℓ) (c : Dev nD) :
    res_main_v52 m c = dvR (wR (zR (m ((c.tc : Thread nD τ).loc main_arg0)) (m ((c.tc : Thread nD τ).loc main_arg1)))) (m ((c.tc : Thread nD τ).loc main_arg2)) := by
  unfold res_main_v52; rfl

set_option maxHeartbeats 2000000 in
theorem out_dk (m : (ℓ : Loc nD τ sig) → Buf (Elt Ideal) ℓ) (c : Dev nD) :
    res_main_v53 m c = dkR (dR (m ((c.tc : Thread nD τ).loc main_arg0)) (m ((c.tc : Thread nD τ).loc main_arg1)) (m ((c.tc : Thread nD τ).loc main_arg2))) (m ((c.tc : Thread nD τ).loc main_arg0)) := by
  unfold res_main_v53; rfl

set_option maxHeartbeats 2000000 in
theorem out_dq (m : (ℓ : Loc nD τ sig) → Buf (Elt Ideal) ℓ) (c : Dev nD) :
    res_main_v55 m c = dqR (dR (m ((c.tc : Thread nD τ).loc main_arg0)) (m ((c.tc : Thread nD τ).loc main_arg1)) (m ((c.tc : Thread nD τ).loc main_arg2))) (m ((c.tc : Thread nD τ).loc main_arg1)) := by
  unfold res_main_v55; rfl

end Cert.Proof.AttnBwd.Ref
-- ==== Proof.HostReads.lean ====
/-
  The operations before the launch: the weights they compute are the reference's, and the saved arrays are the weights and
  the logistic of the scores, cut into the tiles on and below the diagonal.
-/
module

public import proofs.«01_k».proof.Proof.Gen.KernelIdeal.Frame
public import proofs.«01_k».proof.Proof.Ref
public import Idealize.ShloMosaic.Lib.StableHlo.RunRead

@[expose] public section

set_option maxRecDepth 16384

noncomputable section

namespace Cert.Proof.AttnBwd

open Cert.KernelIdeal Cert.KernelIdeal.Gen
open Idealize.ShloMosaic
open Idealize.ShloMosaic.TcCoe

/-- The scores' shape: key/value head, query head of the group, query, key. -/
abbrev Sc4 := FVec Ideal S4x4x4096x4096 .f32

/-- An array of scores by head, query block, key block, row and column. -/
def blocksOf (X : Sc4) : FVec Ideal S4x16x16x1024x256 .bf16 :=
  shapeCast _ (transpose S4x16x16x4x256x256 [0, 2, 4, 1, 3, 5] (shapeCast _ (truncf .bf16 X bitsLt_bf16_f32 : FVec Ideal S4x4x4096x4096 .bf16) shapeCasts_S4x4x4096x4096_S4x4x16x256x16x256) transposes_S4x4x16x256x16x256_S4x16x16x4x256x256_0_2_4_1_3_5) shapeCasts_S4x16x16x4x256x256_S4x16x16x1024x256

/-- The logistic of the scores. -/
def sgK (z : Sc4) : Sc4 :=
  Host.divf (broadcastInDim S4x4x4096x4096 ![] bcast_S_S4x4x4096x4096 (constant S_ .f32 0x3F800000#32)) (addf (broadcastInDim S4x4x4096x4096 ![] bcast_S_S4x4x4096x4096 (constant S_ .f32 0x3F800000#32)) (Host.exp (Host.negf z)))

/-- The blocks on and below the diagonal, by query block. -/
def pieces (P : FVec Ideal S4x16x16x1024x256 .bf16) : List ((s : Shape) × (s.Idx → Ideal .bf16)) :=
  [⟨S4x1x1024x256, shapeCast _ (extractStridedSlice S4x1x1x1024x256 ![0, 0, 0, 0, 0] P slices_S4x16x16x1024x256_S4x1x1x1024x256_0_0_0_0_0) shapeCasts_S4x1x1x1024x256_S4x1x1024x256⟩,
    ⟨S4x2x1024x256, shapeCast _ (extractStridedSlice S4x1x2x1024x256 ![0, 1, 0, 0, 0] P slices_S4x16x16x1024x256_S4x1x2x1024x256_0_1_0_0_0) shapeCasts_S4x1x2x1024x256_S4x2x1024x256⟩,
    ⟨S4x3x1024x256, shapeCast _ (extractStridedSlice S4x1x3x1024x256 ![0, 2, 0, 0, 0] P slices_S4x16x16x1024x256_S4x1x3x1024x256_0_2_0_0_0) shapeCasts_S4x1x3x1024x256_S4x3x1024x256⟩,
    ⟨S4x4x1024x256, shapeCast _ (extractStridedSlice S4x1x4x1024x256 ![0, 3, 0, 0, 0] P slices_S4x16x16x1024x256_S4x1x4x1024x256_0_3_0_0_0) shapeCasts_S4x1x4x1024x256_S4x4x1024x256⟩,
    ⟨S4x5x1024x256, shapeCast _ (extractStridedSlice S4x1x5x1024x256 ![0, 4, 0, 0, 0] P slices_S4x16x16x1024x256_S4x1x5x1024x256_0_4_0_0_0) shapeCasts_S4x1x5x1024x256_S4x5x1024x256⟩,
    ⟨S4x6x1024x256, shapeCast _ (extractStridedSlice S4x1x6x1024x256 ![0, 5, 0, 0, 0] P slices_S4x16x16x1024x256_S4x1x6x1024x256_0_5_0_0_0) shapeCasts_S4x1x6x1024x256_S4x6x1024x256⟩,
    ⟨S4x7x1024x256, shapeCast _ (extractStridedSlice S4x1x7x1024x256 ![0, 6, 0, 0, 0] P slices_S4x16x16x1024x256_S4x1x7x1024x256_0_6_0_0_0) shapeCasts_S4x1x7x1024x256_S4x7x1024x256⟩,
    ⟨S4x8x1024x256, shapeCast _ (extractStridedSlice S4x1x8x1024x256 ![0, 7, 0, 0, 0] P slices_S4x16x16x1024x256_S4x1x8x1024x256_0_7_0_0_0) shapeCasts_S4x1x8x1024x256_S4x8x1024x256⟩,
    ⟨S4x9x1024x256, shapeCast _ (extractStridedSlice S4x1x9x1024x256 ![0, 8, 0, 0, 0] P slices_S4x16x16x1024x256_S4x1x9x1024x256_0_8_0_0_0) shapeCasts_S4x1x9x1024x256_S4x9x1024x256⟩,
    ⟨S4x10x1024x256, shapeCast _ (extractStridedSlice S4x1x10x1024x256 ![0, 9, 0, 0, 0] P slices_S4x16x16x1024x256_S4x1x10x1024x256_0_9_0_0_0) shapeCasts_S4x1x10x1024x256_S4x10x1024x256⟩,
    ⟨S4x11x1024x256, shapeCast _ (extractStridedSlice S4x1x11x1024x256 ![0, 10, 0, 0, 0] P slices_S4x16x16x1024x256_S4x1x11x1024x256_0_10_0_0_0) shapeCasts_S4x1x11x1024x256_S4x11x1024x256⟩,
    ⟨S4x12x1024x256, shapeCast _ (extractStridedSlice S4x1x12x1024x256 ![0, 11, 0, 0, 0] P slices_S4x16x16x1024x256_S4x1x12x1024x256_0_11_0_0_0) shapeCasts_S4x1x12x1024x256_S4x12x1024x256⟩,
    ⟨S4x13x1024x256, shapeCast _ (extractStridedSlice S4x1x13x1024x256 ![0, 12, 0, 0, 0] P slices_S4x16x16x1024x256_S4x1x13x1024x256_0_12_0_0_0) shapeCasts_S4x1x13x1024x256_S4x13x1024x256⟩,
    ⟨S4x14x1024x256, shapeCast _ (extractStridedSlice S4x1x14x1024x256 ![0, 13, 0, 0, 0] P slices_S4x16x16x1024x256_S4x1x14x1024x256_0_13_0_0_0) shapeCasts_S4x1x14x1024x256_S4x14x1024x256⟩,
    ⟨S4x15x1024x256, shapeCast _ (extractStridedSlice S4x1x15x1024x256 ![0, 14, 0, 0, 0] P slices_S4x16x16x1024x256_S4x1x15x1024x256_0_14_0_0_0) shapeCasts_S4x1x15x1024x256_S4x15x1024x256⟩,
    ⟨S4x16x1024x256, shapeCast _ (extractStridedSlice S4x1x16x1024x256 ![0, 15, 0, 0, 0] P slices_S4x16x16x1024x256_S4x1x16x1024x256_0_15_0_0_0) shapeCasts_S4x1x16x1024x256_S4x16x1024x256⟩]
/-- These one after the other. -/
def tilesOf (P : FVec Ideal S4x16x16x1024x256 .bf16) : FVec Ideal S4x136x1024x256 .bf16 :=
  concatenate S4x136x1024x256 1 (pieces P) concatenates_S4x1x1024x256_S4x2x1024x256_S4x3x1024x256_S4x4x1024x256_S4x5x1024x256_S4x6x1024x256_S4x7x1024x256_S4x8x1024x256_S4x9x1024x256_S4x10x1024x256_S4x11x1024x256_S4x12x1024x256_S4x13x1024x256_S4x14x1024x256_S4x15x1024x256_S4x16x1024x256_S4x136x1024x256_d1

/-! ### What each stretch of operations leaves -/

section
variable (W : Valuation τ sig (Elt Ideal))

/-- The keys strictly before the query. -/
def maskK : IVec S4096x4096 1 :=
  cmpi .slt (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))

theorem ops0_v8 : StableHlo.after (hostOps0 (F := Ideal)) W (Proc.devRef .tc main_v8) = Ref.zR (W (Proc.devRef .tc main_arg0)) (W (Proc.devRef .tc main_arg1)) := by
  simp only [hostOps0]
  after_results_simp <;> rfl
theorem ops0_v15 : StableHlo.after (hostOps0 (F := Ideal)) W (Proc.devRef .tc main_v15) = maskK := by
  simp only [hostOps0]
  after_results_simp <;> rfl
theorem ops1_v16 : StableHlo.after (hostOps0_1 (F := Ideal)) W (Proc.devRef .tc main_v16) = Ref.lbR (W (Proc.devRef .tc main_v8)) := by
  simp only [hostOps0_1, StableHlo.TRef.binary, StableHlo.TRef.nullary, StableHlo.TRef.ternary, StableHlo.TRef.unary, StableHlo.TRef.toBuf, StableHlo.TRef.ofBuf, cast_eq]
  after_results_simp <;> rfl
theorem ops1_v8 : StableHlo.after (hostOps0_1 (F := Ideal)) W (Proc.devRef .tc main_v8) = W (Proc.devRef .tc main_v8) := by
  simp only [hostOps0_1, StableHlo.TRef.binary, StableHlo.TRef.nullary, StableHlo.TRef.ternary, StableHlo.TRef.unary, StableHlo.TRef.toBuf, StableHlo.TRef.ofBuf, cast_eq]
  after_results_simp <;> rfl
theorem ops1_v15 : StableHlo.after (hostOps0_1 (F := Ideal)) W (Proc.devRef .tc main_v15) = W (Proc.devRef .tc main_v15) := by
  simp only [hostOps0_1, StableHlo.TRef.binary, StableHlo.TRef.nullary, StableHlo.TRef.ternary, StableHlo.TRef.unary, StableHlo.TRef.toBuf, StableHlo.TRef.ofBuf, cast_eq]
  after_results_simp <;> rfl
theorem ops7_v60 : StableHlo.after (hostOps0_7 (F := Ideal)) W (Proc.devRef .tc main_v60) = tilesOf (blocksOf (W (Proc.devRef .tc main_v23))) := by
  simp only [hostOps0_7]
  after_reads_simp
  rfl
theorem ops7_v103 : StableHlo.after (hostOps0_7 (F := Ideal)) W (Proc.devRef .tc main_v103) = tilesOf (blocksOf (sgK (W (Proc.devRef .tc main_v8)))) := by
  simp only [hostOps0_7]
  after_reads_simp
  rfl
/-- The stretch between: from the logarithm of the logistic to the weights. -/
theorem ops26_v23 : StableHlo.after (hostOps0_2 ++ (hostOps0_3 ++ (hostOps0_4 ++ (hostOps0_5 ++ hostOps0_6 (F := Ideal))))) W (Proc.devRef .tc main_v23)
    = select (broadcastInDim S4x4x4096x4096 ![2, 3] bcast_S4096x4096_S4x4x4096x4096_2_3 (W (Proc.devRef .tc main_v15) : IVec S4096x4096 1))
        (Host.exp (addf (W (Proc.devRef .tc main_v16) : Sc4) (subf (Ref.revR (select (broadcastInDim S4x4x4096x4096 ![2, 3] bcast_S4096x4096_S4x4x4096x4096_2_3 (W (Proc.devRef .tc main_v15) : IVec S4096x4096 1)) (subf (W (Proc.devRef .tc main_v16) : Sc4) (W (Proc.devRef .tc main_v8))) (Ref.all 0x00000000#32)))
          (select (broadcastInDim S4x4x4096x4096 ![2, 3] bcast_S4096x4096_S4x4x4096x4096_2_3 (W (Proc.devRef .tc main_v15) : IVec S4096x4096 1)) (subf (W (Proc.devRef .tc main_v16) : Sc4) (W (Proc.devRef .tc main_v8))) (Ref.all 0x00000000#32))))) (Ref.all 0x00000000#32) := by
  simp only [hostOps0_2, hostOps0_3, hostOps0_4, hostOps0_5, hostOps0_6, List.cons_append, List.nil_append, StableHlo.TRef.binary, StableHlo.TRef.nullary, StableHlo.TRef.ternary, StableHlo.TRef.unary, StableHlo.TRef.toBuf, StableHlo.TRef.ofBuf, cast_eq]
  after_results_simp <;> rfl
theorem ops26_v8 : StableHlo.after (hostOps0_2 ++ (hostOps0_3 ++ (hostOps0_4 ++ (hostOps0_5 ++ hostOps0_6 (F := Ideal))))) W (Proc.devRef .tc main_v8) = W (Proc.devRef .tc main_v8) := by
  simp only [hostOps0_2, hostOps0_3, hostOps0_4, hostOps0_5, hostOps0_6, List.cons_append, List.nil_append, StableHlo.TRef.binary, StableHlo.TRef.nullary, StableHlo.TRef.ternary, StableHlo.TRef.unary, StableHlo.TRef.toBuf, StableHlo.TRef.ofBuf, cast_eq]
  after_results_simp <;> rfl
end

/-! ### What the launch finds -/

variable (m : (ℓ : Loc nD τ sig) → Buf (Elt Ideal) ℓ) (c : Dev nD)

theorem V_v60 : V m c main_v60 = tilesOf (blocksOf (Ref.wR (Ref.zR (m ((c : Thread nD τ).loc main_arg0)) (m ((c : Thread nD τ).loc main_arg1))))) := by
  unfold V
  rw [show List.flatten [hostOps0, hostOps0_1, hostOps0_2, hostOps0_3, hostOps0_4, hostOps0_5, hostOps0_6, hostOps0_7 (F := Ideal)]
    = hostOps0 ++ (hostOps0_1 ++ ((hostOps0_2 ++ (hostOps0_3 ++ (hostOps0_4 ++ (hostOps0_5 ++ hostOps0_6)))) ++ hostOps0_7)) from rfl,
    StableHlo.after_append, StableHlo.after_append, StableHlo.after_append, ops7_v60, ops26_v23, ops1_v15, ops1_v16, ops1_v8, ops0_v15, ops0_v8]
  rfl
theorem V_v103 : V m c main_v103 = tilesOf (blocksOf (sgK (Ref.zR (m ((c : Thread nD τ).loc main_arg0)) (m ((c : Thread nD τ).loc main_arg1))))) := by
  unfold V
  rw [show List.flatten [hostOps0, hostOps0_1, hostOps0_2, hostOps0_3, hostOps0_4, hostOps0_5, hostOps0_6, hostOps0_7 (F := Ideal)]
    = hostOps0 ++ (hostOps0_1 ++ ((hostOps0_2 ++ (hostOps0_3 ++ (hostOps0_4 ++ (hostOps0_5 ++ hostOps0_6)))) ++ hostOps0_7)) from rfl,
    StableHlo.after_append, StableHlo.after_append, StableHlo.after_append, ops7_v103, ops26_v8, ops1_v8, ops0_v8]

end Cert.Proof.AttnBwd
-- ==== Proof.Model.lean ====
/-
  The attention's backward pass over the reals, with the arrays as functions of natural numbers: the queries `q`, the keys
  and the values `k` (the values 512 columns after the keys), the output's gradient `o`; `h` counts the key/value heads, `g`
  the query heads of one of them, `t` the queries, `s` the keys.
-/
module

public import proofs.«01_k».proof.Proof.Reals

@[expose] public section

noncomputable section

namespace Cert.Proof.AttnBwd

namespace Model

/-- A matrix of reals. -/
abbrev M2 := ℕ → ℕ → ℝ
/-- Scores: by head, query head, query, key. -/
abbrev M4 := ℕ → ℕ → ℕ → ℕ → ℝ

/-- The scores. -/
def z (q k : M2) : M4 := fun h g t s => (∑ d ∈ Finset.range 128, k s (h * 128 + d) * q t (h * 512 + g * 128 + d)) * scale
/-- The logistic of the scores. -/
def beta (q k : M2) : M4 := fun h g t s => 1 / (1 + Real.exp (-z q k h g t s))
/-- The gradient of the weights. -/
def gw (o k : M2) : M4 := fun h g t s => ∑ d ∈ Finset.range 128, o t (h * 512 + g * 128 + d) * k s (512 + h * 128 + d)
/-- The gradient of the weights' logarithm. -/
def e (o k : M2) (w : M4) : M4 := fun h g t s => gw o k h g t s * w h g t s
/-- The gradient of the scores, scaled, from `e` and the logistic. -/
def ds (b e : M4) : M4 := fun h g t s =>
  if s < t then (e h g t s - b h g t s * (e h g t s + ∑ i ∈ Finset.range s, e h g t i)) * scale else 0
/-- The gradient of the queries, at query `t`, head `h`, query head `g`, column `d`. -/
def dq (x : M4) (k : M2) (h g t d : ℕ) : ℝ := ∑ s ∈ Finset.range 4096, x h g t s * k s (h * 128 + d)
/-- The gradient of the keys, and with the weights and the output's gradient that of the values. -/
def dk (x : M4) (q : M2) (h s d : ℕ) : ℝ := ∑ t ∈ Finset.range 4096, ∑ g ∈ Finset.range 4, x h g t s * q t (h * 512 + g * 128 + d)

end Model

open Idealize.ShloMosaic

/-- The array `X` holds the reals `f`. -/
def Is2 {a b : ℕ} (X : (⟨2, ![a, b]⟩ : Shape).Idx → EReal) (f : Model.M2) : Prop := ∀ (i : Fin a) (j : Fin b), X (ix2 i j) = (f i j : EReal)

end Cert.Proof.AttnBwd
-- ==== Proof.Payloads.lean ====
/-
  The values the kernel computes in one step of its sweep, on arrays of reals.
-/
module

public import proofs.«01_k».proof.Proof.State
public import proofs.«01_k».proof.Proof.Model

@[expose] public section

noncomputable section

namespace Cert.Proof.AttnBwd

open Cert.KernelIdeal Cert.KernelIdeal.Gen
open Idealize.ShloMosaic
open Model (M2)
set_option maxRecDepth 16384

/-- A tile of a saved array holds the reals `f`. -/
def IsT (X : S1x1024x256.Idx → EReal) (f : M2) : Prop := ∀ (i : Fin 1024) (j : Fin 256), X (ix3 0 i j) = (f i j : EReal)

/-- `e` of a tile, from the rows of the output's gradient, those of the values and the weights. -/
def eT (D V W : M2) : M2 := fun i j => (∑ d ∈ Finset.range 128, D i d * V j d) * W i j
/-- The gradient of a tile's scores, from `e`, the logistic and the sums over the earlier tiles. -/
def dzT (E B S : M2) : M2 := fun i j => (E i j - B i j * (E i j + (S i j + ∑ x ∈ Finset.range j, E i x))) * scale
/-- The same under the mask. -/
def dzD (E B S : M2) : M2 := fun i j => if j < i % 256 then dzT E B S i j else 0

theorem sum_tri (F : ℕ → ℝ) (j : ℕ) (hj : j ≤ 256) :
    ∑ x ∈ Finset.range 256, F x * (if x < j then 1 else 0) = ∑ x ∈ Finset.range j, F x := by
  obtain ⟨p, hp⟩ : ∃ p, 256 = j + p := ⟨256 - j, by omega⟩
  rw [hp, Finset.sum_range_add, Finset.sum_eq_zero (s := Finset.range p) fun i hi => ?_, add_zero]
  · exact Finset.sum_congr rfl fun i hi => by rw [if_pos (Finset.mem_range.1 hi), mul_one]
  · rw [if_neg (by omega), mul_zero]

theorem cmp_small (a b : ℕ) (ha : a < 4096) (hb : b < 4096) :
    IntOp.cmpi CmpIPredicate.slt (BitVec.ofNat 32 a) (BitVec.ofNat 32 b) = BitVec.ofBool (decide (a < b)) := by
  show BitVec.ofBool ((BitVec.ofNat 32 a).slt (BitVec.ofNat 32 b)) = _
  congr 1
  rw [BitVec.slt_eq_decide]
  congr 1
  have e : ∀ n : ℕ, n < 4096 → (BitVec.ofNat 32 n).toInt = n := fun n hn => by
    have h1 : (BitVec.ofNat 32 n).toNat = n := by rw [BitVec.toNat_ofNat]; omega
    rw [BitVec.toInt_eq_toNat_of_lt (by omega), h1]
  rw [e _ ha, e _ hb]
  exact eq_iff_iff.2 Int.ofNat_lt

theorem tri_is : Is2 (tri (F := Ideal)) (fun i j => if i < j then 1 else 0) := by
  intro i j
  pointwise [tri, k0_pay14]
  rw [cmp_small _ _ (by omega) (by omega)]
  by_cases h : i.val < j.val
  · rw [if_pos h, decide_eq_true h]
    show (((1#32 : BitVec 32).toInt : ℝ) : EReal) = ((1 : ℝ) : EReal)
    congr 1
    simp
  · rw [if_neg h, decide_eq_false h]
    show (((0#32 : BitVec 32).toInt : ℝ) : EReal) = ((0 : ℝ) : EReal)
    congr 1
    simp

theorem row_word : ∀ i : Fin 1024,
      (Scalar.select
        (IntOp.andi
          (IntOp.xori
            (IntOp.cmpi CmpIPredicate.slt
              (IntOp.remsi ArithUnit.vector (BitVec.ofNat 32 i.val)
                (Scalar.select (Scalar.cmpi CmpIPredicate.eq 256#32 0#32) 1#32 256#32))
              0#32)
            (Scalar.cmpi CmpIPredicate.slt (Scalar.select (Scalar.cmpi CmpIPredicate.eq 256#32 0#32) 1#32 256#32) 0#32))
          (IntOp.cmpi CmpIPredicate.ne
            (IntOp.remsi ArithUnit.vector (BitVec.ofNat 32 i.val)
              (Scalar.select (Scalar.cmpi CmpIPredicate.eq 256#32 0#32) 1#32 256#32))
            0#32))
        (IntOp.addi
          (IntOp.remsi ArithUnit.vector (BitVec.ofNat 32 i.val)
            (Scalar.select (Scalar.cmpi CmpIPredicate.eq 256#32 0#32) 1#32 256#32))
          (Scalar.select (Scalar.cmpi CmpIPredicate.eq 256#32 0#32) 1#32 256#32))
        (IntOp.remsi ArithUnit.vector (BitVec.ofNat 32 i.val)
          (Scalar.select (Scalar.cmpi CmpIPredicate.eq 256#32 0#32) 1#32 256#32))) = BitVec.ofNat 32 (i.val % 256) := by
  decide +kernel

theorem pay13_ap (i : Fin 1024) (j : Fin 256) : k0_pay13 (ix2 i j) = BitVec.ofBool (decide (j.val < i.val % 256)) := by
  pointwise [k0_pay13]
  rw [row_word i]
  exact cmp_small _ _ (by omega) (by omega)

/-- Reals that agree inside the array. -/
theorem Is2.congr {a b : ℕ} {X : (⟨2, ![a, b]⟩ : Shape).Idx → EReal} {f f' : M2} (h : Is2 X f) (hf : ∀ i j, i < a → j < b → f i j = f' i j) : Is2 X f' :=
  fun i j => (h i j).trans (congrArg _ (hf i j i.isLt j.isLt))

section
variable {D Q : FVec Ideal S1024x128 .bf16} {V : FVec Ideal S256x128 .bf16} {W B : FVec Ideal S1x1024x256 .bf16} {S : FVec Ideal S1024x256 .f32}
  {d q v w b s x a : M2}

theorem pay3_is (hw : IsT W w) : Is2 (k0_pay3 (F := Ideal) W) w := by
  intro i j
  pointwise [k0_pay3]
  exact hw i j
theorem pay25_is (hw : IsT W w) : Is2 (k0_pay25 (F := Ideal) W) w := by
  intro i j
  pointwise [k0_pay25]
  exact hw i j
theorem pay26_is (hw : IsT W w) : Is2 (k0_pay26 (F := Ideal) W) w := by
  intro i j
  pointwise [k0_pay26]
  exact hw i j

theorem pay4_is (hd : Is2 D d) (hv : Is2 V v) (hw : IsT W w) : Is2 (k0_pay4 (F := Ideal) D V W) (eT d v w) := by
  intro i j
  pointwise [k0_pay4]
  rw [pay3_is hw]
  simp only [hd _ _, hv _ _, ← EReal.coe_mul, ← coe_sum, eT, Finset.sum_range]

theorem pay5_is (hd : Is2 D d) (hv : Is2 V v) (hw : IsT W w) (hb : IsT B b) (hs : Is2 S s) :
    Is2 (k0_pay5 (F := Ideal) D tri V W B S) (dzT (eT d v w) b s) := by
  intro i j
  have he := pay4_is hd hv hw
  pointwise [k0_pay5]
  simp only [he _ _, hs _ _, hb _ _, tri_is _ _, scale_coe, ← EReal.coe_mul, ← coe_sum, ← EReal.coe_add, ← EReal.coe_sub, dzT]
  rw [← Finset.sum_range (fun x => eT d v w i x * (if x < j.val then 1 else 0)), sum_tri _ _ (by omega)]

theorem pay17_is {K : FVec Ideal S256x128 .bf16} {Z : FVec Ideal S1024x256 .bf16} {A : FVec Ideal S1024x128 .f32} {k : M2}
    (hk : Is2 K k) (hz : Is2 Z x) (ha : Is2 A a) :
    Is2 (k0_pay17 (F := Ideal) K Z A) (fun i j => a i j + ∑ c ∈ Finset.range 256, x i c * k c j) := by
  intro i j
  pointwise [k0_pay17]
  simp only [hk _ _, hz _ _, ha _ _, ← EReal.coe_mul, ← coe_sum, ← EReal.coe_add, Finset.sum_range]

theorem pay18_is {Z : FVec Ideal S1024x256 .bf16} {A : FVec Ideal S256x128 .f32} (hq : Is2 Q q) (hz : Is2 Z x) (ha : Is2 A a) :
    Is2 (k0_pay18 (F := Ideal) Q Z A) (fun i j => a i j + ∑ r ∈ Finset.range 1024, x r i * q r j) := by
  intro i j
  pointwise [k0_pay18]
  simp only [hq _ _, hz _ _, ha _ _, ← EReal.coe_mul, ← coe_sum, ← EReal.coe_add, Finset.sum_range]

theorem pay19_is {Z : FVec Ideal S1024x256 .bf16} {A : FVec Ideal S256x128 .f32} (hq : Is2 Q q) (hz : Is2 Z x) (ha : Is2 A a) :
    Is2 (k0_pay19 (F := Ideal) Q Z A) (fun i j => a i j + ∑ r ∈ Finset.range 1024, x r i * q r j) := by
  intro i j
  pointwise [k0_pay19]
  simp only [hq _ _, hz _ _, ha _ _, ← EReal.coe_mul, ← coe_sum, ← EReal.coe_add, Finset.sum_range]

theorem pay32_is {Z : FVec Ideal S1024x256 .bf16} {A : FVec Ideal S256x128 .f32} (hq : Is2 Q q) (hz : Is2 Z x) (ha : Is2 A a) :
    Is2 (k0_pay32 (F := Ideal) Q Z A) (fun i j => a i j + ∑ r ∈ Finset.range 1024, x r i * q r j) := by
  intro i j
  pointwise [k0_pay32]
  simp only [hq _ _, hz _ _, ha _ _, ← EReal.coe_mul, ← coe_sum, ← EReal.coe_add, Finset.sum_range]

theorem pay20_is {E : FVec Ideal S1024x256 .f32} (he : Is2 E x) (hs : Is2 S s) :
    Is2 (k0_pay20 (F := Ideal) E S) (fun i j => s i j + ∑ c ∈ Finset.range 256, x i c) := by
  intro i j
  pointwise [k0_pay20]
  simp only [he _ _, hs _ _, ← EReal.coe_mul, ← coe_sum, ← EReal.coe_add, Finset.sum_range]

theorem pay28_is {W : FVec Ideal S1024x256 .bf16} (hd : Is2 D d) (hv : Is2 V v) (hw : Is2 W w) :
    Is2 (k0_pay28 (F := Ideal) W (k0_pay27 D V)) (eT d v w) := by
  intro i j
  pointwise [k0_pay28, k0_pay27]
  simp only [hd _ _, hv _ _, hw _ _, ← EReal.coe_mul, ← coe_sum, eT, Finset.sum_range]

theorem pay29_is {W : FVec Ideal S1024x256 .bf16} {B : FVec Ideal S1024x256 .f32} (hd : Is2 D d) (hv : Is2 V v) (hw : Is2 W w) (hb : Is2 B b) (hs : Is2 S s) :
    Is2 (k0_pay29 (F := Ideal) k0_pay13 tri W B (k0_pay27 D V) S) (dzD (eT d v w) b s) := by
  intro i j
  have he := pay28_is hd hv hw
  pointwise [k0_pay29]
  simp only [he _ _, hs _ _, hb _ _, tri_is _ _, scale_coe, ← EReal.coe_mul, ← coe_sum, ← EReal.coe_add, ← EReal.coe_sub, dzD, dzT]
  rw [← Finset.sum_range (fun x => eT d v w i x * (if x < j.val then 1 else 0)), sum_tri _ _ (by omega), pay13_ap]
  by_cases h : j.val < i.val % 256
  · rw [if_pos h, decide_eq_true h]; rfl
  · rw [if_neg h, decide_eq_false h]; rfl

theorem pay30_is {K : FVec Ideal S256x128 .bf16} {W : FVec Ideal S1024x256 .bf16} {B G : FVec Ideal S1024x256 .f32} {A : FVec Ideal S1024x128 .f32} {k : M2}
    (hk : Is2 K k) (hz : Is2 (k0_pay29 (F := Ideal) k0_pay13 tri W B G S) x) (ha : Is2 A a) :
    Is2 (k0_pay30 (F := Ideal) k0_pay13 tri K W B G S A) (fun i j => a i j + ∑ c ∈ Finset.range 256, x i c * k c j) := by
  intro i j
  pointwise [k0_pay30]
  simp only [hk _ _, hz _ _, ha _ _, ← EReal.coe_mul, ← coe_sum, ← EReal.coe_add, Finset.sum_range]

theorem pay31_is {W : FVec Ideal S1024x256 .bf16} {B G : FVec Ideal S1024x256 .f32} {A : FVec Ideal S256x128 .f32}
    (hq : Is2 Q q) (hz : Is2 (k0_pay29 (F := Ideal) k0_pay13 tri W B G S) x) (ha : Is2 A a) :
    Is2 (k0_pay31 (F := Ideal) Q k0_pay13 tri W B G S A) (fun i j => a i j + ∑ r ∈ Finset.range 1024, x r i * q r j) := by
  intro i j
  pointwise [k0_pay31]
  simp only [hq _ _, hz _ _, ha _ _, ← EReal.coe_mul, ← coe_sum, ← EReal.coe_add, Finset.sum_range]
end

theorem zeros15 : Is2 (k0_pay15 (F := Ideal)) (fun _ _ => 0) := by
  intro i j
  pointwise [k0_pay15]
  rfl
theorem zeros16 : Is2 (k0_pay16 (F := Ideal)) (fun _ _ => 0) := by
  intro i j
  pointwise [k0_pay16]
  rfl
theorem zeros9 : Is2 (k0_pay9 (F := Ideal)) (fun _ _ => 0) := by
  intro i j
  pointwise [k0_pay9]
  rfl
theorem zeros10 : Is2 (k0_pay10 (F := Ideal)) (fun _ _ => 0) := by
  intro i j
  pointwise [k0_pay10]
  rfl

/-- The four heads of a block of rows, one below the other: row `i` is head `i / 256`, row `i % 256` of the block. -/
theorem stackQ_is {X : FVec Ideal S256x512 .bf16} {x : M2} (hx : Is2 X x) :
    Is2 (stackQ X) (fun i j => x (i % 256) (i / 256 * 128 + j)) := by
  intro i j
  pointwise [stackQ, k0_pay11, colsOf]
  simp only [← ix2_eq_valueIdx, hx _ _]
  split_ifs <;> (congr 2 <;> omega)
theorem stackD_is {X : FVec Ideal S256x512 .bf16} {x : M2} (hx : Is2 X x) :
    Is2 (stackD X) (fun i j => x (i % 256) (i / 256 * 128 + j)) := by
  intro i j
  pointwise [stackD, k0_pay12, colsOf]
  simp only [← ix2_eq_valueIdx, hx _ _]
  split_ifs <;> (congr 2 <;> omega)

/-- The four heads side by side again. -/
theorem pay2_is {A : FVec Ideal S1024x128 .f32} {a : M2} (ha : Is2 A a) :
    Is2 (k0_pay2 (F := Ideal) A) (fun i j => a (j / 128 * 256 + i) (j % 128)) := by
  intro i j
  pointwise [k0_pay2]
  simp only [ha _ _]
  split_ifs <;> (congr 2 <;> omega)

theorem rowsOf_is {X : S4096x128.Idx → EReal} {x : M2} (hx : Is2 X x) (k : ℕ) (hk : k < 16) :
    Is2 (rowsOf X k) (fun i j => x (256 * k + i) j) := by
  intro i j
  refine (congrArg X (ix2_eq_valueIdx _ _).symm).trans ((hx _ _).trans ?_)
  show ((x ((256 * k + i.val) % 4096) j.val : ℝ) : EReal) = _
  rw [Nat.mod_eq_of_lt (by omega)]

/-- 256 rows put into an array of 4096. -/
theorem put_is {X : S4096x128.Idx → EReal} {Y : S256x128.Idx → EReal} {x y : M2} (hx : Is2 X x) (hy : Is2 Y y) (k : ℕ) (hk : k < 16) :
    Is2 (VecWindow.put X (rowOff k) S256x128.size Y) (fun i j => if 256 * k ≤ i ∧ i < 256 * k + 256 then y (i - 256 * k) j else x i j) := by
  intro i j
  have h1 := j.isLt
  unfold VecWindow.put
  beta_reduce
  by_cases h : 256 * k ≤ i.val ∧ i.val < 256 * k + 256
  · rw [if_pos h, dif_pos]
    · refine (congrArg Y ?_).trans (hy ⟨i.val - 256 * k, by omega⟩ j)
      funext a
      fin_cases a
      · rfl
      · exact Fin.ext (show j.val - 0 = j.val by omega)
    · intro a
      fin_cases a
      · exact h
      · exact ⟨Nat.zero_le _, (show j.val < 0 + 128 by omega)⟩
  · rw [if_neg h, dif_neg]
    · exact hx i j
    · exact fun hh => h (hh 0)

end Cert.Proof.AttnBwd
-- ==== Proof.Sweep.lean ====
/-
  The kernel's sweep over the key blocks of one query block, on arrays of reals: after each block the running sums are those
  over the keys so far, and at the end the gradients are the model's.
-/
module

public import proofs.«01_k».proof.Proof.Payloads

@[expose] public section

noncomputable section

namespace Cert.Proof.AttnBwd

open Cert.KernelIdeal Cert.KernelIdeal.Gen
open Idealize.ShloMosaic
open Model (M2 M4)
set_option maxRecDepth 16384

/-- What the sweep reads at head `h` and query block `n`, its tiles from `m` on: row `i` is query `256 n + i % 256` of query head `i / 256`. -/
structure Reads (q k o : M2) (w b : M4) (h n m : ℕ) (I : Inp Ideal) : Prop where
  q_is : Is2 I.q (fun i j => q (256 * n + i % 256) (h * 512 + i / 256 * 128 + j))
  d_is : Is2 I.d (fun i j => o (256 * n + i % 256) (h * 512 + i / 256 * 128 + j))
  k_is : Is2 I.k (fun s j => k s (h * 128 + j))
  v_is : Is2 I.v (fun s j => k s (512 + h * 128 + j))
  w_is : ∀ j, j ≤ n → IsT (tileOf I.w (Ring.bk 544 (m + j))) (fun i c => w h (i / 256) (256 * n + i % 256) (256 * j + c))
  b_is : ∀ j, j ≤ n → IsT (tileOf I.b (Ring.bk 544 (m + j))) (fun i c => b h (i / 256) (256 * n + i % 256) (256 * j + c))

/-- What query block `n` adds to the gradient of key `s`. -/
def part (x : M4) (q : M2) (h n s d : ℕ) : ℝ := ∑ i ∈ Finset.range 1024, x h (i / 256) (256 * n + i % 256) s * q (256 * n + i % 256) (h * 512 + i / 256 * 128 + d)

/-- The state after `N` keys. -/
structure After (q k o : M2) (w b : M4) (h n N : ℕ) (dk0 dv0 : M2) (s : St Ideal) : Prop where
  dq : Is2 s.dq (fun i d => ∑ j ∈ Finset.range N, Model.ds b (Model.e o k w) h (i / 256) (256 * n + i % 256) j * k j (h * 128 + d))
  dk : Is2 s.dk (fun j d => dk0 j d + if j < N then part (Model.ds b (Model.e o k w)) q h n j d else 0)
  dv : Is2 s.dv (fun j d => dv0 j d + if j < N then part w o h n j d else 0)

variable {q k o : M2} {w b : M4} {h n m : ℕ} {I : Inp Ideal} {dk0 dv0 : M2}

/-- The running row sums after `N` keys. -/
def Sums (o k : M2) (w : M4) (h n N : ℕ) (X : S1024x256.Idx → EReal) : Prop :=
  Is2 X (fun i _ => ∑ j ∈ Finset.range N, Model.e o k w h (i / 256) (256 * n + i % 256) j)

/-- The gradient of a tile's scores, before the mask. -/
theorem dzT_eq (j i c : ℕ) (hlt : 256 * j + c < 256 * n + i % 256) :
    dzT (eT (fun i j => o (256 * n + i % 256) (h * 512 + i / 256 * 128 + j)) (fun i d => k (256 * j + i) (512 + h * 128 + d))
        (fun i c => w h (i / 256) (256 * n + i % 256) (256 * j + c)))
      (fun i c => b h (i / 256) (256 * n + i % 256) (256 * j + c))
      (fun i _ => ∑ j ∈ Finset.range (256 * j), Model.e o k w h (i / 256) (256 * n + i % 256) j) i c
    = Model.ds b (Model.e o k w) h (i / 256) (256 * n + i % 256) (256 * j + c) := by
  unfold Model.ds
  rw [if_pos hlt, Finset.sum_range_add]
  rfl

/-- The rows of the gradient of the keys that a block changes. -/
theorem put_part {X : S4096x128.Idx → EReal} {Y : S256x128.Idx → EReal} {a0 p : M2} {j : ℕ} (hj : j < 16)
    (hx : Is2 X (fun s d => a0 s d + if s < 256 * j then p s d else 0))
    (hy : Is2 Y (fun i d => (a0 (256 * j + i) d + if 256 * j + i < 256 * j then p (256 * j + i) d else 0) + p (256 * j + i) d)) :
    Is2 (VecWindow.put X (rowOff j) S256x128.size Y) (fun s d => a0 s d + if s < 256 * (j + 1) then p s d else 0) := by
  refine (put_is hx hy j hj).congr fun s d hs _ => ?_
  by_cases h1 : 256 * j ≤ s ∧ s < 256 * j + 256
  · rw [if_pos h1, if_neg (by omega), add_zero, if_pos (by omega), show 256 * j + (s - 256 * j) = s by omega]
  · rw [if_neg h1]
    by_cases h2 : s < 256 * j
    · rw [if_pos h2, if_pos (by omega)]
    · rw [if_neg h2, if_neg (by omega)]

theorem step_is (R : Reads q k o w b h n m I) {j : ℕ} (hj : j < n) (hn : n < 16) {s : St Ideal}
    (hs : After q k o w b h n (256 * j) dk0 dv0 s) (he : Sums o k w h n (256 * j) s.es) :
    After q k o w b h n (256 * (j + 1)) dk0 dv0 (step I (Ring.bk 544 (m + j)) j s)
      ∧ Sums o k w h n (256 * (j + 1)) (step I (Ring.bk 544 (m + j)) j s).es := by
  have hv := rowsOf_is R.v_is j (by omega)
  have hk := rowsOf_is R.k_is j (by omega)
  have hz : Is2 (dz I (Ring.bk 544 (m + j)) j s) (fun i c => Model.ds b (Model.e o k w) h (i / 256) (256 * n + i % 256) (256 * j + c)) :=
    (pay5_is R.d_is hv (R.w_is j (by omega)) (R.b_is j (by omega)) he).congr fun i c _ hc => dzT_eq j i c (by omega)
  refine ⟨⟨?_, ?_, ?_⟩, ?_⟩
  · refine (pay17_is hk hz hs.dq).congr fun i d _ _ => ?_
    rw [show 256 * (j + 1) = 256 * j + 256 by ring, Finset.sum_range_add]
  · exact put_part (by omega) hs.dk (pay18_is R.q_is hz (rowsOf_is hs.dk j (by omega)))
  · exact put_part (by omega) hs.dv (pay19_is R.d_is (pay3_is (R.w_is j (by omega))) (rowsOf_is hs.dv j (by omega)))
  · refine (pay20_is (pay4_is R.d_is hv (R.w_is j (by omega))) he).congr fun i d _ _ => ?_
    rw [show 256 * (j + 1) = 256 * j + 256 by ring, Finset.sum_range_add]
    rfl

theorem steps_is (R : Reads q k o w b h n m I) (hn : n < 16) {s : St Ideal}
    (hs : After q k o w b h n 0 dk0 dv0 s) (he : Sums o k w h n 0 s.es) (j : ℕ) (hj : j ≤ n) :
    After q k o w b h n (256 * j) dk0 dv0 (steps I m s j) ∧ Sums o k w h n (256 * j) (steps I m s j).es := by
  induction j with
  | zero => exact ⟨hs, he⟩
  | succ j ih =>
    obtain ⟨h1, h2⟩ := ih (by omega)
    exact step_is R (by omega) hn h1 h2

theorem last_is (R : Reads q k o w b h n m I) (hn : n < 16) {s : St Ideal}
    (hs : After q k o w b h n (256 * n) dk0 dv0 s) (he : Sums o k w h n (256 * n) s.es) :
    After q k o w b h n (256 * (n + 1)) dk0 dv0 (last I (Ring.bk 544 (m + n)) n s) := by
  have hv := rowsOf_is R.v_is n hn
  have hk := rowsOf_is R.k_is n hn
  have hw := pay25_is (R.w_is n le_rfl)
  have hz : Is2 (k0_pay29 (F := Ideal) k0_pay13 tri (k0_pay25 (tileOf I.w (Ring.bk 544 (m + n)))) (k0_pay26 (tileOf I.b (Ring.bk 544 (m + n)))) (k0_pay27 I.d (rowsOf I.v n)) s.es)
      (fun i c => Model.ds b (Model.e o k w) h (i / 256) (256 * n + i % 256) (256 * n + c)) :=
    (pay29_is R.d_is hv hw (pay26_is (R.b_is n le_rfl)) he).congr fun i c _ hc => by
      unfold dzD
      by_cases hlt : c < i % 256
      · rw [if_pos hlt]; exact dzT_eq n i c (by omega)
      · rw [if_neg hlt]; unfold Model.ds; rw [if_neg (by omega)]
  refine ⟨?_, ?_, ?_⟩
  · refine (pay30_is hk hz hs.dq).congr fun i d _ _ => ?_
    rw [show 256 * (n + 1) = 256 * n + 256 by ring, Finset.sum_range_add]
  · exact put_part hn hs.dk (pay31_is R.q_is hz (rowsOf_is hs.dk n hn))
  · exact put_part hn hs.dv (pay32_is R.d_is hw (rowsOf_is hs.dv n hn))

/-- The sweep at head `h` and query block `n`. -/
theorem sweep_is (R : Reads q k o w b h n m I) (hn : n < 16) {dk dv : FVec Ideal S4096x128 .f32} (hdk : Is2 dk dk0) (hdv : Is2 dv dv0) :
    After q k o w b h n (256 * (n + 1)) dk0 dv0 (sweep I m n dk dv) := by
  have h0 : After q k o w b h n 0 dk0 dv0 ⟨k0_pay15, k0_pay16, dk, dv⟩ :=
    ⟨zeros15.congr fun i j _ _ => by simp, hdk.congr fun i j _ _ => by simp, hdv.congr fun i j _ _ => by simp⟩
  have h1 : Sums o k w h n 0 (k0_pay16 (F := Ideal)) := zeros16.congr fun i j _ _ => by simp
  obtain ⟨h2, h3⟩ := steps_is R hn h0 h1 n le_rfl
  exact last_is R hn h2 h3

end Cert.Proof.AttnBwd
-- ==== Proof.HostTiles.lean ====
/-
  The saved arrays, tile by tile: the tile of query block `a` and key block `b` holds the rows and columns of these blocks.
-/
module

public import proofs.«01_k».proof.Proof.HostReads
public import proofs.«01_k».proof.Proof.Sweep

@[expose] public section

set_option maxRecDepth 16384

noncomputable section

namespace Cert.Proof.AttnBwd

open Cert.KernelIdeal Cert.KernelIdeal.Gen
open Idealize.ShloMosaic
open Idealize.ShloMosaic.TcCoe
open Model (M2 M4)

theorem blocksOf_ap (X : Sc4) (h : Fin 4) (a b : Fin 16) (i : Fin 1024) (c : Fin 256) :
    blocksOf X (ix5 h a b i c) = X (ix4 h ⟨i.val / 256, by omega⟩ ⟨256 * a.val + i.val % 256, by omega⟩ ⟨256 * b.val + c.val, by omega⟩) := by
  pointwise [blocksOf]
  simp only [Nat.mul_comm 256]

theorem tileOf_ap (A : FVec Ideal S4x136x1024x256 .bf16) (n : Fin 544) (i : Fin 1024) (c : Fin 256) :
    tileOf A n (ix3 0 i c) = A (ix4 ⟨n.val / 136, by omega⟩ ⟨n.val % 136, by omega⟩ i c) := by
  show shapeCast S1x1024x256 (fun y : S1x1x1024x256.Idx => A ((Rect.unit (s := S4x136x1024x256) (tileOff n) S1x1x1024x256.size (tileOff_inb n)).emb y)) (by decide) (ix3 0 i c) = _
  pointwise
  refine congrArg A (funext fun q => ?_)
  fin_cases q
  · refine Fin.ext ?_
    show n.val / 136 + 1 * 0 = n.val / 136
    omega
  · refine Fin.ext ?_
    show n.val % 136 + 1 * 0 = n.val % 136
    omega
  · refine Fin.ext ?_
    show 0 + 1 * i.val = i.val
    omega
  · refine Fin.ext ?_
    show 0 + 1 * c.val = c.val
    omega

set_option maxHeartbeats 1600000 in
theorem tiles_0 (P : FVec Ideal S4x16x16x1024x256 .bf16) (h : Fin 4) (x : Fin 136) (b : Fin 16) (hb : b.val < 1) (hx : x.val = 0 + b.val) (i : Fin 1024) (c : Fin 256) :
    tilesOf P (ix4 h x i c) = P (ix5 h 0 b i c) := by
  have e : (shapeCast _ (extractStridedSlice S4x1x1x1024x256 ![0, 0, 0, 0, 0] P slices_S4x16x16x1024x256_S4x1x1x1024x256_0_0_0_0_0) shapeCasts_S4x1x1x1024x256_S4x1x1024x256 : FVec Ideal S4x1x1024x256 .bf16) (ix4 h ⟨b.val, hb⟩ i c) = P (ix5 h 0 b i c) := by
    obtain rfl : b = 0 := Fin.ext (by show b.val = 0; omega)
    pointwise
    try rfl
  refine (concatenate_apply_piece (t := S4x136x1024x256) 1 (pieces P) _ (ix4 h x i c) 0 (show 0 < 16 by decide) S4x1x1024x256 (shapeCast _ (extractStridedSlice S4x1x1x1024x256 ![0, 0, 0, 0, 0] P slices_S4x16x16x1024x256_S4x1x1x1024x256_0_0_0_0_0) shapeCasts_S4x1x1x1024x256_S4x1x1024x256 : FVec Ideal S4x1x1024x256 .bf16) rfl rfl 0 rfl (ix4 h ⟨b.val, hb⟩ i c) ?_ hx.symm).trans e
  intro q hq
  fin_cases q
  · rfl
  · exact absurd rfl hq
  · rfl
  · rfl
set_option maxHeartbeats 1600000 in
theorem tiles_1 (P : FVec Ideal S4x16x16x1024x256 .bf16) (h : Fin 4) (x : Fin 136) (b : Fin 16) (hb : b.val < 2) (hx : x.val = 1 + b.val) (i : Fin 1024) (c : Fin 256) :
    tilesOf P (ix4 h x i c) = P (ix5 h 1 b i c) := by
  have e : (shapeCast _ (extractStridedSlice S4x1x2x1024x256 ![0, 1, 0, 0, 0] P slices_S4x16x16x1024x256_S4x1x2x1024x256_0_1_0_0_0) shapeCasts_S4x1x2x1024x256_S4x2x1024x256 : FVec Ideal S4x2x1024x256 .bf16) (ix4 h ⟨b.val, hb⟩ i c) = P (ix5 h 1 b i c) := by
    pointwise
    try rfl
  refine (concatenate_apply_piece (t := S4x136x1024x256) 1 (pieces P) _ (ix4 h x i c) 1 (show 1 < 16 by decide) S4x2x1024x256 (shapeCast _ (extractStridedSlice S4x1x2x1024x256 ![0, 1, 0, 0, 0] P slices_S4x16x16x1024x256_S4x1x2x1024x256_0_1_0_0_0) shapeCasts_S4x1x2x1024x256_S4x2x1024x256 : FVec Ideal S4x2x1024x256 .bf16) rfl rfl 1 rfl (ix4 h ⟨b.val, hb⟩ i c) ?_ hx.symm).trans e
  intro q hq
  fin_cases q
  · rfl
  · exact absurd rfl hq
  · rfl
  · rfl
set_option maxHeartbeats 1600000 in
theorem tiles_2 (P : FVec Ideal S4x16x16x1024x256 .bf16) (h : Fin 4) (x : Fin 136) (b : Fin 16) (hb : b.val < 3) (hx : x.val = 3 + b.val) (i : Fin 1024) (c : Fin 256) :
    tilesOf P (ix4 h x i c) = P (ix5 h 2 b i c) := by
  have e : (shapeCast _ (extractStridedSlice S4x1x3x1024x256 ![0, 2, 0, 0, 0] P slices_S4x16x16x1024x256_S4x1x3x1024x256_0_2_0_0_0) shapeCasts_S4x1x3x1024x256_S4x3x1024x256 : FVec Ideal S4x3x1024x256 .bf16) (ix4 h ⟨b.val, hb⟩ i c) = P (ix5 h 2 b i c) := by
    pointwise
    try rfl
  refine (concatenate_apply_piece (t := S4x136x1024x256) 1 (pieces P) _ (ix4 h x i c) 2 (show 2 < 16 by decide) S4x3x1024x256 (shapeCast _ (extractStridedSlice S4x1x3x1024x256 ![0, 2, 0, 0, 0] P slices_S4x16x16x1024x256_S4x1x3x1024x256_0_2_0_0_0) shapeCasts_S4x1x3x1024x256_S4x3x1024x256 : FVec Ideal S4x3x1024x256 .bf16) rfl rfl 3 rfl (ix4 h ⟨b.val, hb⟩ i c) ?_ hx.symm).trans e
  intro q hq
  fin_cases q
  · rfl
  · exact absurd rfl hq
  · rfl
  · rfl
set_option maxHeartbeats 1600000 in
theorem tiles_3 (P : FVec Ideal S4x16x16x1024x256 .bf16) (h : Fin 4) (x : Fin 136) (b : Fin 16) (hb : b.val < 4) (hx : x.val = 6 + b.val) (i : Fin 1024) (c : Fin 256) :
    tilesOf P (ix4 h x i c) = P (ix5 h 3 b i c) := by
  have e : (shapeCast _ (extractStridedSlice S4x1x4x1024x256 ![0, 3, 0, 0, 0] P slices_S4x16x16x1024x256_S4x1x4x1024x256_0_3_0_0_0) shapeCasts_S4x1x4x1024x256_S4x4x1024x256 : FVec Ideal S4x4x1024x256 .bf16) (ix4 h ⟨b.val, hb⟩ i c) = P (ix5 h 3 b i c) := by
    pointwise
    try rfl
  refine (concatenate_apply_piece (t := S4x136x1024x256) 1 (pieces P) _ (ix4 h x i c) 3 (show 3 < 16 by decide) S4x4x1024x256 (shapeCast _ (extractStridedSlice S4x1x4x1024x256 ![0, 3, 0, 0, 0] P slices_S4x16x16x1024x256_S4x1x4x1024x256_0_3_0_0_0) shapeCasts_S4x1x4x1024x256_S4x4x1024x256 : FVec Ideal S4x4x1024x256 .bf16) rfl rfl 6 rfl (ix4 h ⟨b.val, hb⟩ i c) ?_ hx.symm).trans e
  intro q hq
  fin_cases q
  · rfl
  · exact absurd rfl hq
  · rfl
  · rfl
set_option maxHeartbeats 1600000 in
theorem tiles_4 (P : FVec Ideal S4x16x16x1024x256 .bf16) (h : Fin 4) (x : Fin 136) (b : Fin 16) (hb : b.val < 5) (hx : x.val = 10 + b.val) (i : Fin 1024) (c : Fin 256) :
    tilesOf P (ix4 h x i c) = P (ix5 h 4 b i c) := by
  have e : (shapeCast _ (extractStridedSlice S4x1x5x1024x256 ![0, 4, 0, 0, 0] P slices_S4x16x16x1024x256_S4x1x5x1024x256_0_4_0_0_0) shapeCasts_S4x1x5x1024x256_S4x5x1024x256 : FVec Ideal S4x5x1024x256 .bf16) (ix4 h ⟨b.val, hb⟩ i c) = P (ix5 h 4 b i c) := by
    pointwise
    try rfl
  refine (concatenate_apply_piece (t := S4x136x1024x256) 1 (pieces P) _ (ix4 h x i c) 4 (show 4 < 16 by decide) S4x5x1024x256 (shapeCast _ (extractStridedSlice S4x1x5x1024x256 ![0, 4, 0, 0, 0] P slices_S4x16x16x1024x256_S4x1x5x1024x256_0_4_0_0_0) shapeCasts_S4x1x5x1024x256_S4x5x1024x256 : FVec Ideal S4x5x1024x256 .bf16) rfl rfl 10 rfl (ix4 h ⟨b.val, hb⟩ i c) ?_ hx.symm).trans e
  intro q hq
  fin_cases q
  · rfl
  · exact absurd rfl hq
  · rfl
  · rfl
set_option maxHeartbeats 1600000 in
theorem tiles_5 (P : FVec Ideal S4x16x16x1024x256 .bf16) (h : Fin 4) (x : Fin 136) (b : Fin 16) (hb : b.val < 6) (hx : x.val = 15 + b.val) (i : Fin 1024) (c : Fin 256) :
    tilesOf P (ix4 h x i c) = P (ix5 h 5 b i c) := by
  have e : (shapeCast _ (extractStridedSlice S4x1x6x1024x256 ![0, 5, 0, 0, 0] P slices_S4x16x16x1024x256_S4x1x6x1024x256_0_5_0_0_0) shapeCasts_S4x1x6x1024x256_S4x6x1024x256 : FVec Ideal S4x6x1024x256 .bf16) (ix4 h ⟨b.val, hb⟩ i c) = P (ix5 h 5 b i c) := by
    pointwise
    try rfl
  refine (concatenate_apply_piece (t := S4x136x1024x256) 1 (pieces P) _ (ix4 h x i c) 5 (show 5 < 16 by decide) S4x6x1024x256 (shapeCast _ (extractStridedSlice S4x1x6x1024x256 ![0, 5, 0, 0, 0] P slices_S4x16x16x1024x256_S4x1x6x1024x256_0_5_0_0_0) shapeCasts_S4x1x6x1024x256_S4x6x1024x256 : FVec Ideal S4x6x1024x256 .bf16) rfl rfl 15 rfl (ix4 h ⟨b.val, hb⟩ i c) ?_ hx.symm).trans e
  intro q hq
  fin_cases q
  · rfl
  · exact absurd rfl hq
  · rfl
  · rfl
set_option maxHeartbeats 1600000 in
theorem tiles_6 (P : FVec Ideal S4x16x16x1024x256 .bf16) (h : Fin 4) (x : Fin 136) (b : Fin 16) (hb : b.val < 7) (hx : x.val = 21 + b.val) (i : Fin 1024) (c : Fin 256) :
    tilesOf P (ix4 h x i c) = P (ix5 h 6 b i c) := by
  have e : (shapeCast _ (extractStridedSlice S4x1x7x1024x256 ![0, 6, 0, 0, 0] P slices_S4x16x16x1024x256_S4x1x7x1024x256_0_6_0_0_0) shapeCasts_S4x1x7x1024x256_S4x7x1024x256 : FVec Ideal S4x7x1024x256 .bf16) (ix4 h ⟨b.val, hb⟩ i c) = P (ix5 h 6 b i c) := by
    pointwise
    try rfl
  refine (concatenate_apply_piece (t := S4x136x1024x256) 1 (pieces P) _ (ix4 h x i c) 6 (show 6 < 16 by decide) S4x7x1024x256 (shapeCast _ (extractStridedSlice S4x1x7x1024x256 ![0, 6, 0, 0, 0] P slices_S4x16x16x1024x256_S4x1x7x1024x256_0_6_0_0_0) shapeCasts_S4x1x7x1024x256_S4x7x1024x256 : FVec Ideal S4x7x1024x256 .bf16) rfl rfl 21 rfl (ix4 h ⟨b.val, hb⟩ i c) ?_ hx.symm).trans e
  intro q hq
  fin_cases q
  · rfl
  · exact absurd rfl hq
  · rfl
  · rfl
set_option maxHeartbeats 1600000 in
theorem tiles_7 (P : FVec Ideal S4x16x16x1024x256 .bf16) (h : Fin 4) (x : Fin 136) (b : Fin 16) (hb : b.val < 8) (hx : x.val = 28 + b.val) (i : Fin 1024) (c : Fin 256) :
    tilesOf P (ix4 h x i c) = P (ix5 h 7 b i c) := by
  have e : (shapeCast _ (extractStridedSlice S4x1x8x1024x256 ![0, 7, 0, 0, 0] P slices_S4x16x16x1024x256_S4x1x8x1024x256_0_7_0_0_0) shapeCasts_S4x1x8x1024x256_S4x8x1024x256 : FVec Ideal S4x8x1024x256 .bf16) (ix4 h ⟨b.val, hb⟩ i c) = P (ix5 h 7 b i c) := by
    pointwise
    try rfl
  refine (concatenate_apply_piece (t := S4x136x1024x256) 1 (pieces P) _ (ix4 h x i c) 7 (show 7 < 16 by decide) S4x8x1024x256 (shapeCast _ (extractStridedSlice S4x1x8x1024x256 ![0, 7, 0, 0, 0] P slices_S4x16x16x1024x256_S4x1x8x1024x256_0_7_0_0_0) shapeCasts_S4x1x8x1024x256_S4x8x1024x256 : FVec Ideal S4x8x1024x256 .bf16) rfl rfl 28 rfl (ix4 h ⟨b.val, hb⟩ i c) ?_ hx.symm).trans e
  intro q hq
  fin_cases q
  · rfl
  · exact absurd rfl hq
  · rfl
  · rfl
set_option maxHeartbeats 1600000 in
theorem tiles_8 (P : FVec Ideal S4x16x16x1024x256 .bf16) (h : Fin 4) (x : Fin 136) (b : Fin 16) (hb : b.val < 9) (hx : x.val = 36 + b.val) (i : Fin 1024) (c : Fin 256) :
    tilesOf P (ix4 h x i c) = P (ix5 h 8 b i c) := by
  have e : (shapeCast _ (extractStridedSlice S4x1x9x1024x256 ![0, 8, 0, 0, 0] P slices_S4x16x16x1024x256_S4x1x9x1024x256_0_8_0_0_0) shapeCasts_S4x1x9x1024x256_S4x9x1024x256 : FVec Ideal S4x9x1024x256 .bf16) (ix4 h ⟨b.val, hb⟩ i c) = P (ix5 h 8 b i c) := by
    pointwise
    try rfl
  refine (concatenate_apply_piece (t := S4x136x1024x256) 1 (pieces P) _ (ix4 h x i c) 8 (show 8 < 16 by decide) S4x9x1024x256 (shapeCast _ (extractStridedSlice S4x1x9x1024x256 ![0, 8, 0, 0, 0] P slices_S4x16x16x1024x256_S4x1x9x1024x256_0_8_0_0_0) shapeCasts_S4x1x9x1024x256_S4x9x1024x256 : FVec Ideal S4x9x1024x256 .bf16) rfl rfl 36 rfl (ix4 h ⟨b.val, hb⟩ i c) ?_ hx.symm).trans e
  intro q hq
  fin_cases q
  · rfl
  · exact absurd rfl hq
  · rfl
  · rfl
set_option maxHeartbeats 1600000 in
theorem tiles_9 (P : FVec Ideal S4x16x16x1024x256 .bf16) (h : Fin 4) (x : Fin 136) (b : Fin 16) (hb : b.val < 10) (hx : x.val = 45 + b.val) (i : Fin 1024) (c : Fin 256) :
    tilesOf P (ix4 h x i c) = P (ix5 h 9 b i c) := by
  have e : (shapeCast _ (extractStridedSlice S4x1x10x1024x256 ![0, 9, 0, 0, 0] P slices_S4x16x16x1024x256_S4x1x10x1024x256_0_9_0_0_0) shapeCasts_S4x1x10x1024x256_S4x10x1024x256 : FVec Ideal S4x10x1024x256 .bf16) (ix4 h ⟨b.val, hb⟩ i c) = P (ix5 h 9 b i c) := by
    pointwise
    try rfl
  refine (concatenate_apply_piece (t := S4x136x1024x256) 1 (pieces P) _ (ix4 h x i c) 9 (show 9 < 16 by decide) S4x10x1024x256 (shapeCast _ (extractStridedSlice S4x1x10x1024x256 ![0, 9, 0, 0, 0] P slices_S4x16x16x1024x256_S4x1x10x1024x256_0_9_0_0_0) shapeCasts_S4x1x10x1024x256_S4x10x1024x256 : FVec Ideal S4x10x1024x256 .bf16) rfl rfl 45 rfl (ix4 h ⟨b.val, hb⟩ i c) ?_ hx.symm).trans e
  intro q hq
  fin_cases q
  · rfl
  · exact absurd rfl hq
  · rfl
  · rfl
set_option maxHeartbeats 1600000 in
theorem tiles_10 (P : FVec Ideal S4x16x16x1024x256 .bf16) (h : Fin 4) (x : Fin 136) (b : Fin 16) (hb : b.val < 11) (hx : x.val = 55 + b.val) (i : Fin 1024) (c : Fin 256) :
    tilesOf P (ix4 h x i c) = P (ix5 h 10 b i c) := by
  have e : (shapeCast _ (extractStridedSlice S4x1x11x1024x256 ![0, 10, 0, 0, 0] P slices_S4x16x16x1024x256_S4x1x11x1024x256_0_10_0_0_0) shapeCasts_S4x1x11x1024x256_S4x11x1024x256 : FVec Ideal S4x11x1024x256 .bf16) (ix4 h ⟨b.val, hb⟩ i c) = P (ix5 h 10 b i c) := by
    pointwise
    try rfl
  refine (concatenate_apply_piece (t := S4x136x1024x256) 1 (pieces P) _ (ix4 h x i c) 10 (show 10 < 16 by decide) S4x11x1024x256 (shapeCast _ (extractStridedSlice S4x1x11x1024x256 ![0, 10, 0, 0, 0] P slices_S4x16x16x1024x256_S4x1x11x1024x256_0_10_0_0_0) shapeCasts_S4x1x11x1024x256_S4x11x1024x256 : FVec Ideal S4x11x1024x256 .bf16) rfl rfl 55 rfl (ix4 h ⟨b.val, hb⟩ i c) ?_ hx.symm).trans e
  intro q hq
  fin_cases q
  · rfl
  · exact absurd rfl hq
  · rfl
  · rfl
set_option maxHeartbeats 1600000 in
theorem tiles_11 (P : FVec Ideal S4x16x16x1024x256 .bf16) (h : Fin 4) (x : Fin 136) (b : Fin 16) (hb : b.val < 12) (hx : x.val = 66 + b.val) (i : Fin 1024) (c : Fin 256) :
    tilesOf P (ix4 h x i c) = P (ix5 h 11 b i c) := by
  have e : (shapeCast _ (extractStridedSlice S4x1x12x1024x256 ![0, 11, 0, 0, 0] P slices_S4x16x16x1024x256_S4x1x12x1024x256_0_11_0_0_0) shapeCasts_S4x1x12x1024x256_S4x12x1024x256 : FVec Ideal S4x12x1024x256 .bf16) (ix4 h ⟨b.val, hb⟩ i c) = P (ix5 h 11 b i c) := by
    pointwise
    try rfl
  refine (concatenate_apply_piece (t := S4x136x1024x256) 1 (pieces P) _ (ix4 h x i c) 11 (show 11 < 16 by decide) S4x12x1024x256 (shapeCast _ (extractStridedSlice S4x1x12x1024x256 ![0, 11, 0, 0, 0] P slices_S4x16x16x1024x256_S4x1x12x1024x256_0_11_0_0_0) shapeCasts_S4x1x12x1024x256_S4x12x1024x256 : FVec Ideal S4x12x1024x256 .bf16) rfl rfl 66 rfl (ix4 h ⟨b.val, hb⟩ i c) ?_ hx.symm).trans e
  intro q hq
  fin_cases q
  · rfl
  · exact absurd rfl hq
  · rfl
  · rfl
set_option maxHeartbeats 1600000 in
theorem tiles_12 (P : FVec Ideal S4x16x16x1024x256 .bf16) (h : Fin 4) (x : Fin 136) (b : Fin 16) (hb : b.val < 13) (hx : x.val = 78 + b.val) (i : Fin 1024) (c : Fin 256) :
    tilesOf P (ix4 h x i c) = P (ix5 h 12 b i c) := by
  have e : (shapeCast _ (extractStridedSlice S4x1x13x1024x256 ![0, 12, 0, 0, 0] P slices_S4x16x16x1024x256_S4x1x13x1024x256_0_12_0_0_0) shapeCasts_S4x1x13x1024x256_S4x13x1024x256 : FVec Ideal S4x13x1024x256 .bf16) (ix4 h ⟨b.val, hb⟩ i c) = P (ix5 h 12 b i c) := by
    pointwise
    try rfl
  refine (concatenate_apply_piece (t := S4x136x1024x256) 1 (pieces P) _ (ix4 h x i c) 12 (show 12 < 16 by decide) S4x13x1024x256 (shapeCast _ (extractStridedSlice S4x1x13x1024x256 ![0, 12, 0, 0, 0] P slices_S4x16x16x1024x256_S4x1x13x1024x256_0_12_0_0_0) shapeCasts_S4x1x13x1024x256_S4x13x1024x256 : FVec Ideal S4x13x1024x256 .bf16) rfl rfl 78 rfl (ix4 h ⟨b.val, hb⟩ i c) ?_ hx.symm).trans e
  intro q hq
  fin_cases q
  · rfl
  · exact absurd rfl hq
  · rfl
  · rfl
set_option maxHeartbeats 1600000 in
theorem tiles_13 (P : FVec Ideal S4x16x16x1024x256 .bf16) (h : Fin 4) (x : Fin 136) (b : Fin 16) (hb : b.val < 14) (hx : x.val = 91 + b.val) (i : Fin 1024) (c : Fin 256) :
    tilesOf P (ix4 h x i c) = P (ix5 h 13 b i c) := by
  have e : (shapeCast _ (extractStridedSlice S4x1x14x1024x256 ![0, 13, 0, 0, 0] P slices_S4x16x16x1024x256_S4x1x14x1024x256_0_13_0_0_0) shapeCasts_S4x1x14x1024x256_S4x14x1024x256 : FVec Ideal S4x14x1024x256 .bf16) (ix4 h ⟨b.val, hb⟩ i c) = P (ix5 h 13 b i c) := by
    pointwise
    try rfl
  refine (concatenate_apply_piece (t := S4x136x1024x256) 1 (pieces P) _ (ix4 h x i c) 13 (show 13 < 16 by decide) S4x14x1024x256 (shapeCast _ (extractStridedSlice S4x1x14x1024x256 ![0, 13, 0, 0, 0] P slices_S4x16x16x1024x256_S4x1x14x1024x256_0_13_0_0_0) shapeCasts_S4x1x14x1024x256_S4x14x1024x256 : FVec Ideal S4x14x1024x256 .bf16) rfl rfl 91 rfl (ix4 h ⟨b.val, hb⟩ i c) ?_ hx.symm).trans e
  intro q hq
  fin_cases q
  · rfl
  · exact absurd rfl hq
  · rfl
  · rfl
set_option maxHeartbeats 1600000 in
theorem tiles_14 (P : FVec Ideal S4x16x16x1024x256 .bf16) (h : Fin 4) (x : Fin 136) (b : Fin 16) (hb : b.val < 15) (hx : x.val = 105 + b.val) (i : Fin 1024) (c : Fin 256) :
    tilesOf P (ix4 h x i c) = P (ix5 h 14 b i c) := by
  have e : (shapeCast _ (extractStridedSlice S4x1x15x1024x256 ![0, 14, 0, 0, 0] P slices_S4x16x16x1024x256_S4x1x15x1024x256_0_14_0_0_0) shapeCasts_S4x1x15x1024x256_S4x15x1024x256 : FVec Ideal S4x15x1024x256 .bf16) (ix4 h ⟨b.val, hb⟩ i c) = P (ix5 h 14 b i c) := by
    pointwise
    try rfl
  refine (concatenate_apply_piece (t := S4x136x1024x256) 1 (pieces P) _ (ix4 h x i c) 14 (show 14 < 16 by decide) S4x15x1024x256 (shapeCast _ (extractStridedSlice S4x1x15x1024x256 ![0, 14, 0, 0, 0] P slices_S4x16x16x1024x256_S4x1x15x1024x256_0_14_0_0_0) shapeCasts_S4x1x15x1024x256_S4x15x1024x256 : FVec Ideal S4x15x1024x256 .bf16) rfl rfl 105 rfl (ix4 h ⟨b.val, hb⟩ i c) ?_ hx.symm).trans e
  intro q hq
  fin_cases q
  · rfl
  · exact absurd rfl hq
  · rfl
  · rfl
set_option maxHeartbeats 1600000 in
theorem tiles_15 (P : FVec Ideal S4x16x16x1024x256 .bf16) (h : Fin 4) (x : Fin 136) (b : Fin 16) (hb : b.val < 16) (hx : x.val = 120 + b.val) (i : Fin 1024) (c : Fin 256) :
    tilesOf P (ix4 h x i c) = P (ix5 h 15 b i c) := by
  have e : (shapeCast _ (extractStridedSlice S4x1x16x1024x256 ![0, 15, 0, 0, 0] P slices_S4x16x16x1024x256_S4x1x16x1024x256_0_15_0_0_0) shapeCasts_S4x1x16x1024x256_S4x16x1024x256 : FVec Ideal S4x16x1024x256 .bf16) (ix4 h ⟨b.val, hb⟩ i c) = P (ix5 h 15 b i c) := by
    pointwise
    try rfl
  refine (concatenate_apply_piece (t := S4x136x1024x256) 1 (pieces P) _ (ix4 h x i c) 15 (show 15 < 16 by decide) S4x16x1024x256 (shapeCast _ (extractStridedSlice S4x1x16x1024x256 ![0, 15, 0, 0, 0] P slices_S4x16x16x1024x256_S4x1x16x1024x256_0_15_0_0_0) shapeCasts_S4x1x16x1024x256_S4x16x1024x256 : FVec Ideal S4x16x1024x256 .bf16) rfl rfl 120 rfl (ix4 h ⟨b.val, hb⟩ i c) ?_ hx.symm).trans e
  intro q hq
  fin_cases q
  · rfl
  · exact absurd rfl hq
  · rfl
  · rfl

/-- The tile of query block `a` and key block `b`. -/
theorem tilesOf_ap (P : FVec Ideal S4x16x16x1024x256 .bf16) (h : Fin 4) (x : Fin 136) (a b : Fin 16) (hx : x.val = a.val * (a.val + 1) / 2 + b.val) (hb : b.val ≤ a.val)
    (i : Fin 1024) (c : Fin 256) : tilesOf P (ix4 h x i c) = P (ix5 h a b i c) := by
  obtain ⟨a, ha⟩ := a
  dsimp only at hx hb
  interval_cases a
  · exact tiles_0 P h x b (by omega) (by omega) i c
  · exact tiles_1 P h x b (by omega) (by omega) i c
  · exact tiles_2 P h x b (by omega) (by omega) i c
  · exact tiles_3 P h x b (by omega) (by omega) i c
  · exact tiles_4 P h x b (by omega) (by omega) i c
  · exact tiles_5 P h x b (by omega) (by omega) i c
  · exact tiles_6 P h x b (by omega) (by omega) i c
  · exact tiles_7 P h x b (by omega) (by omega) i c
  · exact tiles_8 P h x b (by omega) (by omega) i c
  · exact tiles_9 P h x b (by omega) (by omega) i c
  · exact tiles_10 P h x b (by omega) (by omega) i c
  · exact tiles_11 P h x b (by omega) (by omega) i c
  · exact tiles_12 P h x b (by omega) (by omega) i c
  · exact tiles_13 P h x b (by omega) (by omega) i c
  · exact tiles_14 P h x b (by omega) (by omega) i c
  · exact tiles_15 P h x b (by omega) (by omega) i c

/-- A tile of a saved array of reals. -/
theorem tile_is {X : Sc4} {w : M4} (hX : ∀ (h g : Fin 4) (t s : Fin 4096), X (ix4 h g t s) = (w h g t s : EReal)) (h n j : ℕ) (hh : h < 4) (hn : n < 16) (hj : j ≤ n) :
    IsT (tileOf (tilesOf (blocksOf X)) (Ring.bk 544 (136 * h + n * (n + 1) / 2 + j))) (fun i c => w h (i / 256) (256 * n + i % 256) (256 * j + c)) := by
  intro i c
  have hx : n * (n + 1) / 2 + j < 136 := by interval_cases n <;> omega
  have hv := Ring.bk_val (NB := 544) (k := 136 * h + n * (n + 1) / 2 + j) (by omega)
  rw [tileOf_ap, tilesOf_ap _ _ _ ⟨n, hn⟩ ⟨j, by omega⟩ (by show (Ring.bk 544 _).val % 136 = n * (n + 1) / 2 + j; rw [hv]; omega) hj, blocksOf_ap, hX]
  dsimp only
  rw [hv, show (136 * h + n * (n + 1) / 2 + j) / 136 = h by omega]

end Cert.Proof.AttnBwd
-- ==== Proof.RefValue.lean ====
/-
  The stages of the reference on arrays of reals: each is the image of the model's array of reals.
-/
module

public import proofs.«01_k».proof.Proof.Ref
public import proofs.«01_k».proof.Proof.Model

@[expose] public section

noncomputable section

namespace Cert.Proof.AttnBwd.Ref

open Cert.ReferenceIdeal Cert.ReferenceIdeal.Gen
open Idealize.ShloMosaic Idealize.ShloMosaic.TcCoe
set_option maxRecDepth 16384

/-- The scores' array `X` holds the reals `f`. -/
def Is4 (X : Sc) (f : Model.M4) : Prop := ∀ (h g : Fin 4) (t s : Fin 4096), X (ix4 h g t s) = (f h g t s : EReal)

theorem z_is {q : FVec Ideal S4096x2048 .bf16} {kv : FVec Ideal S4096x1024 .bf16} {Q K : Model.M2} (hq : Is2 q Q) (hk : Is2 kv K) :
    Is4 (zR q kv) (Model.z Q K) := by
  intro h g t s
  pointwise [zR, kR, qR, all]
  simp only [hq _ _, hk _ _, scale_coe, ← EReal.coe_mul, ← coe_sum, Model.z, Finset.sum_range]

theorem gw_is {o : FVec Ideal S4096x2048 .bf16} {kv : FVec Ideal S4096x1024 .bf16} {O K : Model.M2} (ho : Is2 o O) (hk : Is2 kv K) :
    Is4 (gwR o kv) (Model.gw O K) := by
  intro h g t s
  pointwise [gwR, gR, vR]
  simp only [ho _ _, hk _ _, ← EReal.coe_mul, ← coe_sum, Model.gw, Finset.sum_range, Nat.add_assoc]

theorem mask_ap (h g : Fin 4) (t s : Fin 4096) : maskR (ix4 h g t s) = BitVec.ofBool (decide (s.val < t.val)) := by
  pointwise [maskR]
  have hs := s.isLt
  have ht := t.isLt
  show BitVec.ofBool ((BitVec.ofNat 32 s.val).slt (BitVec.ofNat 32 t.val)) = _
  congr 1
  rw [BitVec.slt_eq_decide]
  congr 1
  have e : ∀ n : ℕ, n < 4096 → (BitVec.ofNat 32 n).toInt = n := fun n hn => by
    have h1 : (BitVec.ofNat 32 n).toNat = n := by rw [BitVec.toNat_ofNat]; omega
    rw [BitVec.toInt_eq_toNat_of_lt (by omega), h1]
  rw [e _ hs, e _ ht]
  exact eq_iff_iff.2 Int.ofNat_lt

theorem sel_is {x y : Sc} {f f' : Model.M4} (hx : Is4 x f) (hy : Is4 y f') :
    Is4 (select maskR x y) (fun h g t s => if s < t then f h g t s else f' h g t s) := by
  intro h g t s
  show Scalar.select (maskR (ix4 h g t s)) (x (ix4 h g t s)) (y (ix4 h g t s)) = _
  rw [mask_ap, hx, hy]
  by_cases hlt : s.val < t.val
  · simp [hlt, Scalar.select]
  · simp [hlt, Scalar.select]

theorem zero_is : Is4 (all 0x00000000#32) (fun _ _ _ _ => 0) := by
  intro h g t s
  pointwise [all]
  rfl

theorem sp_is {x : Sc} {f : Model.M4} (hx : Is4 x f) : Is4 (spR x) (fun h g t s => Real.log (1 + Real.exp (f h g t s))) := by
  intro h g t s
  pointwise [spR, all]
  rw [if_neg (by simp), hx, Ideal.absf_def, ← EReal.coe_neg, ← EReal.coe_zero, coe_max, coe_max, ← EReal.coe_neg, Ideal.exp_coe, log1p_coe (Real.exp_nonneg _),
    ← EReal.coe_add, ← softplus_eq (f h g t s), abs_eq_max_neg]

theorem neg_is {x : Sc} {f : Model.M4} (hx : Is4 x f) : Is4 (Host.negf x) (fun h g t s => -f h g t s) := by
  intro h g t s
  pointwise
  rw [hx, EReal.coe_neg]

theorem sg_is {x : Sc} {f : Model.M4} (hx : Is4 x f) : Is4 (sgR x) (fun h g t s => 1 - 1 / (1 + Real.exp (f h g t s))) := by
  intro h g t s
  pointwise [sgR, all]
  rw [sp_is hx, hx, inf_coe, if_neg (EReal.coe_ne_top _), if_neg (EReal.coe_ne_top _), ← EReal.coe_sub, Ideal.exp_coe, exp_sub_softplus]

theorem add_is {x y : Sc} {f f' : Model.M4} (hx : Is4 x f) (hy : Is4 y f') : Is4 (addf x y) (fun h g t s => f h g t s + f' h g t s) := by
  intro h g t s
  pointwise
  rw [hx, hy, EReal.coe_add]
theorem sub_is {x y : Sc} {f f' : Model.M4} (hx : Is4 x f) (hy : Is4 y f') : Is4 (subf x y) (fun h g t s => f h g t s - f' h g t s) := by
  intro h g t s
  pointwise
  rw [hx, hy, EReal.coe_sub]
theorem mul_is {x y : Sc} {f f' : Model.M4} (hx : Is4 x f) (hy : Is4 y f') : Is4 (mulf x y) (fun h g t s => f h g t s * f' h g t s) := by
  intro h g t s
  pointwise
  rw [hx, hy, EReal.coe_mul]
theorem exp_is {x : Sc} {f : Model.M4} (hx : Is4 x f) : Is4 (Host.exp x) (fun h g t s => Real.exp (f h g t s)) := by
  intro h g t s
  pointwise
  rw [hx, Ideal.exp_coe]

/-- A sum over a window, from zero: the sum over the window's places. -/
theorem window_sum {s t : Shape} (window strides lo hi : Fin s.rank → ℕ) (h : s.ReduceWindows window strides lo hi t) (x : s.Idx → EReal) (j : t.Idx) :
    Ideal.hostReduceWindowAdd window strides lo hi h x 0 j
      = ∑ i : (⟨s.rank, window⟩ : Shape).Idx,
        (if hin : ∀ a, lo a ≤ (j (a.cast h.1.symm)).val * strides a + (i a).val ∧ (j (a.cast h.1.symm)).val * strides a + (i a).val - lo a < s.size a
          then x (fun a => ⟨(j (a.cast h.1.symm)).val * strides a + (i a).val - lo a, (hin a).2⟩) else 0) := by
  unfold Ideal.hostReduceWindowAdd Host.reduceWindow
  rw [foldl_add, ← Fin.sum_univ_def, zero_add]
  refine (Finset.sum_congr rfl fun n _ => ?_).trans (Equiv.sum_comp (Shape.rowMajor (⟨s.rank, window⟩ : Shape)).symm (fun i : (⟨s.rank, window⟩ : Shape).Idx =>
        (if hin : ∀ a, lo a ≤ (j (a.cast h.1.symm)).val * strides a + (i a).val ∧ (j (a.cast h.1.symm)).val * strides a + (i a).val - lo a < s.size a
          then x (fun a => ⟨(j (a.cast h.1.symm)).val * strides a + (i a).val - lo a, (hin a).2⟩) else 0)))
  dsimp only
  split_ifs <;> first | rfl | contradiction

theorem zeros_first : (broadcastInDim S_ ![] bcast_S_S_ (constant (F := Ideal) S_ .f32 0x00000000#32)) (Shape.Idx.first h_S_) = (0 : EReal) := by
  pointwise

theorem shifted_sum (F : ℕ → ℝ) (s p N : ℕ) (hN : p + s = N) :
    ∑ i ∈ Finset.range (s + 1), F i = ∑ n ∈ Finset.range (N + 1), (if N ≤ s + n then F (s + n - N) else 0) := by
  subst hN
  rw [Nat.add_assoc, Finset.sum_range_add _ p, Finset.sum_eq_zero (s := Finset.range p) fun i hi =>
    if_neg (by have := Finset.mem_range.1 hi; omega), zero_add]
  refine Finset.sum_congr rfl fun i _ => ?_
  rw [if_pos (by omega), show s + (p + i) - (p + s) = i by omega]

/-- A running sum towards the later keys: the sum of the keys up to this one. -/
theorem fwd_is {x : Sc} {f : Model.M4} (hx : Is4 x f) : Is4 (fwdR x) (fun h g t s => ∑ i ∈ Finset.range (s + 1), f h g t i) := by
  intro h g t s
  unfold fwdR Host.reduceWindowAdd
  rw [zeros_first, Ideal.hostReduceWindowAdd_def, window_sum]
  refine (sum_idx4 (n0 := 1) (n1 := 1) (n2 := 1) (n3 := 4096) _).trans ?_
  simp only [Finset.univ_unique, Finset.sum_singleton]
  have hs := s.isLt
  have e1 := (shifted_sum (f h g t) s.val (4095 - s.val) 4095 (by omega)).trans
    (Finset.sum_range (fun n => if 4095 ≤ s.val + n then f h g t (s.val + n - 4095) else 0))
  rw [e1, coe_sum]
  refine Finset.sum_congr rfl fun n _ => ?_
  have hn := n.isLt
  by_cases hc : 4095 ≤ s.val + n.val
  · rw [if_pos hc, dif_pos]
    · refine (congrArg x ?_).trans (hx h g t ⟨s.val + n.val - 4095, by omega⟩)
      funext a
      fin_cases a
      · exact Fin.ext (show h.val * 1 + 0 - 0 = h.val by omega)
      · exact Fin.ext (show g.val * 1 + 0 - 0 = g.val by omega)
      · exact Fin.ext (show t.val * 1 + 0 - 0 = t.val by omega)
      · exact Fin.ext (show s.val * 1 + n.val - 4095 = s.val + n.val - 4095 by omega)
    · intro a
      have hh := h.isLt
      have hg := g.isLt
      have ht := t.isLt
      fin_cases a
      · show 0 ≤ h.val * 1 + 0 ∧ h.val * 1 + 0 - 0 < 4; omega
      · show 0 ≤ g.val * 1 + 0 ∧ g.val * 1 + 0 - 0 < 4; omega
      · show 0 ≤ t.val * 1 + 0 ∧ t.val * 1 + 0 - 0 < 4096; omega
      · show 4095 ≤ s.val * 1 + n.val ∧ s.val * 1 + n.val - 4095 < 4096; omega
  · rw [if_neg hc, dif_neg]
    · rfl
    · intro hin
      have := (hin 3).1
      change 4095 ≤ s.val * 1 + n.val at this
      omega

/-- A finite sum of reals or zeros is a real. -/
theorem real_sum {ι : Type} (s : Finset ι) (F : ι → EReal) (h : ∀ i ∈ s, ∃ r : ℝ, F i = r) : ∃ r : ℝ, ∑ i ∈ s, F i = r := by
  classical
  induction s using Finset.induction_on with
  | empty => exact ⟨0, by simp⟩
  | insert a s ha ih =>
    obtain ⟨r, hr⟩ := ih fun i hi => h i (Finset.mem_insert_of_mem hi)
    obtain ⟨r', hr'⟩ := h a (Finset.mem_insert_self a s)
    exact ⟨r' + r, by rw [Finset.sum_insert ha, hr, hr', EReal.coe_add]⟩

/-- A scores' array as the reals it holds. -/
def toM4 (X : Sc) : Model.M4 := fun h g t s => if hh : (h < 4 ∧ g < 4) ∧ t < 4096 ∧ s < 4096 then
  (X (ix4 ⟨h, hh.1.1⟩ ⟨g, hh.1.2⟩ ⟨t, hh.2.1⟩ ⟨s, hh.2.2⟩)).toReal else 0

theorem toM4_is {X : Sc} (h : ∀ i, ∃ r : ℝ, X i = r) : Is4 X (toM4 X) := by
  intro a b c d
  unfold toM4
  rw [dif_pos ⟨⟨a.isLt, b.isLt⟩, c.isLt, d.isLt⟩]
  obtain ⟨r, hr⟩ := h (ix4 a b c d)
  show X (ix4 a b c d) = ((X (ix4 a b c d)).toReal : EReal)
  rw [hr]; rfl

/-- A running sum of reals is real. -/
theorem rev_real {x : Sc} (hx : ∀ i, ∃ r : ℝ, x i = r) : ∀ i, ∃ r : ℝ, revR x i = r := by
  intro i
  unfold revR Host.reduceWindowAdd
  rw [zeros_first, Ideal.hostReduceWindowAdd_def, window_sum]
  refine real_sum _ _ fun n _ => ?_
  split
  · exact hx _
  · exact ⟨0, rfl⟩

theorem Is4.real {X : Sc} {f : Model.M4} (h : Is4 X f) (i : S4x4x4096x4096.Idx) : ∃ r : ℝ, X i = r :=
  ⟨_, (congrArg X (eq_ix4 i)).trans (h (i 0) (i 1) (i 2) (i 3))⟩

/-- The weights, before the mask, are reals. -/
theorem wf_is {z : Sc} {Z : Model.M4} (hz : Is4 z Z) : Is4 (wfR z) (toM4 (wfR z)) := by
  have hlb := neg_is (sp_is (neg_is hz))
  have hlr : Is4 (lrR z) _ := sel_is (sub_is hlb hz) zero_is
  exact toM4_is (exp_is (add_is hlb (sub_is (toM4_is (rev_real hlr.real)) hlr))).real

/-- The weights: none at the query's own place and after it. -/
def wM (z : Sc) : Model.M4 := fun h g t s => if s < t then toM4 (wfR z) h g t s else 0

theorem w_is {z : Sc} {Z : Model.M4} (hz : Is4 z Z) : Is4 (wR z) (wM z) := sel_is (wf_is hz) zero_is

/-- The gradient of the weights' logarithm. -/
theorem e_is {gw z : Sc} {Z GW : Model.M4} (hz : Is4 z Z) (hgw : Is4 gw GW) :
    Is4 (eR gw z) (fun h g t s => GW h g t s * wM z h g t s) := by
  intro h g t s
  refine (mul_is (sel_is hgw zero_is) (wf_is hz) h g t s).trans ?_
  congr 1
  unfold wM
  dsimp only
  split_ifs <;> ring

/-- The gradient of the scores: `1 − σ` in the place of the derivative of softplus, and terms regrouped. -/
theorem ds_is {e z : Sc} {Z E : Model.M4} (hz : Is4 z Z) (he : Is4 e E) (h0 : ∀ h g t s, ¬ s < t → E h g t s = 0) :
    Is4 (dzR e (rR e) z) (Model.ds (fun h g t s => 1 / (1 + Real.exp (-Z h g t s))) E) := by
  have hr : Is4 (rR e) _ := sel_is (add_is (neg_is he) (fwd_is he)) zero_is
  have hall : Is4 (all 0x3DB504F3#32) (fun _ _ _ _ => scale) := by
    intro h g t s
    pointwise [all]
    exact scale_coe
  intro h g t s
  refine (mul_is (add_is (neg_is hr) (neg_is (mul_is (neg_is (add_is he hr)) (sg_is (neg_is hz))))) hall h g t s).trans ?_
  congr 1
  unfold Model.ds
  by_cases hlt : s.val < t.val
  · simp only [if_pos hlt, Finset.sum_range_succ]; ring
  · simp only [if_neg hlt, h0 _ _ _ _ hlt]; ring

/-- The gradient of the queries. -/
theorem dq_is {d : Sc} {kv : FVec Ideal S4096x1024 .bf16} {D : Model.M4} {K : Model.M2} (hd : Is4 d D) (hk : Is2 kv K) (t : Fin 4096) (x : Fin 2048) :
    dqR d kv (ix2 t x) = ((Model.dq D K (x.val / 512) (x.val / 128 % 4) t.val (x.val % 128) : ℝ) : EReal) := by
  pointwise [dqR, kR]
  simp only [hd _ _ _ _, hk _ _, ← EReal.coe_mul, ← coe_sum, Model.dq, Finset.sum_range]

/-- The gradient of the keys. -/
theorem dk_is {d : Sc} {q : FVec Ideal S4096x2048 .bf16} {D : Model.M4} {Q : Model.M2} (hd : Is4 d D) (hq : Is2 q Q) (s : Fin 4096) (x : Fin 512) :
    dkR d q (ix2 s x) = ((Model.dk D Q (x.val / 128) s.val (x.val % 128) : ℝ) : EReal) := by
  pointwise [dkR, qR]
  simp only [hd _ _ _ _, hq _ _, ← EReal.coe_mul, ← coe_sum, Model.dk, Finset.sum_range]

/-- The gradient of the values. -/
theorem dv_is {w : Sc} {o : FVec Ideal S4096x2048 .bf16} {W : Model.M4} {O : Model.M2} (hw : Is4 w W) (ho : Is2 o O) (s : Fin 4096) (x : Fin 512) :
    dvR w o (ix2 s x) = ((Model.dk W O (x.val / 128) s.val (x.val % 128) : ℝ) : EReal) := by
  pointwise [dvR, gR]
  simp only [hw _ _ _ _, ho _ _, ← EReal.coe_mul, ← coe_sum, Model.dk, Finset.sum_range]
  rw [Finset.sum_comm]
  simp only [mul_comm]

end Cert.Proof.AttnBwd.Ref
-- ==== Proof.KernelValue.lean ====
/-
  What the kernel leaves on arrays of reals: at every grid point the running sums over the query blocks so far, and in its
  three results the model's gradients.
-/
module

public import proofs.«01_k».proof.Proof.Run
public import proofs.«01_k».proof.Proof.HostTiles
public import proofs.«01_k».proof.Proof.RefValue
public import Idealize.ShloMosaic.Lib.Pipeline.ValueKit

@[expose] public section

set_option maxRecDepth 16384

noncomputable section

namespace Cert.Proof.AttnBwd

open Cert.KernelIdeal Cert.KernelIdeal.Gen
open Idealize.ShloMosaic
open Idealize.ShloMosaic.TcCoe
open Idealize.ShloMosaic.Pipeline (Dat Cfg Window)
open Model (M2 M4)

variable (m : (ℓ : Loc nD τ sig) → Buf (Elt Ideal) ℓ) (c : Dev nD)

/-! ### The blocks of the operands -/

theorem index_at : ∀ t : Fin grid0.N, win0_0.index t = ![t.val % 16, t.val / 16] ∧ win0_1.index t = ![0, t.val / 16] ∧ win0_2.index t = ![0, 4 + t.val / 16]
    ∧ win0_3.index t = ![t.val % 16, t.val / 16] ∧ win0_5.index t = ![t.val % 16, t.val / 16] ∧ win0_6.index t = ![0, t.val / 16] ∧ win0_7.index t = ![0, t.val / 16] := by decide +kernel

/-- The arguments. -/
abbrev argQ : FVec Ideal S4096x2048 .bf16 := m ((c : Thread nD τ).loc main_arg0)
abbrev argK : FVec Ideal S4096x1024 .bf16 := m ((c : Thread nD τ).loc main_arg1)
abbrev argO : FVec Ideal S4096x2048 .bf16 := m ((c : Thread nD τ).loc main_arg2)

theorem point_lt (t : Fin cfg0.N) : t.val < 64 := t.isLt

theorem qAt_ap (t : Fin cfg0.N) (i : Fin 256) (j : Fin 512) :
    qAt m c t (ix2 i j) = argQ m c (ix2 ⟨256 * (t.val % 16) + i.val, by omega⟩ ⟨512 * (t.val / 16) + j.val, by have := point_lt t; omega⟩) := by
  have e := index_at t
  show V m c main_arg0 _ = _
  rw [V_main_arg0]
  blk_ext [e]
theorem dAt_ap (t : Fin cfg0.N) (i : Fin 256) (j : Fin 512) :
    dAt m c t (ix2 i j) = argO m c (ix2 ⟨256 * (t.val % 16) + i.val, by omega⟩ ⟨512 * (t.val / 16) + j.val, by have := point_lt t; omega⟩) := by
  have e := index_at t
  show V m c main_arg2 _ = _
  rw [V_main_arg2]
  blk_ext [e]
theorem kAt_ap (t : Fin cfg0.N) (i : Fin 4096) (j : Fin 128) :
    kAt m c t (ix2 i j) = argK m c (ix2 i ⟨128 * (t.val / 16) + j.val, by have := point_lt t; omega⟩) := by
  have e := index_at t
  show V m c main_arg1 _ = _
  rw [V_main_arg1]
  blk_ext [e]
theorem vAt_ap (t : Fin cfg0.N) (i : Fin 4096) (j : Fin 128) :
    vAt m c t (ix2 i j) = argK m c (ix2 i ⟨512 + 128 * (t.val / 16) + j.val, by have := point_lt t; omega⟩) := by
  have e := index_at t
  show V m c main_arg1 _ = _
  rw [V_main_arg1]
  blk_ext [e]

/-! ### The saved arrays -/

theorem one_is : Ideal.ofBits .f32 0x3F800000#32 = ((1 : ℝ) : EReal) := by
  simp [Ideal.ofBits, Ideal.ieee]
  rw [← EReal.coe_mul]
  norm_num

theorem sgK_is {z : Sc4} {Z : M4} (hz : Ref.Is4 z Z) : Ref.Is4 (sgK z) (fun h g t s => 1 / (1 + Real.exp (-Z h g t s))) := by
  intro h g t s
  have e1 : sgK z (ix4 h g t s) = Ideal.div (Ideal.ofBits .f32 0x3F800000#32) (Ideal.ofBits .f32 0x3F800000#32 + Ideal.exp (-(z (ix4 h g t s)))) := rfl
  rw [e1, hz, one_is, ← EReal.coe_neg, Ideal.exp_coe, ← EReal.coe_add, div_coe_coe _ (by positivity)]

section
variable {q k o : M2} (hq : Is2 (argQ m c) q) (hk : Is2 (argK m c) k) (ho : Is2 (argO m c) o)

/-- The weights the kernel reads. -/
abbrev wOf : M4 := Ref.wM (Ref.zR (argQ m c) (argK m c))

include hq hk ho in
theorem reads_at (t : Fin cfg0.N) : Reads q k o (wOf m c) (Model.beta q k) (t.val / 16) (t.val % 16) (136 * (t.val / 16) + t.val % 16 * (t.val % 16 + 1) / 2)
    (inpOf (wV m c) (bV m c) (qAt m c t) (dAt m c t) (kAt m c t) (vAt m c t)) := by
  have ht := point_lt t
  have hz := Ref.z_is hq hk
  have hQ : Is2 (qAt m c t) (fun i j => q (256 * (t.val % 16) + i) (512 * (t.val / 16) + j)) := fun i j => (qAt_ap m c t i j).trans (hq _ _)
  have hO : Is2 (dAt m c t) (fun i j => o (256 * (t.val % 16) + i) (512 * (t.val / 16) + j)) := fun i j => (dAt_ap m c t i j).trans (ho _ _)
  have hK : Is2 (kAt m c t) (fun i j => k i (128 * (t.val / 16) + j)) := fun i j => (kAt_ap m c t i j).trans (hk _ _)
  have hV : Is2 (vAt m c t) (fun i j => k i (512 + 128 * (t.val / 16) + j)) := fun i j => (vAt_ap m c t i j).trans (hk _ _)
  refine ⟨(stackQ_is hQ).congr fun i j _ _ => ?_, (stackD_is hO).congr fun i j _ _ => ?_, hK.congr fun i j _ _ => ?_, hV.congr fun i j _ _ => ?_, fun j hj => ?_, fun j hj => ?_⟩
  · rw [Nat.mul_comm 512, Nat.add_assoc]
  · rw [Nat.mul_comm 512, Nat.add_assoc]
  · rw [Nat.mul_comm 128]
  · rw [Nat.mul_comm 128]
  · show IsT (tileOf (F := Ideal) (V m c main_v60) _) _
    rw [V_v60]
    exact tile_is (Ref.w_is hz) _ _ _ (by omega) (by omega) hj
  · show IsT (tileOf (F := Ideal) (V m c main_v103) _) _
    rw [V_v103]
    have hb : ∀ (h g : Fin 4) (a s : Fin 4096), sgK (Ref.zR (argQ m c) (argK m c)) (ix4 h g a s) = ((Model.beta q k h g a s : ℝ) : EReal) := sgK_is hz
    exact tile_is hb _ _ _ (by omega) (by omega) hj

/-- What the first `n` query blocks add to the gradient of key `s`. -/
def upto (x : M4) (q : M2) (h n s d : ℕ) : ℝ := ∑ a ∈ Finset.range n, if s < 256 * (a + 1) then part x q h a s d else 0

include hq hk ho in
/-- The state after every grid point. -/
theorem state_is (N : ℕ) (hN : N < cfg0.N) : After q k o (wOf m c) (Model.beta q k) (N / 16) (N % 16) (256 * (N % 16 + 1))
    (upto (Model.ds (Model.beta q k) (Model.e o k (wOf m c))) q (N / 16) (N % 16)) (upto (wOf m c) o (N / 16) (N % 16)) (stateAt m c ⟨N, hN⟩) := by
  induction N with
  | zero =>
    have R := reads_at m c hq hk ho ⟨0, hN⟩
    have S := sweep_is (dk0 := upto (Model.ds (Model.beta q k) (Model.e o k (wOf m c))) q 0 0) (dv0 := upto (wOf m c) o 0 0) R (Nat.mod_lt _ (by decide))
      (zeros9.congr fun i j _ _ => by simp [upto]) (zeros10.congr fun i j _ _ => by simp [upto])
    unfold stateAt leave pointOut begun base
    rw [qb_coords, hd_coords, if_pos (show (⟨0, hN⟩ : Fin cfg0.N).val % 16 = 0 from rfl), if_pos (show (⟨0, hN⟩ : Fin cfg0.N).val % 16 = 0 from rfl)]
    exact S
  | succ N ih =>
    have R := reads_at m c hq hk ho ⟨N + 1, hN⟩
    have hn : (N + 1) % 16 < 16 := Nat.mod_lt _ (by decide)
    by_cases h0 : (N + 1) % 16 = 0
    · have S := sweep_is (dk0 := upto (Model.ds (Model.beta q k) (Model.e o k (wOf m c))) q ((N + 1) / 16) ((N + 1) % 16)) (dv0 := upto (wOf m c) o ((N + 1) / 16) ((N + 1) % 16)) R hn
        (zeros9.congr fun i j _ _ => by simp [upto, h0]) (zeros10.congr fun i j _ _ => by simp [upto, h0])
      unfold stateAt leave pointOut begun base
      rw [qb_coords, hd_coords, if_pos h0, if_pos h0]
      exact S
    · have hp := ih (by omega)
      have S := sweep_is (dk0 := upto (Model.ds (Model.beta q k) (Model.e o k (wOf m c))) q ((N + 1) / 16) ((N + 1) % 16)) (dv0 := upto (wOf m c) o ((N + 1) / 16) ((N + 1) % 16)) R hn
        (hp.dk.congr fun i j _ _ => by
          rw [show (N + 1) % 16 = N % 16 + 1 by omega, show (N + 1) / 16 = N / 16 by omega]; unfold upto; rw [Finset.sum_range_succ])
        (hp.dv.congr fun i j _ _ => by
          rw [show (N + 1) % 16 = N % 16 + 1 by omega, show (N + 1) / 16 = N / 16 by omega]; unfold upto; rw [Finset.sum_range_succ])
      unfold stateAt leave pointOut begun base
      rw [qb_coords, hd_coords, if_neg h0, if_neg h0, accAt_succ m c N (by omega)]
      exact S

end

/-! ### The sums whole -/

/-- The query blocks' sums make up the model's. -/
theorem upto_all {x : M4} {q : M2} (h0 : ∀ h g t s, ¬ s < t → x h g t s = 0) (h s d : ℕ) : upto x q h 16 s d = Model.dk x q h s d := by
  unfold upto Model.dk
  rw [show 4096 = 16 * 256 from rfl, Finset.sum_range_mul_split]
  refine Finset.sum_congr rfl fun a _ => ?_
  have e : part x q h a s d = ∑ b ∈ Finset.range 256, ∑ g ∈ Finset.range 4, x h g (a * 256 + b) s * q (a * 256 + b) (h * 512 + g * 128 + d) := by
    unfold part
    rw [show 1024 = 4 * 256 from rfl, Finset.sum_range_mul_divmod 4 256 (fun g r => x h g (256 * a + r) s * q (256 * a + r) (h * 512 + g * 128 + d)), Finset.sum_comm, Nat.mul_comm 256 a]
  by_cases hs : s < 256 * (a + 1)
  · rw [if_pos hs, e]
  · rw [if_neg hs]
    refine (Finset.sum_eq_zero fun b hb => Finset.sum_eq_zero fun g _ => ?_).symm
    have := Finset.mem_range.1 hb
    rw [h0 _ _ _ _ (by omega), zero_mul]

theorem dq_all {x : M4} {k : M2} (h0 : ∀ h g t s, ¬ s < t → x h g t s = 0) (h g t d N : ℕ) (hN : N ≤ 4096) (ht : t < N) :
    ∑ s ∈ Finset.range N, x h g t s * k s (h * 128 + d) = Model.dq x k h g t d := by
  unfold Model.dq
  obtain ⟨r, hr⟩ := Nat.exists_eq_add_of_le hN
  rw [hr, Finset.sum_range_add _ N r, Finset.sum_eq_zero (s := Finset.range r) fun s _ => by rw [h0 _ _ _ _ (by omega), zero_mul], add_zero]

end Cert.Proof.AttnBwd
-- ==== Proof.Results.lean ====
/-
  The kernel's three results on arrays of reals: the reference's gradients of the queries, of the keys and of the values.
-/
module

public import proofs.«01_k».proof.Proof.KernelValue

@[expose] public section

set_option maxRecDepth 16384

noncomputable section

namespace Cert.Proof.AttnBwd

open Cert.KernelIdeal Cert.KernelIdeal.Gen
open Idealize.ShloMosaic
open Idealize.ShloMosaic.TcCoe
open Idealize.ShloMosaic.Pipeline (Dat Cfg Window)
open Model (M2 M4)

variable (m : (ℓ : Loc nD τ sig) → Buf (Elt Ideal) ℓ) (c : Dev nD)

/-- The scores' gradient, as the reference computes it from the kernel's arguments. -/
abbrev dOf : Ref.Sc := Ref.dR (argQ m c) (argK m c) (argO m c)

variable {q k o : M2} (hq : Is2 (argQ m c) q) (hk : Is2 (argK m c) k) (ho : Is2 (argO m c) o)

/-- The weights of the keys from the query on are zero. -/
theorem w_zero (h g t s : ℕ) (hst : ¬ s < t) : wOf m c h g t s = 0 := if_neg hst

theorem ds_zero (b e : M4) (h g t s : ℕ) (hst : ¬ s < t) : Model.ds b e h g t s = 0 := if_neg hst

include hq hk ho in
theorem d_is : Ref.Is4 (dOf m c) (Model.ds (Model.beta q k) (Model.e o k (wOf m c))) := by
  have hz := Ref.z_is hq hk
  exact Ref.ds_is hz (Ref.e_is hz (Ref.gw_is ho hk)) fun h g t s hst =>
    show Model.gw o k h g t s * wOf m c h g t s = 0 by rw [w_zero m c h g t s hst, mul_zero]

include hq hk ho in
theorem result_dq : (dats m 0 c).arrAt 5 cfg0.N = Ref.dqR (dOf m c) (argK m c) := by
  refine (dats m 0 c).arrAt_eq_of_covers 5 _ (by decide +kernel) fun t hf y => ?_
  have e := index_at t
  have ht := point_lt t
  obtain ⟨a, b, rfl⟩ : ∃ (a : Fin 256) (b : Fin 512), y = ix2 a b := ⟨y 0, y 1, eq_ix2 y⟩
  have ha := a.isLt
  have hb := b.isLt
  blk_simp
  rw [after_5]
  have S := (state_is m c hq hk ho t.val t.isLt).dq
  refine (pay2_is S a b).trans (Eq.trans ?_ ((Ref.dq_is (d_is m c hq hk ho) hk ⟨256 * (t.val % 16) + a.val, by omega⟩
    ⟨512 * (t.val / 16) + b.val, by omega⟩).symm.trans ?_))
  · congr 1
    dsimp only
    rw [dq_all (ds_zero _ _) _ _ _ _ _ (by omega) (by omega), show (512 * (t.val / 16) + b.val) / 512 = t.val / 16 by omega,
      show (512 * (t.val / 16) + b.val) / 128 % 4 = (b.val / 128 * 256 + a.val) / 256 by omega,
      show 256 * (t.val % 16) + (b.val / 128 * 256 + a.val) % 256 = 256 * (t.val % 16) + a.val by omega,
      show (512 * (t.val / 16) + b.val) % 128 = b.val % 128 by omega]
  · blk_ext [e]

include hq hk ho in
theorem result_dk : (dats m 0 c).arrAt 6 cfg0.N = Ref.dkR (dOf m c) (argQ m c) := by
  refine (dats m 0 c).arrAt_eq_of_covers 6 _ (by decide +kernel) fun t hf y => ?_
  have e := index_at t
  have ht := point_lt t
  have h15 : t.val % 16 = 15 := by rw [flush0_6] at hf; simpa using hf
  obtain ⟨a, b, rfl⟩ : ∃ (a : Fin 4096) (b : Fin 128), y = ix2 a b := ⟨y 0, y 1, eq_ix2 y⟩
  have ha := a.isLt
  have hb := b.isLt
  blk_simp
  rw [after_6]
  have S := (state_is m c hq hk ho t.val t.isLt).dk
  refine (S a b).trans (Eq.trans ?_ ((Ref.dk_is (d_is m c hq hk ho) hq a ⟨128 * (t.val / 16) + b.val, by omega⟩).symm.trans ?_))
  · congr 1
    dsimp only
    rw [h15, show (128 * (t.val / 16) + b.val) / 128 = t.val / 16 by omega, show (128 * (t.val / 16) + b.val) % 128 = b.val by omega,
      ← upto_all (ds_zero _ _)]
    unfold upto
    exact (Finset.sum_range_succ _ 15).symm
  · blk_ext [e]

include hq hk ho in
theorem result_dv : (dats m 0 c).arrAt 7 cfg0.N = Ref.dvR (Ref.wR (Ref.zR (argQ m c) (argK m c))) (argO m c) := by
  refine (dats m 0 c).arrAt_eq_of_covers 7 _ (by decide +kernel) fun t hf y => ?_
  have e := index_at t
  have ht := point_lt t
  have h15 : t.val % 16 = 15 := by rw [flush0_7] at hf; simpa using hf
  obtain ⟨a, b, rfl⟩ : ∃ (a : Fin 4096) (b : Fin 128), y = ix2 a b := ⟨y 0, y 1, eq_ix2 y⟩
  have ha := a.isLt
  have hb := b.isLt
  blk_simp
  rw [after_7]
  have S := (state_is m c hq hk ho t.val t.isLt).dv
  refine (S a b).trans (Eq.trans ?_ ((Ref.dv_is (Ref.w_is (Ref.z_is hq hk)) ho a ⟨128 * (t.val / 16) + b.val, by omega⟩).symm.trans ?_))
  · congr 1
    dsimp only
    rw [h15, show (128 * (t.val / 16) + b.val) / 128 = t.val / 16 by omega, show (128 * (t.val / 16) + b.val) % 128 = b.val by omega,
      ← upto_all (w_zero m c)]
    unfold upto
    exact (Finset.sum_range_succ _ 15).symm
  · blk_ext [e]

end Cert.Proof.AttnBwd
-- ==== Proof.Finite.lean ====
/-
  The precondition read back: arguments of which it holds are arrays of reals.
-/
module

public import proofs.«01_k».proof.Defs
public import proofs.«01_k».proof.Proof.Model
public import Idealize.ShloMosaic.Lib.ReduceAll
public import Idealize.ShloMosaic.Lib.Pointwise

@[expose] public section

noncomputable section

namespace Cert.Proof.AttnBwd

open Idealize.ShloMosaic

/-- The shape relations the precondition states. -/
instance finite_facts : Cert.Pre_finite.Facts where
  bcast_S_S4096x2048 := by decide
  reducesTo_S4096x2048_S_d0_1 := by decide
  h_S_ := by decide
  bcast_S_S4096x1024 := by decide
  reducesTo_S4096x1024_S_d0_1 := by decide

theorem inf_is : Ideal.ofBits .bf16 0x7F80#16 = ⊤ := by
  simp [Ideal.ofBits, Ideal.ieee]

/-- An extended real with a magnitude below infinity is a real. -/
theorem real_of_below {x : EReal} (h : Ideal.cmp .olt (max x (-x)) (Ideal.ofBits .bf16 0x7F80#16) = 1#1) : (x.toReal : EReal) = x := by
  rw [inf_is, Ideal.cmp_olt] at h
  have hlt : max x (-x) < ⊤ := by
    by_contra hn
    rw [decide_eq_false hn] at h
    exact absurd h (by decide)
  have h1 : x ≠ ⊤ := fun e => by rw [e] at hlt; simp at hlt
  have h2 : x ≠ ⊥ := fun e => by rw [e] at hlt; simp at hlt
  exact EReal.coe_toReal h1 h2

/-- The reals of an array. -/
def toM2 {a b : ℕ} (X : (⟨2, ![a, b]⟩ : Shape).Idx → EReal) : Model.M2 := fun i j =>
  if h : i < a ∧ j < b then (X (ix2 ⟨i, h.1⟩ ⟨j, h.2⟩)).toReal else 0

theorem toM2_is {a b : ℕ} {X : (⟨2, ![a, b]⟩ : Shape).Idx → EReal} (h : ∀ i, ((X i).toReal : EReal) = X i) : Is2 X (toM2 X) := by
  intro i j
  unfold toM2
  rw [dif_pos ⟨i.isLt, j.isLt⟩]
  exact (h _).symm

theorem finite_reals (q : FVec Ideal Pre_finite.S4096x2048 .bf16) (k : FVec Ideal Pre_finite.S4096x1024 .bf16) (o : FVec Ideal Pre_finite.S4096x2048 .bf16)
    (h : Pre_finite.fn q k o = fun _ => 1#1) : Is2 q (toM2 q) ∧ Is2 k (toM2 k) ∧ Is2 o (toM2 o) := by
  have h1 := congrFun h (fun a => a.elim0)
  obtain ⟨h2, ho⟩ := IntOp.andi_eq_one.1 h1
  obtain ⟨hq, hk⟩ := IntOp.andi_eq_one.1 h2
  haveI : Subsingleton Pre_finite.S_.Idx := ⟨fun a b => funext fun x => x.elim0⟩
  refine ⟨toM2_is fun i => ?_, toM2_is fun i => ?_, toM2_is fun i => ?_⟩
  · exact real_of_below (Host.reduce_andi_all _ _ _ _ _ hq i)
  · exact real_of_below (Host.reduce_andi_all _ _ _ _ _ hk i)
  · exact real_of_below (Host.reduce_andi_all _ _ _ _ _ ho i)

end Cert.Proof.AttnBwd
-- ==== Proof.Values.lean ====
/-
  The kernel and the reference leave the same gradients: both run to the end from memories with the same arguments, and the
  three results agree as extended reals, element by element.
-/
module

public import proofs.«01_k».proof.Proof.Results
public import proofs.«01_k».proof.Proof.Finite
public import proofs.«01_k».proof.Proof.Gen.ReferenceIdeal.Run
public import Idealize.ShloMosaic.Adequacy

@[expose] public section

set_option maxRecDepth 16384

noncomputable section

namespace Cert.Proof.AttnBwd

open Idealize.ShloMosaic Idealize.SL.Sem

section
open Cert.KernelIdeal Cert.KernelIdeal.Gen
open Idealize.ShloMosaic.TcCoe

/-- The run of the kernel on arguments of which the precondition holds. -/
theorem run_values (m : (ℓ : Loc nD τ sig) → Buf (Elt Ideal) ℓ) (ρ : Dev nD → PrngReg) (h : Cert.Pre_KernelIdeal_finite m) :
    θ_run (defs (F := Ideal)) (onTc (τ := τ) (main (F := Ideal))) ⟨m, fun _ => 0, ρ⟩ (fun r => ∀ c : Dev nD,
      r.2.mem ((c.tc : Thread nD τ).loc main_v105_0) = Ref.dqR (dOf m c) (argK m c)
      ∧ r.2.mem ((c.tc : Thread nD τ).loc main_v105_1) = Ref.dkR (dOf m c) (argQ m c)
      ∧ r.2.mem ((c.tc : Thread nD τ).loc main_v105_2) = Ref.dvR (Ref.wR (Ref.zR (argQ m c) (argK m c))) (argO m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r hr c => ?_) (run_main m ρ)
  obtain ⟨hq, hk, ho⟩ := finite_reals _ _ _ (h c)
  exact ⟨((hr.1 c).1 5).trans (result_dq m c hq hk ho), ((hr.1 c).1 6).trans (result_dk m c hq hk ho), ((hr.1 c).1 7).trans (result_dv m c hq hk ho),
    ((hr.1 c).1 0).trans (((dats m 0 c).arrAt_in 0 rfl _).trans ((dats_A m c 0).trans (V_main_arg0 m c))),
    ((hr.1 c).1 2).trans (((dats m 0 c).arrAt_in 2 rfl _).trans ((dats_A m c 2).trans (V_main_arg1 m c))),
    ((hr.1 c).1 3).trans (((dats m 0 c).arrAt_in 3 rfl _).trans ((dats_A m c 3).trans (V_main_arg2 m c)))⟩

end

theorem same_values : Cert.algebraic_KernelIdeal_ReferenceIdeal_pre_finite := fun m ρ m' ρ' hpre hsame =>
  ⟨fun c => Ref.dqR (dOf m c) (argK m c), fun c => Ref.dkR (dOf m c) (argQ m c), fun c => Ref.dvR (Ref.wR (Ref.zR (argQ m c) (argK m c))) (argO m c),
    run_values m ρ hpre,
    (θ_run Cert.ReferenceIdeal.defs _ _).mono
      (fun r h c => by
        obtain ⟨h0, h1, h2, ha⟩ := h c
        obtain ⟨e0, e1, e2⟩ := hsame c
        rw [Ref.out_dq, e0, e1, e2] at h0
        rw [Ref.out_dk, e0, e1, e2] at h1
        rw [Ref.out_dv, e0, e1, e2] at h2
        exact ⟨h0, h1, h2, ha⟩)
      (Cert.ReferenceIdeal.Value.run (F := Ideal) m' ρ')⟩

end Cert.Proof.AttnBwd
-- ==== Proof.DownDwValue.lean ====
/-
  The gradient of the mlp's down weight, `uᵀ · dy`: the kernel adds up two halves of the rows; what it
  leaves in its result is the whole sum, which is what the reference computes.
-/
module

public import proofs.«01_k».proof.Defs
public import proofs.«01_k».proof.Proof.Gen.DownDw.Frame
public import proofs.«01_k».proof.Proof.Gen.DownDwIdeal.Value
public import proofs.«01_k».proof.Proof.Gen.DownDwRefIdeal.Read
public import Idealize.ShloMosaic.Lib.Pipeline.ValueKit
public import Idealize.ShloMosaic.Lib.Pipeline.ReadBack
public import Idealize.ShloMosaic.Lib.Pointwise
public import Idealize.ShloMosaic.Adequacy

@[expose] public section

set_option maxRecDepth 16384

noncomputable section

namespace Cert.Proof.DownDw

open Cert.DownDwIdeal Cert.DownDwIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- The arguments. -/
abbrev argU : FVec Ideal S4096x8192 .bf16 := m ((c : Thread nD τ).loc main_arg0)
abbrev argD : FVec Ideal S4096x2048 .bf16 := m ((c : Thread nD τ).loc main_arg1)

theorem point_lt (t : Fin cfg0.N) : t.val < 32 := t.isLt

theorem index_at : ∀ t : Fin grid0.N, win0_0.index t = ![t.val % 2, t.val / 2] ∧ win0_1.index t = ![t.val % 2, 0]
    ∧ win0_2.index t = ![t.val / 2, 0] := by decide +kernel

/-- The product of a point's two blocks. -/
def part (t : Fin cfg0.N) (i : S512x2048.Idx) : EReal := k0_pay1 (F := Ideal) (iblk m c 0 t) (iblk m c 1 t) i

theorem first (t : Fin cfg0.N) (h : t.val % 2 = 0) (i : S512x2048.Idx) : (outsAt0 m c t.val t.isLt).2 i = 0 + part m c t i := by
  rw [outsAt0_A m c t h (by omega) (by omega)]
  frame_out
  pointwise [k0_pay2]
  rfl

theorem next (t : Fin cfg0.N) (h : ¬t.val % 2 = 0) (i : S512x2048.Idx) : (outsAt0 m c t.val t.isLt).2 i
    = (outsAt0 m c (t.val - 1) (Nat.lt_of_le_of_lt (Nat.sub_le _ _) t.isLt)).2 i + part m c t i := by
  rw [outsAt0_B m c t h (by omega) (by omega)]
  frame_out
  pointwise [k0_pay3]
  rw [read_unread_whole]
  rfl

/-- The last point of a run writes out what the running sum then is. -/
theorem out_eq (t : Fin cfg0.N) (h : t.val % 2 = 1) (i : S512x2048.Idx) : (outsAt0 m c t.val t.isLt).1 i = (outsAt0 m c t.val t.isLt).2 i := by
  rw [outsAt0_B m c t (by omega) h h]
  frame_out
  rfl

theorem part_ap (t : Fin cfg0.N) (a : Fin 512) (b : Fin 2048) : part m c t (ix2 a b)
    = ∑ k : Fin 2048, argU m c (ix2 ⟨2048 * (t.val % 2) + k.val, by omega⟩ ⟨512 * (t.val / 2) + a.val, by have := point_lt t; omega⟩)
        * argD m c (ix2 ⟨2048 * (t.val % 2) + k.val, by omega⟩ b) := by
  have e := index_at t
  unfold part
  pointwise [k0_pay1]
  refine Finset.sum_congr rfl fun k _ => ?_
  congr 1
  · show V m c main_arg0 _ = _
    rw [V_main_arg0]
    blk_ext [e]
  · show V m c main_arg1 _ = _
    rw [V_main_arg1]
    blk_ext [e]

/-- What the reference's product is at an index. -/
theorem ref_ap (u : FVec Ideal S4096x8192 .bf16) (d : FVec Ideal S4096x2048 .bf16) (i : Fin 8192) (j : Fin 2048) :
    Cert.DownDwRefIdeal.Read.val_main_v6 (F := Ideal) u d (ix2 i j) = ∑ k : Fin 4096, u (ix2 k i) * d (ix2 k j) := by
  pointwise [Cert.DownDwRefIdeal.Read.val_main_v6, Cert.DownDwRefIdeal.Read.val_main_v5, Cert.DownDwRefIdeal.Read.val_main_v4,
    Cert.DownDwRefIdeal.Read.val_main_v1, Cert.DownDwRefIdeal.Read.val_main_v0]
  exact Finset.sum_congr rfl fun k _ => mul_comm _ _

theorem result : (dats m 0 c).arrAt 2 cfg0.N = Cert.DownDwRefIdeal.Read.val_main_v6 (F := Ideal) (argU m c) (argD m c) := by
  refine (dats m 0 c).arrAt_eq_of_covers 2 _ (by decide +kernel) fun t hf y => ?_
  have e := index_at t
  have ht := point_lt t
  have hr : t.val % 2 = 1 := (flush0_2 t).mp hf
  obtain ⟨a, b, rfl⟩ : ∃ (a : Fin 512) (b : Fin 2048), y = ix2 a b := ⟨y 0, y 1, eq_ix2 y⟩
  have ha := a.isLt
  blk_simp
  rw [after0_2]
  have hs := Pipeline.eq_sum_fin_of_reset_step_apply_of_flush (fun n h => (outsAt0 m c n h).2) 2 (fun _ => (0 : EReal)) (part m c)
    (first m c) (next m c) t hr (ix2 a b)
  refine ((out_eq m c t hr _).trans hs).trans (Eq.trans ?_ ((ref_ap (argU m c) (argD m c) ⟨512 * (t.val / 2) + a.val, by omega⟩ b).symm.trans ?_))
  · rw [zero_add]
    simp only [part_ap]
    refine Fin.sum_mul_add_congr fun s k hl => ?_
    have h1 := s.isLt
    have e1 : (2 * (t.val / 2) + s.val) % 2 = s.val := by omega
    have e2 : (2 * (t.val / 2) + s.val) / 2 = t.val / 2 := by omega
    simp only [e1, e2, Nat.mul_comm 2048 s.val]
  · blk_ext [e]

theorem same_values : Cert.algebraic_DownDwIdeal_DownDwRefIdeal := fun m ρ m' ρ' _ hsame =>
  ⟨fun c => Cert.DownDwRefIdeal.Read.val_main_v6 (F := Ideal) (argU m c) (argD m c),
    (θ_run defs _ _).mono (fun r h c => ⟨(h c).1.trans (result m c), (h c).2⟩) (Cert.DownDwIdeal.Value.run_blocks (F := Ideal) m ρ),
    (θ_run Cert.DownDwRefIdeal.defs _ _).mono
      (fun r h c => by
        obtain ⟨h0, ha⟩ := h c
        obtain ⟨e0, e1⟩ := hsame c
        rw [Cert.DownDwRefIdeal.Read.val_main_v6_eq, e0, e1] at h0
        exact ⟨h0, ha⟩)
      (Cert.DownDwRefIdeal.Value.run (F := Ideal) m' ρ')⟩

theorem frame_reference : Cert.quiescent_DownDwRefIdeal := fun m ρ _ =>
  (θ_run Cert.DownDwRefIdeal.defs _ _).mono (fun r h => ⟨fun c => (h c).2, sem_eq_zero_of_no_sems (by decide) r.2⟩)
    (Cert.DownDwRefIdeal.Value.run (F := Ideal) m ρ)

end Cert.Proof.DownDw
-- ==== Proof.DownDzValue.lean ====
/-
  The gradient before the squared relu, `(dy · wᵀ) · 2 relu(z)`: the kernel multiplies its product by twice the
  relu of `z`, which the host computes; the reference adds the product's two derivatives where `z` is above
  zero, and zero elsewhere.
-/
module

public import proofs.«01_k».proof.Defs
public import proofs.«01_k».proof.Proof.Gen.DownDz.Frame
public import proofs.«01_k».proof.Proof.Gen.DownDzIdeal.Value
public import proofs.«01_k».proof.Proof.Gen.DownDzRefIdeal.Read
public import Idealize.ShloMosaic.Lib.Pipeline.ValueKit
public import Idealize.ShloMosaic.Lib.Pointwise
public import Idealize.ShloMosaic.Adequacy

@[expose] public section

set_option maxRecDepth 16384

noncomputable section

namespace Cert.Proof.DownDz

open Cert.DownDzIdeal Cert.DownDzIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- The arguments. -/
abbrev argD : FVec Ideal S4096x2048 .bf16 := m ((c : Thread nD τ).loc main_arg0)
abbrev argW : FVec Ideal S8192x2048 .bf16 := m ((c : Thread nD τ).loc main_arg1)
abbrev argZ : FVec Ideal S4096x8192 .bf16 := m ((c : Thread nD τ).loc main_arg2)

theorem point_lt (t : Fin cfg0.N) : t.val < 32 := t.isLt

theorem index_at : ∀ t : Fin grid0.N, win0_0.index t = ![t.val % 8, 0] ∧ win0_1.index t = ![t.val / 8, 0]
    ∧ win0_2.index t = ![t.val % 8, t.val / 8] ∧ win0_3.index t = ![t.val % 8, t.val / 8] := by decide +kernel

/-- The relu, as the host computes it. -/
theorem V_relu : V m c main_v0 = (maximumf (argZ m c) (broadcastInDim S4096x8192 ![] bcast_S_S4096x8192 (constant S_ .bf16 0x0000#16)) : FVec Ideal S4096x8192 .bf16) := by
  show StableHlo.after hostOps0 (fun b => m (c, b)) _ = _
  simp only [hostOps0, StableHlo.TRef.binary, StableHlo.TRef.nullary, StableHlo.TRef.unary, StableHlo.TRef.toBuf, StableHlo.TRef.ofBuf, cast_eq, List.flatten_cons, List.flatten_nil, List.append_nil, List.cons_append, List.nil_append]
  after_results

theorem relu_ap (i : Fin 4096) (j : Fin 8192) : V m c main_v0 (ix2 i j) = max (argZ m c (ix2 i j)) 0 := by
  rw [V_relu]
  pointwise

theorem two_is : Ideal.ofBits .bf16 0x4000#16 = 2 := by
  simp [Ideal.ofBits, Ideal.ieee]
  rw [← EReal.coe_mul]
  norm_num
  rfl

/-- Twice an extended real. -/
theorem two_mul_eq (x : EReal) : 2 * x = x + x := by
  rw [show (2 : EReal) = 1 + 1 by norm_num, EReal.right_distrib_of_nonneg zero_le_one zero_le_one, one_mul]

/-- The product times twice the relu is the sum of the two derivatives above zero, and zero elsewhere. -/
theorem relu_mul (g z : EReal) : g * (2 * max z 0) = if 0 < z then max z 0 * g + g * max z 0 else 0 := by
  split_ifs with h
  · rw [mul_left_comm, two_mul_eq, mul_comm (max z 0) g]
  · rw [max_eq_right (not_lt.mp h), mul_zero, mul_zero]

/-- What the reference computes, at an index. -/
theorem ref_ap (d : FVec Ideal S4096x2048 .bf16) (w : FVec Ideal S8192x2048 .bf16) (z : FVec Ideal S4096x8192 .bf16) (i : Fin 4096) (j : Fin 8192) :
    Cert.DownDzRefIdeal.Read.val_main_v15 (F := Ideal) d w z (ix2 i j)
      = (∑ k : Fin 2048, d (ix2 i k) * w (ix2 j k)) * (2 * max (z (ix2 i j)) 0) := by
  rw [relu_mul]
  pointwise [Cert.DownDzRefIdeal.Read.val_main_v15, Cert.DownDzRefIdeal.Read.val_main_v14, Cert.DownDzRefIdeal.Read.val_main_v13,
    Cert.DownDzRefIdeal.Read.val_main_v12, Cert.DownDzRefIdeal.Read.val_main_v11, Cert.DownDzRefIdeal.Read.val_main_v10,
    Cert.DownDzRefIdeal.Read.val_main_v9, Cert.DownDzRefIdeal.Read.val_main_v5, Cert.DownDzRefIdeal.Read.val_main_v4,
    Cert.DownDzRefIdeal.Read.val_main_v3, Cert.DownDzRefIdeal.Read.val_main_v2, Cert.DownDzRefIdeal.Read.val_main_v1,
    Cert.DownDzRefIdeal.Read.val_main_v0, Cert.DownDzRefIdeal.Read.val_main_call0_v0, Cert.DownDzRefIdeal.Read.val_main_call0_cst,
    Cert.DownDzRefIdeal.Read.val_main_cst, Cert.DownDzRefIdeal.Read.val_main_cst_1]

/-- What a point leaves in its block. -/
theorem out_ap (t : Fin cfg0.N) (a : Fin 512) (b : Fin 2048) : out0_3 (iblk m c 0 t) (iblk m c 1 t) (iblk m c 2 t) (ix2 a b)
    = (∑ k : Fin 2048, argD m c (ix2 ⟨512 * (t.val % 8) + a.val, by omega⟩ k) * argW m c (ix2 ⟨2048 * (t.val / 8) + b.val, by have := point_lt t; omega⟩ k))
        * (2 * max (argZ m c (ix2 ⟨512 * (t.val % 8) + a.val, by omega⟩ ⟨2048 * (t.val / 8) + b.val, by have := point_lt t; omega⟩)) 0) := by
  have e := index_at t
  frame_out
  pointwise [k0_pay1]
  rw [two_is, ← relu_ap m c]
  congr 1
  · refine Finset.sum_congr rfl fun k _ => ?_
    congr 1
    · show V m c main_arg0 _ = _
      rw [V_main_arg0]
      blk_ext [e]
    · show V m c main_arg1 _ = _
      rw [V_main_arg1]
      blk_ext [e]
  · congr 1
    show V m c main_v0 _ = _
    blk_ext [e]

theorem result : (dats m 0 c).arrAt 3 cfg0.N = Cert.DownDzRefIdeal.Read.val_main_v15 (F := Ideal) (argD m c) (argW m c) (argZ m c) := by
  refine (dats m 0 c).arrAt_eq_of_covers 3 _ (by decide +kernel) fun t hf y => ?_
  have e := index_at t
  have ht := point_lt t
  obtain ⟨a, b, rfl⟩ : ∃ (a : Fin 512) (b : Fin 2048), y = ix2 a b := ⟨y 0, y 1, eq_ix2 y⟩
  have ha := a.isLt
  have hb := b.isLt
  blk_simp
  rw [after0_3]
  refine (out_ap m c t a b).trans ((ref_ap (argD m c) (argW m c) (argZ m c) ⟨512 * (t.val % 8) + a.val, by omega⟩ ⟨2048 * (t.val / 8) + b.val, by omega⟩).symm.trans ?_)
  blk_ext [e]

theorem same_values : Cert.algebraic_DownDzIdeal_DownDzRefIdeal := fun m ρ m' ρ' _ hsame =>
  ⟨fun c => Cert.DownDzRefIdeal.Read.val_main_v15 (F := Ideal) (argD m c) (argW m c) (argZ m c),
    (θ_run defs _ _).mono (fun r h c => ⟨(h c).1.trans (result m c), (h c).2⟩) (Cert.DownDzIdeal.Value.run_blocks (F := Ideal) m ρ),
    (θ_run Cert.DownDzRefIdeal.defs _ _).mono
      (fun r h c => by
        obtain ⟨h0, ha⟩ := h c
        obtain ⟨e0, e1, e2⟩ := hsame c
        rw [Cert.DownDzRefIdeal.Read.val_main_v15_eq, e0, e1, e2] at h0
        exact ⟨h0, ha⟩)
      (Cert.DownDzRefIdeal.Value.run (F := Ideal) m' ρ')⟩

theorem frame_reference : Cert.quiescent_DownDzRefIdeal := fun m ρ _ =>
  (θ_run Cert.DownDzRefIdeal.defs _ _).mono (fun r h => ⟨fun c => (h c).2, sem_eq_zero_of_no_sems (by decide) r.2⟩)
    (Cert.DownDzRefIdeal.Value.run (F := Ideal) m ρ)

end Cert.Proof.DownDz
-- ==== Proof.UpDwValue.lean ====
/-
  The gradient of the mlp's up weight, `hᵀ · dz`: the kernel adds up two halves of the rows; what it
  leaves in its result is the whole sum, which is what the reference computes.
-/
module

public import proofs.«01_k».proof.Defs
public import proofs.«01_k».proof.Proof.Gen.UpDw.Frame
public import proofs.«01_k».proof.Proof.Gen.UpDwIdeal.Value
public import proofs.«01_k».proof.Proof.Gen.UpDwRefIdeal.Read
public import Idealize.ShloMosaic.Lib.Pipeline.ValueKit
public import Idealize.ShloMosaic.Lib.Pipeline.ReadBack
public import Idealize.ShloMosaic.Lib.Pointwise
public import Idealize.ShloMosaic.Adequacy

@[expose] public section

set_option maxRecDepth 16384

noncomputable section

namespace Cert.Proof.UpDw

open Cert.UpDwIdeal Cert.UpDwIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- The arguments. -/
abbrev argH : FVec Ideal S4096x2048 .bf16 := m ((c : Thread nD τ).loc main_arg0)
abbrev argZ : FVec Ideal S4096x8192 .bf16 := m ((c : Thread nD τ).loc main_arg1)

theorem point_lt (t : Fin cfg0.N) : t.val < 32 := t.isLt

theorem index_at : ∀ t : Fin grid0.N, win0_0.index t = ![t.val % 2, t.val / 2 % 4] ∧ win0_1.index t = ![t.val % 2, t.val / 8]
    ∧ win0_2.index t = ![t.val / 2 % 4, t.val / 8] := by decide +kernel

/-- The product of a point's two blocks. -/
def part (t : Fin cfg0.N) (i : S512x2048.Idx) : EReal := k0_pay1 (F := Ideal) (iblk m c 0 t) (iblk m c 1 t) i

theorem first (t : Fin cfg0.N) (h : t.val % 2 = 0) (i : S512x2048.Idx) : (outsAt0 m c t.val t.isLt).2 i = 0 + part m c t i := by
  rw [outsAt0_A m c t h (by omega) (by omega)]
  frame_out
  pointwise [k0_pay2]
  rfl

theorem next (t : Fin cfg0.N) (h : ¬t.val % 2 = 0) (i : S512x2048.Idx) : (outsAt0 m c t.val t.isLt).2 i
    = (outsAt0 m c (t.val - 1) (Nat.lt_of_le_of_lt (Nat.sub_le _ _) t.isLt)).2 i + part m c t i := by
  rw [outsAt0_B m c t h (by omega) (by omega)]
  frame_out
  pointwise [k0_pay3]
  rw [read_unread_whole]
  rfl

/-- The last point of a run writes out what the running sum then is. -/
theorem out_eq (t : Fin cfg0.N) (h : t.val % 2 = 1) (i : S512x2048.Idx) : (outsAt0 m c t.val t.isLt).1 i = (outsAt0 m c t.val t.isLt).2 i := by
  rw [outsAt0_B m c t (by omega) h h]
  frame_out
  rfl

theorem part_ap (t : Fin cfg0.N) (a : Fin 512) (b : Fin 2048) : part m c t (ix2 a b)
    = ∑ k : Fin 2048, argH m c (ix2 ⟨2048 * (t.val % 2) + k.val, by omega⟩ ⟨512 * (t.val / 2 % 4) + a.val, by have := point_lt t; omega⟩)
        * argZ m c (ix2 ⟨2048 * (t.val % 2) + k.val, by omega⟩ ⟨2048 * (t.val / 8) + b.val, by have := point_lt t; omega⟩) := by
  have e := index_at t
  unfold part
  pointwise [k0_pay1]
  refine Finset.sum_congr rfl fun k _ => ?_
  congr 1
  · show V m c main_arg0 _ = _
    rw [V_main_arg0]
    blk_ext [e]
  · show V m c main_arg1 _ = _
    rw [V_main_arg1]
    blk_ext [e]

/-- What the reference's product is at an index. -/
theorem ref_ap (h : FVec Ideal S4096x2048 .bf16) (z : FVec Ideal S4096x8192 .bf16) (i : Fin 2048) (j : Fin 8192) :
    Cert.UpDwRefIdeal.Read.val_main_v6 (F := Ideal) h z (ix2 i j) = ∑ k : Fin 4096, h (ix2 k i) * z (ix2 k j) := by
  pointwise [Cert.UpDwRefIdeal.Read.val_main_v6, Cert.UpDwRefIdeal.Read.val_main_v5, Cert.UpDwRefIdeal.Read.val_main_v4,
    Cert.UpDwRefIdeal.Read.val_main_v1, Cert.UpDwRefIdeal.Read.val_main_v0]
  exact Finset.sum_congr rfl fun k _ => mul_comm _ _

theorem result : (dats m 0 c).arrAt 2 cfg0.N = Cert.UpDwRefIdeal.Read.val_main_v6 (F := Ideal) (argH m c) (argZ m c) := by
  refine (dats m 0 c).arrAt_eq_of_covers 2 _ (by decide +kernel) fun t hf y => ?_
  have e := index_at t
  have ht := point_lt t
  have hr : t.val % 2 = 1 := (flush0_2 t).mp hf
  obtain ⟨a, b, rfl⟩ : ∃ (a : Fin 512) (b : Fin 2048), y = ix2 a b := ⟨y 0, y 1, eq_ix2 y⟩
  have ha := a.isLt
  have hb := b.isLt
  blk_simp
  rw [after0_2]
  have hs := Pipeline.eq_sum_fin_of_reset_step_apply_of_flush (fun n h => (outsAt0 m c n h).2) 2 (fun _ => (0 : EReal)) (part m c)
    (first m c) (next m c) t hr (ix2 a b)
  refine ((out_eq m c t hr _).trans hs).trans (Eq.trans ?_ ((ref_ap (argH m c) (argZ m c) ⟨512 * (t.val / 2 % 4) + a.val, by omega⟩ ⟨2048 * (t.val / 8) + b.val, by omega⟩).symm.trans ?_))
  · rw [zero_add]
    simp only [part_ap]
    refine Fin.sum_mul_add_congr fun s k hl => ?_
    have h1 := s.isLt
    have e1 : (2 * (t.val / 2) + s.val) % 2 = s.val := by omega
    have e2 : (2 * (t.val / 2) + s.val) / 2 % 4 = t.val / 2 % 4 := by omega
    have e3 : (2 * (t.val / 2) + s.val) / 8 = t.val / 8 := by omega
    simp only [e1, e2, e3, Nat.mul_comm 2048 s.val]
  · blk_ext [e]

theorem same_values : Cert.algebraic_UpDwIdeal_UpDwRefIdeal := fun m ρ m' ρ' _ hsame =>
  ⟨fun c => Cert.UpDwRefIdeal.Read.val_main_v6 (F := Ideal) (argH m c) (argZ m c),
    (θ_run defs _ _).mono (fun r h c => ⟨(h c).1.trans (result m c), (h c).2⟩) (Cert.UpDwIdeal.Value.run_blocks (F := Ideal) m ρ),
    (θ_run Cert.UpDwRefIdeal.defs _ _).mono
      (fun r h c => by
        obtain ⟨h0, ha⟩ := h c
        obtain ⟨e0, e1⟩ := hsame c
        rw [Cert.UpDwRefIdeal.Read.val_main_v6_eq, e0, e1] at h0
        exact ⟨h0, ha⟩)
      (Cert.UpDwRefIdeal.Value.run (F := Ideal) m' ρ')⟩

theorem frame_reference : Cert.quiescent_UpDwRefIdeal := fun m ρ _ =>
  (θ_run Cert.UpDwRefIdeal.defs _ _).mono (fun r h => ⟨fun c => (h c).2, sem_eq_zero_of_no_sems (by decide) r.2⟩)
    (Cert.UpDwRefIdeal.Value.run (F := Ideal) m ρ)

end Cert.Proof.UpDw
-- ==== Proof.UpDhValue.lean ====
/-
  The gradient of the mlp's input, `dz · wᵀ`: the kernel adds up four quarters of the summed axis; what it
  leaves in its result is the whole sum, which is what the reference computes.
-/
module

public import proofs.«01_k».proof.Defs
public import proofs.«01_k».proof.Proof.Gen.UpDh.Frame
public import proofs.«01_k».proof.Proof.Gen.UpDhIdeal.Value
public import proofs.«01_k».proof.Proof.Gen.UpDhRefIdeal.Read
public import Idealize.ShloMosaic.Lib.Pipeline.ValueKit
public import Idealize.ShloMosaic.Lib.Pipeline.ReadBack
public import Idealize.ShloMosaic.Lib.Pointwise
public import Idealize.ShloMosaic.Adequacy

@[expose] public section

set_option maxRecDepth 16384

noncomputable section

namespace Cert.Proof.UpDh

open Cert.UpDhIdeal Cert.UpDhIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- The arguments. -/
abbrev argZ : FVec Ideal S4096x8192 .bf16 := m ((c : Thread nD τ).loc main_arg0)
abbrev argW : FVec Ideal S2048x8192 .bf16 := m ((c : Thread nD τ).loc main_arg1)

theorem point_lt (t : Fin cfg0.N) : t.val < 32 := t.isLt

theorem index_at : ∀ t : Fin grid0.N, win0_0.index t = ![t.val / 4, t.val % 4] ∧ win0_1.index t = ![0, t.val % 4]
    ∧ win0_2.index t = ![t.val / 4, 0] := by decide +kernel

/-- The product of a point's two blocks. -/
def part (t : Fin cfg0.N) (i : S512x2048.Idx) : EReal := k0_pay1 (F := Ideal) (iblk m c 0 t) (iblk m c 1 t) i

theorem first (t : Fin cfg0.N) (h : t.val % 4 = 0) (i : S512x2048.Idx) : (outsAt0 m c t.val t.isLt).2 i = 0 + part m c t i := by
  rw [outsAt0_A m c t h (by omega) (by omega)]
  frame_out
  pointwise [k0_pay2]
  rfl

theorem next (t : Fin cfg0.N) (h : ¬t.val % 4 = 0) (i : S512x2048.Idx) : (outsAt0 m c t.val t.isLt).2 i
    = (outsAt0 m c (t.val - 1) (Nat.lt_of_le_of_lt (Nat.sub_le _ _) t.isLt)).2 i + part m c t i := by
  by_cases h3 : t.val % 4 = 3
  · rw [outsAt0_C m c t h (by omega) h3]
    frame_out
    pointwise [k0_pay3]
    rw [read_unread_whole]
    rfl
  · rw [outsAt0_B m c t h (by omega) h3]
    frame_out
    pointwise [k0_pay3]
    rw [read_unread_whole]
    rfl

/-- The last point of a run writes out what the running sum then is. -/
theorem out_eq (t : Fin cfg0.N) (h : t.val % 4 = 3) (i : S512x2048.Idx) : (outsAt0 m c t.val t.isLt).1 i = (outsAt0 m c t.val t.isLt).2 i := by
  rw [outsAt0_C m c t (by omega) (by omega) h]
  frame_out

theorem part_ap (t : Fin cfg0.N) (a : Fin 512) (b : Fin 2048) : part m c t (ix2 a b)
    = ∑ k : Fin 2048, argZ m c (ix2 ⟨512 * (t.val / 4) + a.val, by have := point_lt t; omega⟩ ⟨2048 * (t.val % 4) + k.val, by omega⟩)
        * argW m c (ix2 b ⟨2048 * (t.val % 4) + k.val, by omega⟩) := by
  have e := index_at t
  unfold part
  pointwise [k0_pay1]
  refine Finset.sum_congr rfl fun k _ => ?_
  congr 1
  · show V m c main_arg0 _ = _
    rw [V_main_arg0]
    blk_ext [e]
  · show V m c main_arg1 _ = _
    rw [V_main_arg1]
    blk_ext [e]

/-- What the reference's product is at an index. -/
theorem ref_ap (z : FVec Ideal S4096x8192 .bf16) (w : FVec Ideal S2048x8192 .bf16) (i : Fin 4096) (j : Fin 2048) :
    Cert.UpDhRefIdeal.Read.val_main_v4 (F := Ideal) z w (ix2 i j) = ∑ k : Fin 8192, z (ix2 i k) * w (ix2 j k) := by
  pointwise [Cert.UpDhRefIdeal.Read.val_main_v4, Cert.UpDhRefIdeal.Read.val_main_v1, Cert.UpDhRefIdeal.Read.val_main_v0]

theorem result : (dats m 0 c).arrAt 2 cfg0.N = Cert.UpDhRefIdeal.Read.val_main_v4 (F := Ideal) (argZ m c) (argW m c) := by
  refine (dats m 0 c).arrAt_eq_of_covers 2 _ (by decide +kernel) fun t hf y => ?_
  have e := index_at t
  have ht := point_lt t
  have hr : t.val % 4 = 3 := (flush0_2 t).mp hf
  obtain ⟨a, b, rfl⟩ : ∃ (a : Fin 512) (b : Fin 2048), y = ix2 a b := ⟨y 0, y 1, eq_ix2 y⟩
  have ha := a.isLt
  blk_simp
  rw [after0_2]
  have hs := Pipeline.eq_sum_fin_of_reset_step_apply_of_flush (fun n h => (outsAt0 m c n h).2) 4 (fun _ => (0 : EReal)) (part m c)
    (first m c) (next m c) t hr (ix2 a b)
  refine ((out_eq m c t hr _).trans hs).trans (Eq.trans ?_ ((ref_ap (argZ m c) (argW m c) ⟨512 * (t.val / 4) + a.val, by omega⟩ b).symm.trans ?_))
  · rw [zero_add]
    simp only [part_ap]
    refine Fin.sum_mul_add_congr fun s k hl => ?_
    have h1 := s.isLt
    have e1 : (4 * (t.val / 4) + s.val) % 4 = s.val := by omega
    have e2 : (4 * (t.val / 4) + s.val) / 4 = t.val / 4 := by omega
    simp only [e1, e2, Nat.mul_comm 2048 s.val]
  · blk_ext [e]

theorem same_values : Cert.algebraic_UpDhIdeal_UpDhRefIdeal := fun m ρ m' ρ' _ hsame =>
  ⟨fun c => Cert.UpDhRefIdeal.Read.val_main_v4 (F := Ideal) (argZ m c) (argW m c),
    (θ_run defs _ _).mono (fun r h c => ⟨(h c).1.trans (result m c), (h c).2⟩) (Cert.UpDhIdeal.Value.run_blocks (F := Ideal) m ρ),
    (θ_run Cert.UpDhRefIdeal.defs _ _).mono
      (fun r h c => by
        obtain ⟨h0, ha⟩ := h c
        obtain ⟨e0, e1⟩ := hsame c
        rw [Cert.UpDhRefIdeal.Read.val_main_v4_eq, e0, e1] at h0
        exact ⟨h0, ha⟩)
      (Cert.UpDhRefIdeal.Value.run (F := Ideal) m' ρ')⟩

theorem frame_reference : Cert.quiescent_UpDhRefIdeal := fun m ρ _ =>
  (θ_run Cert.UpDhRefIdeal.defs _ _).mono (fun r h => ⟨fun c => (h c).2, sem_eq_zero_of_no_sems (by decide) r.2⟩)
    (Cert.UpDhRefIdeal.Value.run (F := Ideal) m ρ)

end Cert.Proof.UpDh
-- ==== Proof.OutDwValue.lean ====
/-
  The gradient of the weight of a mixer's output map, or of the map to the queries, `oᵀ · dy`: the kernel
  adds up two halves of the rows; what it leaves in its result is the whole sum, which is what the
  reference computes.
-/
module

public import proofs.«01_k».proof.Defs
public import proofs.«01_k».proof.Proof.Gen.OutDw.Frame
public import proofs.«01_k».proof.Proof.Gen.OutDwIdeal.Value
public import proofs.«01_k».proof.Proof.Gen.OutDwRefIdeal.Read
public import Idealize.ShloMosaic.Lib.Pipeline.ValueKit
public import Idealize.ShloMosaic.Lib.Pipeline.ReadBack
public import Idealize.ShloMosaic.Lib.Pointwise
public import Idealize.ShloMosaic.Adequacy

@[expose] public section

set_option maxRecDepth 16384

noncomputable section

namespace Cert.Proof.OutDw

open Cert.OutDwIdeal Cert.OutDwIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- The arguments. -/
abbrev argO : FVec Ideal S4096x2048 .bf16 := m ((c : Thread nD τ).loc main_arg0)
abbrev argD : FVec Ideal S4096x2048 .bf16 := m ((c : Thread nD τ).loc main_arg1)

theorem point_lt (t : Fin cfg0.N) : t.val < 8 := t.isLt

theorem index_at : ∀ t : Fin grid0.N, win0_0.index t = ![t.val % 2, t.val / 2] ∧ win0_1.index t = ![t.val % 2, 0]
    ∧ win0_2.index t = ![t.val / 2, 0] := by decide +kernel

/-- The product of a point's two blocks. -/
def part (t : Fin cfg0.N) (i : S512x2048.Idx) : EReal := k0_pay1 (F := Ideal) (iblk m c 0 t) (iblk m c 1 t) i

theorem first (t : Fin cfg0.N) (h : t.val % 2 = 0) (i : S512x2048.Idx) : (outsAt0 m c t.val t.isLt).2 i = 0 + part m c t i := by
  rw [outsAt0_A m c t h (by omega) (by omega)]
  frame_out
  pointwise [k0_pay2]
  rfl

theorem next (t : Fin cfg0.N) (h : ¬t.val % 2 = 0) (i : S512x2048.Idx) : (outsAt0 m c t.val t.isLt).2 i
    = (outsAt0 m c (t.val - 1) (Nat.lt_of_le_of_lt (Nat.sub_le _ _) t.isLt)).2 i + part m c t i := by
  rw [outsAt0_B m c t h (by omega) (by omega)]
  frame_out
  pointwise [k0_pay3]
  rw [read_unread_whole]
  rfl

/-- The last point of a run writes out what the running sum then is. -/
theorem out_eq (t : Fin cfg0.N) (h : t.val % 2 = 1) (i : S512x2048.Idx) : (outsAt0 m c t.val t.isLt).1 i = (outsAt0 m c t.val t.isLt).2 i := by
  rw [outsAt0_B m c t (by omega) h h]
  frame_out
  rfl

theorem part_ap (t : Fin cfg0.N) (a : Fin 512) (b : Fin 2048) : part m c t (ix2 a b)
    = ∑ k : Fin 2048, argO m c (ix2 ⟨2048 * (t.val % 2) + k.val, by omega⟩ ⟨512 * (t.val / 2) + a.val, by have := point_lt t; omega⟩)
        * argD m c (ix2 ⟨2048 * (t.val % 2) + k.val, by omega⟩ b) := by
  have e := index_at t
  unfold part
  pointwise [k0_pay1]
  refine Finset.sum_congr rfl fun k _ => ?_
  congr 1
  · show V m c main_arg0 _ = _
    rw [V_main_arg0]
    blk_ext [e]
  · show V m c main_arg1 _ = _
    rw [V_main_arg1]
    blk_ext [e]

/-- What the reference's product is at an index. -/
theorem ref_ap (h : FVec Ideal S4096x2048 .bf16) (z : FVec Ideal S4096x2048 .bf16) (i : Fin 2048) (j : Fin 2048) :
    Cert.OutDwRefIdeal.Read.val_main_v6 (F := Ideal) h z (ix2 i j) = ∑ k : Fin 4096, h (ix2 k i) * z (ix2 k j) := by
  pointwise [Cert.OutDwRefIdeal.Read.val_main_v6, Cert.OutDwRefIdeal.Read.val_main_v5, Cert.OutDwRefIdeal.Read.val_main_v4,
    Cert.OutDwRefIdeal.Read.val_main_v1, Cert.OutDwRefIdeal.Read.val_main_v0]
  exact Finset.sum_congr rfl fun k _ => mul_comm _ _

theorem result : (dats m 0 c).arrAt 2 cfg0.N = Cert.OutDwRefIdeal.Read.val_main_v6 (F := Ideal) (argO m c) (argD m c) := by
  refine (dats m 0 c).arrAt_eq_of_covers 2 _ (by decide +kernel) fun t hf y => ?_
  have e := index_at t
  have ht := point_lt t
  have hr : t.val % 2 = 1 := (flush0_2 t).mp hf
  obtain ⟨a, b, rfl⟩ : ∃ (a : Fin 512) (b : Fin 2048), y = ix2 a b := ⟨y 0, y 1, eq_ix2 y⟩
  have ha := a.isLt
  have hb := b.isLt
  blk_simp
  rw [after0_2]
  have hs := Pipeline.eq_sum_fin_of_reset_step_apply_of_flush (fun n h => (outsAt0 m c n h).2) 2 (fun _ => (0 : EReal)) (part m c)
    (first m c) (next m c) t hr (ix2 a b)
  refine ((out_eq m c t hr _).trans hs).trans (Eq.trans ?_ ((ref_ap (argO m c) (argD m c) ⟨512 * (t.val / 2) + a.val, by omega⟩ b).symm.trans ?_))
  · rw [zero_add]
    simp only [part_ap]
    refine Fin.sum_mul_add_congr fun s k hl => ?_
    have h1 := s.isLt
    have e1 : (2 * (t.val / 2) + s.val) % 2 = s.val := by omega
    have e2 : (2 * (t.val / 2) + s.val) / 2 = t.val / 2 := by omega
    simp only [e1, e2, Nat.mul_comm 2048 s.val]
  · blk_ext [e]

theorem same_values : Cert.algebraic_OutDwIdeal_OutDwRefIdeal := fun m ρ m' ρ' _ hsame =>
  ⟨fun c => Cert.OutDwRefIdeal.Read.val_main_v6 (F := Ideal) (argO m c) (argD m c),
    (θ_run defs _ _).mono (fun r h c => ⟨(h c).1.trans (result m c), (h c).2⟩) (Cert.OutDwIdeal.Value.run_blocks (F := Ideal) m ρ),
    (θ_run Cert.OutDwRefIdeal.defs _ _).mono
      (fun r h c => by
        obtain ⟨h0, ha⟩ := h c
        obtain ⟨e0, e1⟩ := hsame c
        rw [Cert.OutDwRefIdeal.Read.val_main_v6_eq, e0, e1] at h0
        exact ⟨h0, ha⟩)
      (Cert.OutDwRefIdeal.Value.run (F := Ideal) m' ρ')⟩

theorem frame_reference : Cert.quiescent_OutDwRefIdeal := fun m ρ _ =>
  (θ_run Cert.OutDwRefIdeal.defs _ _).mono (fun r h => ⟨fun c => (h c).2, sem_eq_zero_of_no_sems (by decide) r.2⟩)
    (Cert.OutDwRefIdeal.Value.run (F := Ideal) m ρ)

end Cert.Proof.OutDw
-- ==== Proof.OutDuValue.lean ====
/-
  The gradient of the input of a mixer's output map, `dy · wᵀ`: each point computes 512 rows of the product.
-/
module

public import proofs.«01_k».proof.Defs
public import proofs.«01_k».proof.Proof.Gen.OutDu.Frame
public import proofs.«01_k».proof.Proof.Gen.OutDuIdeal.Value
public import proofs.«01_k».proof.Proof.Gen.OutDuRefIdeal.Read
public import Idealize.ShloMosaic.Lib.Pipeline.ValueKit
public import Idealize.ShloMosaic.Lib.Pointwise
public import Idealize.ShloMosaic.Adequacy

@[expose] public section

set_option maxRecDepth 16384

noncomputable section

namespace Cert.Proof.OutDu

open Cert.OutDuIdeal Cert.OutDuIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- The arguments. -/
abbrev argD : FVec Ideal S4096x2048 .bf16 := m ((c : Thread nD τ).loc main_arg0)
abbrev argW : FVec Ideal S2048x2048 .bf16 := m ((c : Thread nD τ).loc main_arg1)

theorem point_lt (t : Fin cfg0.N) : t.val < 8 := t.isLt

theorem index_at : ∀ t : Fin grid0.N, win0_0.index t = ![t.val, 0] ∧ win0_1.index t = ![0, 0]
    ∧ win0_2.index t = ![t.val, 0] := by decide +kernel

/-- What the reference's product is at an index. -/
theorem ref_ap (x : FVec Ideal S4096x2048 .bf16) (y : FVec Ideal S2048x2048 .bf16) (i : Fin 4096) (j : Fin 2048) :
    Cert.OutDuRefIdeal.Read.val_main_v5 (F := Ideal) x y (ix2 i j) = ∑ k : Fin 2048, x (ix2 i k) * y (ix2 j k) := by
  pointwise [Cert.OutDuRefIdeal.Read.val_main_v5, Cert.OutDuRefIdeal.Read.val_main_v4, Cert.OutDuRefIdeal.Read.val_main_v1, Cert.OutDuRefIdeal.Read.val_main_v0]

/-- What a point leaves in its block. -/
theorem out_ap (t : Fin cfg0.N) (a : Fin 512) (b : Fin 2048) : out0_2 (iblk m c 0 t) (iblk m c 1 t) (ix2 a b)
    = ∑ k : Fin 2048, argD m c (ix2 ⟨512 * t.val + a.val, by have := point_lt t; omega⟩ k) * argW m c (ix2 b k) := by
  have e := index_at t
  frame_out
  pointwise [k0_pay1]
  refine Finset.sum_congr rfl fun k _ => ?_
  congr 1
  · show V m c main_arg0 _ = _
    rw [V_main_arg0]
    blk_ext [e]
  · show V m c main_arg1 _ = _
    rw [V_main_arg1]
    blk_ext [e]

theorem result : (dats m 0 c).arrAt 2 cfg0.N = Cert.OutDuRefIdeal.Read.val_main_v5 (F := Ideal) (argD m c) (argW m c) := by
  refine (dats m 0 c).arrAt_eq_of_covers 2 _ (by decide +kernel) fun t hf y => ?_
  have e := index_at t
  have ht := point_lt t
  obtain ⟨a, b, rfl⟩ : ∃ (a : Fin 512) (b : Fin 2048), y = ix2 a b := ⟨y 0, y 1, eq_ix2 y⟩
  have ha := a.isLt
  have hb := b.isLt
  blk_simp
  rw [after0_2]
  refine (out_ap m c t a b).trans ((ref_ap (argD m c) (argW m c) ⟨512 * t.val + a.val, by omega⟩ b).symm.trans ?_)
  blk_ext [e]

theorem same_values : Cert.algebraic_OutDuIdeal_OutDuRefIdeal := fun m ρ m' ρ' _ hsame =>
  ⟨fun c => Cert.OutDuRefIdeal.Read.val_main_v5 (F := Ideal) (argD m c) (argW m c),
    (θ_run defs _ _).mono (fun r h c => ⟨(h c).1.trans (result m c), (h c).2⟩) (Cert.OutDuIdeal.Value.run_blocks (F := Ideal) m ρ),
    (θ_run Cert.OutDuRefIdeal.defs _ _).mono
      (fun r h c => by
        obtain ⟨h0, ha⟩ := h c
        obtain ⟨e0, e1⟩ := hsame c
        rw [Cert.OutDuRefIdeal.Read.val_main_v5_eq, e0, e1] at h0
        exact ⟨h0, ha⟩)
      (Cert.OutDuRefIdeal.Value.run (F := Ideal) m' ρ')⟩

theorem frame_reference : Cert.quiescent_OutDuRefIdeal := fun m ρ _ =>
  (θ_run Cert.OutDuRefIdeal.defs _ _).mono (fun r h => ⟨fun c => (h c).2, sem_eq_zero_of_no_sems (by decide) r.2⟩)
    (Cert.OutDuRefIdeal.Value.run (F := Ideal) m ρ)

end Cert.Proof.OutDu
-- ==== Proof.QDhValue.lean ====
/-
  The gradient of the input of the map to the queries, `dq · wᵀ`: each point computes 512 rows of the product.
-/
module

public import proofs.«01_k».proof.Defs
public import proofs.«01_k».proof.Proof.Gen.QDh.Frame
public import proofs.«01_k».proof.Proof.Gen.QDhIdeal.Value
public import proofs.«01_k».proof.Proof.Gen.QDhRefIdeal.Read
public import Idealize.ShloMosaic.Lib.Pipeline.ValueKit
public import Idealize.ShloMosaic.Lib.Pointwise
public import Idealize.ShloMosaic.Adequacy

@[expose] public section

set_option maxRecDepth 16384

noncomputable section

namespace Cert.Proof.QDh

open Cert.QDhIdeal Cert.QDhIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- The arguments. -/
abbrev argD : FVec Ideal S4096x2048 .bf16 := m ((c : Thread nD τ).loc main_arg0)
abbrev argW : FVec Ideal S2048x2048 .bf16 := m ((c : Thread nD τ).loc main_arg1)

theorem point_lt (t : Fin cfg0.N) : t.val < 8 := t.isLt

theorem index_at : ∀ t : Fin grid0.N, win0_0.index t = ![t.val, 0] ∧ win0_1.index t = ![0, 0]
    ∧ win0_2.index t = ![t.val, 0] := by decide +kernel

/-- What the reference's product is at an index. -/
theorem ref_ap (x : FVec Ideal S4096x2048 .bf16) (y : FVec Ideal S2048x2048 .bf16) (i : Fin 4096) (j : Fin 2048) :
    Cert.QDhRefIdeal.Read.val_main_v4 (F := Ideal) x y (ix2 i j) = ∑ k : Fin 2048, x (ix2 i k) * y (ix2 j k) := by
  pointwise [Cert.QDhRefIdeal.Read.val_main_v4, Cert.QDhRefIdeal.Read.val_main_v1, Cert.QDhRefIdeal.Read.val_main_v0]

/-- What a point leaves in its block. -/
theorem out_ap (t : Fin cfg0.N) (a : Fin 512) (b : Fin 2048) : out0_2 (iblk m c 0 t) (iblk m c 1 t) (ix2 a b)
    = ∑ k : Fin 2048, argD m c (ix2 ⟨512 * t.val + a.val, by have := point_lt t; omega⟩ k) * argW m c (ix2 b k) := by
  have e := index_at t
  frame_out
  pointwise [k0_pay1]
  refine Finset.sum_congr rfl fun k _ => ?_
  congr 1
  · show V m c main_arg0 _ = _
    rw [V_main_arg0]
    blk_ext [e]
  · show V m c main_arg1 _ = _
    rw [V_main_arg1]
    blk_ext [e]

theorem result : (dats m 0 c).arrAt 2 cfg0.N = Cert.QDhRefIdeal.Read.val_main_v4 (F := Ideal) (argD m c) (argW m c) := by
  refine (dats m 0 c).arrAt_eq_of_covers 2 _ (by decide +kernel) fun t hf y => ?_
  have e := index_at t
  have ht := point_lt t
  obtain ⟨a, b, rfl⟩ : ∃ (a : Fin 512) (b : Fin 2048), y = ix2 a b := ⟨y 0, y 1, eq_ix2 y⟩
  have ha := a.isLt
  have hb := b.isLt
  blk_simp
  rw [after0_2]
  refine (out_ap m c t a b).trans ((ref_ap (argD m c) (argW m c) ⟨512 * t.val + a.val, by omega⟩ b).symm.trans ?_)
  blk_ext [e]

theorem same_values : Cert.algebraic_QDhIdeal_QDhRefIdeal := fun m ρ m' ρ' _ hsame =>
  ⟨fun c => Cert.QDhRefIdeal.Read.val_main_v4 (F := Ideal) (argD m c) (argW m c),
    (θ_run defs _ _).mono (fun r h c => ⟨(h c).1.trans (result m c), (h c).2⟩) (Cert.QDhIdeal.Value.run_blocks (F := Ideal) m ρ),
    (θ_run Cert.QDhRefIdeal.defs _ _).mono
      (fun r h c => by
        obtain ⟨h0, ha⟩ := h c
        obtain ⟨e0, e1⟩ := hsame c
        rw [Cert.QDhRefIdeal.Read.val_main_v4_eq, e0, e1] at h0
        exact ⟨h0, ha⟩)
      (Cert.QDhRefIdeal.Value.run (F := Ideal) m' ρ')⟩

theorem frame_reference : Cert.quiescent_QDhRefIdeal := fun m ρ _ =>
  (θ_run Cert.QDhRefIdeal.defs _ _).mono (fun r h => ⟨fun c => (h c).2, sem_eq_zero_of_no_sems (by decide) r.2⟩)
    (Cert.QDhRefIdeal.Value.run (F := Ideal) m ρ)

end Cert.Proof.QDh
-- ==== Proof.KvDwValue.lean ====
/-
  The gradient of the weight of the map to the keys and values, `hᵀ · dkv`: each point computes 512 rows of the product.
-/
module

public import proofs.«01_k».proof.Defs
public import proofs.«01_k».proof.Proof.Gen.KvDw.Frame
public import proofs.«01_k».proof.Proof.Gen.KvDwIdeal.Value
public import proofs.«01_k».proof.Proof.Gen.KvDwRefIdeal.Read
public import Idealize.ShloMosaic.Lib.Pipeline.ValueKit
public import Idealize.ShloMosaic.Lib.Pointwise
public import Idealize.ShloMosaic.Adequacy

@[expose] public section

set_option maxRecDepth 16384

noncomputable section

namespace Cert.Proof.KvDw

open Cert.KvDwIdeal Cert.KvDwIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- The arguments. -/
abbrev argH : FVec Ideal S4096x2048 .bf16 := m ((c : Thread nD τ).loc main_arg0)
abbrev argD : FVec Ideal S4096x1024 .bf16 := m ((c : Thread nD τ).loc main_arg1)

theorem point_lt (t : Fin cfg0.N) : t.val < 4 := t.isLt

theorem index_at : ∀ t : Fin grid0.N, win0_0.index t = ![0, t.val] ∧ win0_1.index t = ![0, 0]
    ∧ win0_2.index t = ![t.val, 0] := by decide +kernel

/-- What the reference's product is at an index. -/
theorem ref_ap (x : FVec Ideal S4096x2048 .bf16) (y : FVec Ideal S4096x1024 .bf16) (i : Fin 2048) (j : Fin 1024) :
    Cert.KvDwRefIdeal.Read.val_main_v6 (F := Ideal) x y (ix2 i j) = ∑ k : Fin 4096, x (ix2 k i) * y (ix2 k j) := by
  pointwise [Cert.KvDwRefIdeal.Read.val_main_v6, Cert.KvDwRefIdeal.Read.val_main_v5, Cert.KvDwRefIdeal.Read.val_main_v4, Cert.KvDwRefIdeal.Read.val_main_v1, Cert.KvDwRefIdeal.Read.val_main_v0]
  exact Finset.sum_congr rfl fun k _ => mul_comm _ _

/-- What a point leaves in its block. -/
theorem out_ap (t : Fin cfg0.N) (a : Fin 512) (b : Fin 1024) : out0_2 (iblk m c 0 t) (iblk m c 1 t) (ix2 a b)
    = ∑ k : Fin 4096, argH m c (ix2 k ⟨512 * t.val + a.val, by have := point_lt t; omega⟩) * argD m c (ix2 k b) := by
  have e := index_at t
  frame_out
  pointwise [k0_pay1]
  refine Finset.sum_congr rfl fun k _ => ?_
  congr 1
  · show V m c main_arg0 _ = _
    rw [V_main_arg0]
    blk_ext [e]
  · show V m c main_arg1 _ = _
    rw [V_main_arg1]
    blk_ext [e]

theorem result : (dats m 0 c).arrAt 2 cfg0.N = Cert.KvDwRefIdeal.Read.val_main_v6 (F := Ideal) (argH m c) (argD m c) := by
  refine (dats m 0 c).arrAt_eq_of_covers 2 _ (by decide +kernel) fun t hf y => ?_
  have e := index_at t
  have ht := point_lt t
  obtain ⟨a, b, rfl⟩ : ∃ (a : Fin 512) (b : Fin 1024), y = ix2 a b := ⟨y 0, y 1, eq_ix2 y⟩
  have ha := a.isLt
  have hb := b.isLt
  blk_simp
  rw [after0_2]
  refine (out_ap m c t a b).trans ((ref_ap (argH m c) (argD m c) ⟨512 * t.val + a.val, by omega⟩ b).symm.trans ?_)
  blk_ext [e]

theorem same_values : Cert.algebraic_KvDwIdeal_KvDwRefIdeal := fun m ρ m' ρ' _ hsame =>
  ⟨fun c => Cert.KvDwRefIdeal.Read.val_main_v6 (F := Ideal) (argH m c) (argD m c),
    (θ_run defs _ _).mono (fun r h c => ⟨(h c).1.trans (result m c), (h c).2⟩) (Cert.KvDwIdeal.Value.run_blocks (F := Ideal) m ρ),
    (θ_run Cert.KvDwRefIdeal.defs _ _).mono
      (fun r h c => by
        obtain ⟨h0, ha⟩ := h c
        obtain ⟨e0, e1⟩ := hsame c
        rw [Cert.KvDwRefIdeal.Read.val_main_v6_eq, e0, e1] at h0
        exact ⟨h0, ha⟩)
      (Cert.KvDwRefIdeal.Value.run (F := Ideal) m' ρ')⟩

theorem frame_reference : Cert.quiescent_KvDwRefIdeal := fun m ρ _ =>
  (θ_run Cert.KvDwRefIdeal.defs _ _).mono (fun r h => ⟨fun c => (h c).2, sem_eq_zero_of_no_sems (by decide) r.2⟩)
    (Cert.KvDwRefIdeal.Value.run (F := Ideal) m ρ)

end Cert.Proof.KvDw
-- ==== Proof.KvDhValue.lean ====
/-
  The gradient of the input of the map to the keys and values, `dkv · wᵀ`: each point computes 512 rows of the product.
-/
module

public import proofs.«01_k».proof.Defs
public import proofs.«01_k».proof.Proof.Gen.KvDh.Frame
public import proofs.«01_k».proof.Proof.Gen.KvDhIdeal.Value
public import proofs.«01_k».proof.Proof.Gen.KvDhRefIdeal.Read
public import Idealize.ShloMosaic.Lib.Pipeline.ValueKit
public import Idealize.ShloMosaic.Lib.Pointwise
public import Idealize.ShloMosaic.Adequacy

@[expose] public section

set_option maxRecDepth 16384

noncomputable section

namespace Cert.Proof.KvDh

open Cert.KvDhIdeal Cert.KvDhIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- The arguments. -/
abbrev argD : FVec Ideal S4096x1024 .bf16 := m ((c : Thread nD τ).loc main_arg0)
abbrev argW : FVec Ideal S2048x1024 .bf16 := m ((c : Thread nD τ).loc main_arg1)

theorem point_lt (t : Fin cfg0.N) : t.val < 8 := t.isLt

theorem index_at : ∀ t : Fin grid0.N, win0_0.index t = ![t.val, 0] ∧ win0_1.index t = ![0, 0]
    ∧ win0_2.index t = ![t.val, 0] := by decide +kernel

/-- What the reference's product is at an index. -/
theorem ref_ap (x : FVec Ideal S4096x1024 .bf16) (y : FVec Ideal S2048x1024 .bf16) (i : Fin 4096) (j : Fin 2048) :
    Cert.KvDhRefIdeal.Read.val_main_v4 (F := Ideal) x y (ix2 i j) = ∑ k : Fin 1024, x (ix2 i k) * y (ix2 j k) := by
  pointwise [Cert.KvDhRefIdeal.Read.val_main_v4, Cert.KvDhRefIdeal.Read.val_main_v1, Cert.KvDhRefIdeal.Read.val_main_v0]

/-- What a point leaves in its block. -/
theorem out_ap (t : Fin cfg0.N) (a : Fin 512) (b : Fin 2048) : out0_2 (iblk m c 0 t) (iblk m c 1 t) (ix2 a b)
    = ∑ k : Fin 1024, argD m c (ix2 ⟨512 * t.val + a.val, by have := point_lt t; omega⟩ k) * argW m c (ix2 b k) := by
  have e := index_at t
  frame_out
  pointwise [k0_pay1]
  refine Finset.sum_congr rfl fun k _ => ?_
  congr 1
  · show V m c main_arg0 _ = _
    rw [V_main_arg0]
    blk_ext [e]
  · show V m c main_arg1 _ = _
    rw [V_main_arg1]
    blk_ext [e]

theorem result : (dats m 0 c).arrAt 2 cfg0.N = Cert.KvDhRefIdeal.Read.val_main_v4 (F := Ideal) (argD m c) (argW m c) := by
  refine (dats m 0 c).arrAt_eq_of_covers 2 _ (by decide +kernel) fun t hf y => ?_
  have e := index_at t
  have ht := point_lt t
  obtain ⟨a, b, rfl⟩ : ∃ (a : Fin 512) (b : Fin 2048), y = ix2 a b := ⟨y 0, y 1, eq_ix2 y⟩
  have ha := a.isLt
  have hb := b.isLt
  blk_simp
  rw [after0_2]
  refine (out_ap m c t a b).trans ((ref_ap (argD m c) (argW m c) ⟨512 * t.val + a.val, by omega⟩ b).symm.trans ?_)
  blk_ext [e]

theorem same_values : Cert.algebraic_KvDhIdeal_KvDhRefIdeal := fun m ρ m' ρ' _ hsame =>
  ⟨fun c => Cert.KvDhRefIdeal.Read.val_main_v4 (F := Ideal) (argD m c) (argW m c),
    (θ_run defs _ _).mono (fun r h c => ⟨(h c).1.trans (result m c), (h c).2⟩) (Cert.KvDhIdeal.Value.run_blocks (F := Ideal) m ρ),
    (θ_run Cert.KvDhRefIdeal.defs _ _).mono
      (fun r h c => by
        obtain ⟨h0, ha⟩ := h c
        obtain ⟨e0, e1⟩ := hsame c
        rw [Cert.KvDhRefIdeal.Read.val_main_v4_eq, e0, e1] at h0
        exact ⟨h0, ha⟩)
      (Cert.KvDhRefIdeal.Value.run (F := Ideal) m' ρ')⟩

theorem frame_reference : Cert.quiescent_KvDhRefIdeal := fun m ρ _ =>
  (θ_run Cert.KvDhRefIdeal.defs _ _).mono (fun r h => ⟨fun c => (h c).2, sem_eq_zero_of_no_sems (by decide) r.2⟩)
    (Cert.KvDhRefIdeal.Value.run (F := Ideal) m ρ)

end Cert.Proof.KvDh
-- ==== Proof.MlpUpValue.lean ====
/-
  The mlp's first map: `relu(h · w)`, and its square. Each point computes a tile of 512 rows and 2048 columns of both.
-/
module

public import proofs.«01_k».proof.Defs
public import proofs.«01_k».proof.Proof.Gen.MlpUp.Frame
public import proofs.«01_k».proof.Proof.Gen.MlpUpIdeal.Value
public import proofs.«01_k».proof.Proof.Gen.MlpUpRefIdeal.Read
public import Idealize.ShloMosaic.Lib.Pipeline.ValueKit
public import Idealize.ShloMosaic.Lib.Pointwise
public import Idealize.ShloMosaic.Adequacy

@[expose] public section

set_option maxRecDepth 16384

noncomputable section

namespace Cert.Proof.MlpUp

open Cert.MlpUpIdeal Cert.MlpUpIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- The arguments. -/
abbrev argH : FVec Ideal S4096x2048 .bf16 := m ((c : Thread nD τ).loc main_arg0)
abbrev argW : FVec Ideal S2048x8192 .bf16 := m ((c : Thread nD τ).loc main_arg1)

theorem point_lt (t : Fin cfg0.N) : t.val < 32 := t.isLt

theorem index_at : ∀ t : Fin grid0.N, win0_0.index t = ![t.val % 8, 0] ∧ win0_1.index t = ![0, t.val / 8]
    ∧ win0_2.index t = ![t.val % 8, t.val / 8] ∧ win0_3.index t = ![t.val % 8, t.val / 8] := by decide +kernel

/-- The relu of the product, as the reference computes it, at an index. -/
theorem ref_relu_ap (h : FVec Ideal S4096x2048 .bf16) (w : FVec Ideal S2048x8192 .bf16) (i : Fin 4096) (j : Fin 8192) :
    Cert.MlpUpRefIdeal.Read.val_main_v3 (F := Ideal) h w (ix2 i j) = max (∑ k : Fin 2048, h (ix2 i k) * w (ix2 k j)) 0 := by
  pointwise [Cert.MlpUpRefIdeal.Read.val_main_v3, Cert.MlpUpRefIdeal.Read.val_main_v2, Cert.MlpUpRefIdeal.Read.val_main_v1,
    Cert.MlpUpRefIdeal.Read.val_main_v0, Cert.MlpUpRefIdeal.Read.val_main_call0_v0, Cert.MlpUpRefIdeal.Read.val_main_call0_cst]

/-- The relu of the product of a point's two blocks. -/
theorem relu_ap (t : Fin cfg0.N) (a : Fin 512) (b : Fin 2048) : k0_pay1 (F := Ideal) (iblk m c 0 t) (iblk m c 1 t) (ix2 a b)
    = Cert.MlpUpRefIdeal.Read.val_main_v3 (F := Ideal) (argH m c) (argW m c)
        (ix2 ⟨512 * (t.val % 8) + a.val, by omega⟩ ⟨2048 * (t.val / 8) + b.val, by have := point_lt t; omega⟩) := by
  have e := index_at t
  rw [ref_relu_ap]
  pointwise [k0_pay1]
  congr 1
  refine Finset.sum_congr rfl fun k _ => ?_
  congr 1
  · show V m c main_arg0 _ = _
    rw [V_main_arg0]
    blk_ext [e]
  · show V m c main_arg1 _ = _
    rw [V_main_arg1]
    blk_ext [e]

/-- The first result: the square of the relu. -/
theorem result_square : (dats m 0 c).arrAt 2 cfg0.N = Cert.MlpUpRefIdeal.Read.val_main_v5 (F := Ideal) (argH m c) (argW m c) := by
  refine (dats m 0 c).arrAt_eq_of_covers 2 _ (by decide +kernel) fun t hf y => ?_
  have e := index_at t
  have ht := point_lt t
  obtain ⟨a, b, rfl⟩ : ∃ (a : Fin 512) (b : Fin 2048), y = ix2 a b := ⟨y 0, y 1, eq_ix2 y⟩
  have ha := a.isLt
  have hb := b.isLt
  blk_simp
  rw [after0_2]
  trans k0_pay1 (F := Ideal) (iblk m c 0 t) (iblk m c 1 t) (ix2 a b) * k0_pay1 (F := Ideal) (iblk m c 0 t) (iblk m c 1 t) (ix2 a b)
  · frame_out
    rfl
  · rw [relu_ap]
    trans Cert.MlpUpRefIdeal.Read.val_main_v5 (F := Ideal) (argH m c) (argW m c) (ix2 ⟨512 * (t.val % 8) + a.val, by omega⟩ ⟨2048 * (t.val / 8) + b.val, by omega⟩)
    · rfl
    · blk_ext [e]

/-- The second result: the relu. -/
theorem result_relu : (dats m 0 c).arrAt 3 cfg0.N = Cert.MlpUpRefIdeal.Read.val_main_v6 (F := Ideal) (argH m c) (argW m c) := by
  refine (dats m 0 c).arrAt_eq_of_covers 3 _ (by decide +kernel) fun t hf y => ?_
  have e := index_at t
  have ht := point_lt t
  obtain ⟨a, b, rfl⟩ : ∃ (a : Fin 512) (b : Fin 2048), y = ix2 a b := ⟨y 0, y 1, eq_ix2 y⟩
  have ha := a.isLt
  have hb := b.isLt
  blk_simp
  rw [after0_3]
  trans k0_pay1 (F := Ideal) (iblk m c 0 t) (iblk m c 1 t) (ix2 a b)
  · frame_out
    rfl
  · rw [relu_ap]
    trans Cert.MlpUpRefIdeal.Read.val_main_v6 (F := Ideal) (argH m c) (argW m c) (ix2 ⟨512 * (t.val % 8) + a.val, by omega⟩ ⟨2048 * (t.val / 8) + b.val, by omega⟩)
    · rfl
    · blk_ext [e]

theorem same_values : Cert.algebraic_MlpUpIdeal_MlpUpRefIdeal := fun m ρ m' ρ' _ hsame =>
  ⟨fun c => Cert.MlpUpRefIdeal.Read.val_main_v5 (F := Ideal) (argH m c) (argW m c),
    fun c => Cert.MlpUpRefIdeal.Read.val_main_v6 (F := Ideal) (argH m c) (argW m c),
    (θ_run defs _ _).mono (fun r h c => ⟨(h c).1.trans (result_square m c), (h c).2.1.trans (result_relu m c), (h c).2.2⟩)
      (Cert.MlpUpIdeal.Value.run_blocks (F := Ideal) m ρ),
    (θ_run Cert.MlpUpRefIdeal.defs _ _).mono
      (fun r h c => by
        obtain ⟨h0, h1, ha⟩ := h c
        obtain ⟨e0, e1⟩ := hsame c
        rw [Cert.MlpUpRefIdeal.Read.val_main_v5_eq, e0, e1] at h0
        rw [Cert.MlpUpRefIdeal.Read.val_main_v6_eq, e0, e1] at h1
        exact ⟨h0, h1, ha⟩)
      (Cert.MlpUpRefIdeal.Value.run (F := Ideal) m' ρ')⟩

theorem frame_reference : Cert.quiescent_MlpUpRefIdeal := fun m ρ _ =>
  (θ_run Cert.MlpUpRefIdeal.defs _ _).mono (fun r h => ⟨fun c => (h c).2.2, sem_eq_zero_of_no_sems (by decide) r.2⟩)
    (Cert.MlpUpRefIdeal.Value.run (F := Ideal) m ρ)

end Cert.Proof.MlpUp
-- ==== Proof.MlpDownValue.lean ====
/-
  The mlp's second map, `u · w`, and the residual with it, gated, added: `x + g · (u · w)`. The kernel adds up two halves of
  the summed axis, and at the second half writes both results.
-/
module

public import proofs.«01_k».proof.Defs
public import proofs.«01_k».proof.Proof.Gen.MlpDown.Frame
public import proofs.«01_k».proof.Proof.Gen.MlpDownIdeal.Value
public import proofs.«01_k».proof.Proof.Gen.MlpDownRefIdeal.Read
public import Idealize.ShloMosaic.Lib.Pipeline.ValueKit
public import Idealize.ShloMosaic.Lib.Pipeline.ReadBack
public import Idealize.ShloMosaic.Lib.Pointwise
public import Idealize.ShloMosaic.Adequacy

@[expose] public section

set_option maxRecDepth 16384

noncomputable section

namespace Cert.Proof.MlpDown

open Cert.MlpDownIdeal Cert.MlpDownIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- The arguments. -/
abbrev argU : FVec Ideal S4096x8192 .bf16 := m ((c : Thread nD τ).loc main_arg0)
abbrev argW : FVec Ideal S8192x2048 .bf16 := m ((c : Thread nD τ).loc main_arg1)
abbrev argX : FVec Ideal S4096x2048 .f32 := m ((c : Thread nD τ).loc main_arg2)
abbrev argG : FVec Ideal S1x2048 .f32 := m ((c : Thread nD τ).loc main_arg3)

theorem point_lt (t : Fin cfg0.N) : t.val < 32 := t.isLt

theorem index_at : ∀ t : Fin grid0.N, win0_0.index t = ![t.val / 2 % 8, t.val % 2] ∧ win0_1.index t = ![t.val % 2, t.val / 16]
    ∧ win0_2.index t = ![t.val / 2 % 8, t.val / 16] ∧ win0_3.index t = ![0, t.val / 16]
    ∧ win0_4.index t = ![t.val / 2 % 8, t.val / 16] ∧ win0_5.index t = ![t.val / 2 % 8, t.val / 16] := by decide +kernel

/-- The product of a point's two blocks. -/
def part (t : Fin cfg0.N) (i : S512x1024.Idx) : EReal := k0_pay1 (F := Ideal) (iblk m c 0 t) (iblk m c 1 t) i

theorem first (t : Fin cfg0.N) (h : t.val % 2 = 0) (i : S512x1024.Idx) : (outsAt0 m c t.val t.isLt).2.2 i = 0 + part m c t i := by
  rw [outsAt0_A m c t h (by omega) (by omega)]
  frame_out
  pointwise [k0_pay2]
  rfl

theorem next (t : Fin cfg0.N) (h : ¬t.val % 2 = 0) (i : S512x1024.Idx) : (outsAt0 m c t.val t.isLt).2.2 i
    = (outsAt0 m c (t.val - 1) (Nat.lt_of_le_of_lt (Nat.sub_le _ _) t.isLt)).2.2 i + part m c t i := by
  rw [outsAt0_B m c t h (by omega) (by omega)]
  frame_out
  pointwise [k0_pay3]
  rw [read_unread_whole]
  rfl

/-- The last point of a run writes out what the running sum then is, -/
theorem out_eq (t : Fin cfg0.N) (h : t.val % 2 = 1) (i : S512x1024.Idx) : (outsAt0 m c t.val t.isLt).2.1 i = (outsAt0 m c t.val t.isLt).2.2 i := by
  rw [outsAt0_B m c t (by omega) h h]
  frame_out
  rfl

theorem x_ap (t : Fin cfg0.N) (a : Fin 512) (b : Fin 1024) : iblk m c 2 t (ix2 a b)
    = argX m c (ix2 ⟨512 * (t.val / 2 % 8) + a.val, by omega⟩ ⟨1024 * (t.val / 16) + b.val, by have := point_lt t; omega⟩) := by
  have e := index_at t
  show V m c main_arg2 _ = _
  rw [V_main_arg2]
  blk_ext [e]

theorem gate_ap (t : Fin cfg0.N) (b : Fin 1024) : iblk m c 3 t (ix2 0 b)
    = argG m c (ix2 0 ⟨1024 * (t.val / 16) + b.val, by have := point_lt t; omega⟩) := by
  have e := index_at t
  show V m c main_arg3 _ = _
  rw [V_main_arg3]
  blk_ext [e]

/-- and the residual with the gated sum added to it. -/
theorem sum_eq (t : Fin cfg0.N) (h : t.val % 2 = 1) (a : Fin 512) (b : Fin 1024) : (outsAt0 m c t.val t.isLt).1 (ix2 a b)
    = argX m c (ix2 ⟨512 * (t.val / 2 % 8) + a.val, by omega⟩ ⟨1024 * (t.val / 16) + b.val, by have := point_lt t; omega⟩)
      + argG m c (ix2 0 ⟨1024 * (t.val / 16) + b.val, by have := point_lt t; omega⟩) * (outsAt0 m c t.val t.isLt).2.2 (ix2 a b) := by
  rw [← x_ap m c t a b, ← gate_ap m c t b]
  rw [outsAt0_B m c t (by omega) h h]
  frame_out
  pointwise [k0_pay4]

theorem part_ap (t : Fin cfg0.N) (a : Fin 512) (b : Fin 1024) : part m c t (ix2 a b)
    = ∑ k : Fin 4096, argU m c (ix2 ⟨512 * (t.val / 2 % 8) + a.val, by omega⟩ ⟨4096 * (t.val % 2) + k.val, by omega⟩)
        * argW m c (ix2 ⟨4096 * (t.val % 2) + k.val, by omega⟩ ⟨1024 * (t.val / 16) + b.val, by have := point_lt t; omega⟩) := by
  have e := index_at t
  unfold part
  pointwise [k0_pay1]
  refine Finset.sum_congr rfl fun k _ => ?_
  congr 1
  · show V m c main_arg0 _ = _
    rw [V_main_arg0]
    blk_ext [e]
  · show V m c main_arg1 _ = _
    rw [V_main_arg1]
    blk_ext [e]

/-- What the reference's product is at an index, -/
theorem ref_ap (u : FVec Ideal S4096x8192 .bf16) (w : FVec Ideal S8192x2048 .bf16) (i : Fin 4096) (j : Fin 2048) :
    Cert.MlpDownRefIdeal.Read.val_main_v6 (F := Ideal) u w (ix2 i j) = ∑ k : Fin 8192, u (ix2 i k) * w (ix2 k j) := by
  pointwise [Cert.MlpDownRefIdeal.Read.val_main_v6, Cert.MlpDownRefIdeal.Read.val_main_v2, Cert.MlpDownRefIdeal.Read.val_main_v1,
    Cert.MlpDownRefIdeal.Read.val_main_v0]

/-- and its sum. -/
theorem ref_sum_ap (u : FVec Ideal S4096x8192 .bf16) (w : FVec Ideal S8192x2048 .bf16) (x : FVec Ideal S4096x2048 .f32) (g : FVec Ideal S1x2048 .f32)
    (i : Fin 4096) (j : Fin 2048) : Cert.MlpDownRefIdeal.Read.val_main_v5 (F := Ideal) u w x g (ix2 i j)
      = x (ix2 i j) + g (ix2 0 j) * ∑ k : Fin 8192, u (ix2 i k) * w (ix2 k j) := by
  pointwise [Cert.MlpDownRefIdeal.Read.val_main_v5, Cert.MlpDownRefIdeal.Read.val_main_v4, Cert.MlpDownRefIdeal.Read.val_main_v3,
    Cert.MlpDownRefIdeal.Read.val_main_v2, Cert.MlpDownRefIdeal.Read.val_main_v1, Cert.MlpDownRefIdeal.Read.val_main_v0]

/-- The running sum at the end of a run is the whole product. -/
theorem total (t : Fin cfg0.N) (hr : t.val % 2 = 1) (a : Fin 512) (b : Fin 1024) : (outsAt0 m c t.val t.isLt).2.2 (ix2 a b)
    = ∑ k : Fin 8192, argU m c (ix2 ⟨512 * (t.val / 2 % 8) + a.val, by omega⟩ k)
        * argW m c (ix2 k ⟨1024 * (t.val / 16) + b.val, by have := point_lt t; omega⟩) := by
  have ht := point_lt t
  have ha := a.isLt
  have hb := b.isLt
  have hs := Pipeline.eq_sum_fin_of_reset_step_apply_of_flush (fun n h => (outsAt0 m c n h).2.2) 2 (fun _ => (0 : EReal)) (part m c)
    (first m c) (next m c) t hr (ix2 a b)
  refine hs.trans ?_
  rw [zero_add]
  simp only [part_ap]
  refine Fin.sum_mul_add_congr fun s k hl => ?_
  have h1 := s.isLt
  have e1 : (2 * (t.val / 2) + s.val) % 2 = s.val := by omega
  have e2 : (2 * (t.val / 2) + s.val) / 2 % 8 = t.val / 2 % 8 := by omega
  have e3 : (2 * (t.val / 2) + s.val) / 16 = t.val / 16 := by omega
  simp only [e1, e2, e3, Nat.mul_comm 4096 s.val]

/-- The first result: the residual with the gated product added. -/
theorem result_sum : (dats m 0 c).arrAt 4 cfg0.N
    = Cert.MlpDownRefIdeal.Read.val_main_v5 (F := Ideal) (argU m c) (argW m c) (argX m c) (argG m c) := by
  refine (dats m 0 c).arrAt_eq_of_covers 4 _ (by decide +kernel) fun t hf y => ?_
  have e := index_at t
  have ht := point_lt t
  have hr : t.val % 2 = 1 := (flush0_4 t).mp hf
  obtain ⟨a, b, rfl⟩ : ∃ (a : Fin 512) (b : Fin 1024), y = ix2 a b := ⟨y 0, y 1, eq_ix2 y⟩
  have ha := a.isLt
  have hb := b.isLt
  blk_simp
  rw [after0_4]
  refine (sum_eq m c t hr a b).trans ?_
  rw [total m c t hr a b]
  refine (ref_sum_ap (argU m c) (argW m c) (argX m c) (argG m c) ⟨512 * (t.val / 2 % 8) + a.val, by omega⟩ ⟨1024 * (t.val / 16) + b.val, by omega⟩).symm.trans ?_
  blk_ext [e]

/-- The second result: the product. -/
theorem result : (dats m 0 c).arrAt 5 cfg0.N = Cert.MlpDownRefIdeal.Read.val_main_v6 (F := Ideal) (argU m c) (argW m c) := by
  refine (dats m 0 c).arrAt_eq_of_covers 5 _ (by decide +kernel) fun t hf y => ?_
  have e := index_at t
  have ht := point_lt t
  have hr : t.val % 2 = 1 := (flush0_5 t).mp hf
  obtain ⟨a, b, rfl⟩ : ∃ (a : Fin 512) (b : Fin 1024), y = ix2 a b := ⟨y 0, y 1, eq_ix2 y⟩
  have ha := a.isLt
  have hb := b.isLt
  blk_simp
  rw [after0_5]
  refine (out_eq m c t hr _).trans ((total m c t hr a b).trans ?_)
  refine (ref_ap (argU m c) (argW m c) ⟨512 * (t.val / 2 % 8) + a.val, by omega⟩ ⟨1024 * (t.val / 16) + b.val, by omega⟩).symm.trans ?_
  blk_ext [e]

theorem same_values : Cert.algebraic_MlpDownIdeal_MlpDownRefIdeal := fun m ρ m' ρ' _ hsame =>
  ⟨fun c => Cert.MlpDownRefIdeal.Read.val_main_v5 (F := Ideal) (argU m c) (argW m c) (argX m c) (argG m c),
    fun c => Cert.MlpDownRefIdeal.Read.val_main_v6 (F := Ideal) (argU m c) (argW m c),
    (θ_run defs _ _).mono (fun r h c => ⟨(h c).1.trans (result_sum m c), (h c).2.1.trans (result m c), (h c).2.2⟩)
      (Cert.MlpDownIdeal.Value.run_blocks (F := Ideal) m ρ),
    (θ_run Cert.MlpDownRefIdeal.defs _ _).mono
      (fun r h c => by
        obtain ⟨h0, h1, ha⟩ := h c
        obtain ⟨e0, e1, e2, e3⟩ := hsame c
        rw [Cert.MlpDownRefIdeal.Read.val_main_v5_eq, e0, e1, e2, e3] at h0
        rw [Cert.MlpDownRefIdeal.Read.val_main_v6_eq, e0, e1] at h1
        exact ⟨h0, h1, ha⟩)
      (Cert.MlpDownRefIdeal.Value.run (F := Ideal) m' ρ')⟩

theorem frame_reference : Cert.quiescent_MlpDownRefIdeal := fun m ρ _ =>
  (θ_run Cert.MlpDownRefIdeal.defs _ _).mono (fun r h => ⟨fun c => (h c).2.2, sem_eq_zero_of_no_sems (by decide) r.2⟩)
    (Cert.MlpDownRefIdeal.Value.run (F := Ideal) m ρ)

end Cert.Proof.MlpDown
-- ==== Proof.AInValue.lean ====
/-
  The first layer's input map, `h · w`: each point computes a tile of 512 rows and 2048 columns of the product.
-/
module

public import proofs.«01_k».proof.Defs
public import proofs.«01_k».proof.Proof.Gen.AIn.Frame
public import proofs.«01_k».proof.Proof.Gen.AInIdeal.Value
public import proofs.«01_k».proof.Proof.Gen.AInRefIdeal.Read
public import Idealize.ShloMosaic.Lib.Pipeline.ValueKit
public import Idealize.ShloMosaic.Lib.Pointwise
public import Idealize.ShloMosaic.Adequacy

@[expose] public section

set_option maxRecDepth 16384

noncomputable section

namespace Cert.Proof.AIn

open Cert.AInIdeal Cert.AInIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- The arguments. -/
abbrev argH : FVec Ideal S4096x2048 .bf16 := m ((c : Thread nD τ).loc main_arg0)
abbrev argW : FVec Ideal S2048x8192 .bf16 := m ((c : Thread nD τ).loc main_arg1)

theorem point_lt (t : Fin cfg0.N) : t.val < 32 := t.isLt

theorem index_at : ∀ t : Fin grid0.N, win0_0.index t = ![t.val % 8, 0] ∧ win0_1.index t = ![0, t.val / 8]
    ∧ win0_2.index t = ![t.val % 8, t.val / 8] := by decide +kernel

/-- What the reference's product is at an index. -/
theorem ref_ap (x : FVec Ideal S4096x2048 .bf16) (y : FVec Ideal S2048x8192 .bf16) (i : Fin 4096) (j : Fin 8192) :
    Cert.AInRefIdeal.Read.val_main_v2 (F := Ideal) x y (ix2 i j) = ∑ k : Fin 2048, x (ix2 i k) * y (ix2 k j) := by
  pointwise [Cert.AInRefIdeal.Read.val_main_v2, Cert.AInRefIdeal.Read.val_main_v1, Cert.AInRefIdeal.Read.val_main_v0]

/-- What a point leaves in its block. -/
theorem out_ap (t : Fin cfg0.N) (a : Fin 512) (b : Fin 2048) : out0_2 (iblk m c 0 t) (iblk m c 1 t) (ix2 a b)
    = ∑ k : Fin 2048, argH m c (ix2 ⟨512 * (t.val % 8) + a.val, by omega⟩ k) * argW m c (ix2 k ⟨2048 * (t.val / 8) + b.val, by have := point_lt t; omega⟩) := by
  have e := index_at t
  frame_out
  pointwise [k0_pay1]
  refine Finset.sum_congr rfl fun k _ => ?_
  congr 1
  · show V m c main_arg0 _ = _
    rw [V_main_arg0]
    blk_ext [e]
  · show V m c main_arg1 _ = _
    rw [V_main_arg1]
    blk_ext [e]

theorem result : (dats m 0 c).arrAt 2 cfg0.N = Cert.AInRefIdeal.Read.val_main_v2 (F := Ideal) (argH m c) (argW m c) := by
  refine (dats m 0 c).arrAt_eq_of_covers 2 _ (by decide +kernel) fun t hf y => ?_
  have e := index_at t
  have ht := point_lt t
  obtain ⟨a, b, rfl⟩ : ∃ (a : Fin 512) (b : Fin 2048), y = ix2 a b := ⟨y 0, y 1, eq_ix2 y⟩
  have ha := a.isLt
  have hb := b.isLt
  blk_simp
  rw [after0_2]
  refine (out_ap m c t a b).trans ((ref_ap (argH m c) (argW m c) ⟨512 * (t.val % 8) + a.val, by omega⟩ ⟨2048 * (t.val / 8) + b.val, by omega⟩).symm.trans ?_)
  blk_ext [e]

theorem same_values : Cert.algebraic_AInIdeal_AInRefIdeal := fun m ρ m' ρ' _ hsame =>
  ⟨fun c => Cert.AInRefIdeal.Read.val_main_v2 (F := Ideal) (argH m c) (argW m c),
    (θ_run defs _ _).mono (fun r h c => ⟨(h c).1.trans (result m c), (h c).2⟩) (Cert.AInIdeal.Value.run_blocks (F := Ideal) m ρ),
    (θ_run Cert.AInRefIdeal.defs _ _).mono
      (fun r h c => by
        obtain ⟨h0, ha⟩ := h c
        obtain ⟨e0, e1⟩ := hsame c
        rw [Cert.AInRefIdeal.Read.val_main_v2_eq, e0, e1] at h0
        exact ⟨h0, ha⟩)
      (Cert.AInRefIdeal.Value.run (F := Ideal) m' ρ')⟩

theorem frame_reference : Cert.quiescent_AInRefIdeal := fun m ρ _ =>
  (θ_run Cert.AInRefIdeal.defs _ _).mono (fun r h => ⟨fun c => (h c).2, sem_eq_zero_of_no_sems (by decide) r.2⟩)
    (Cert.AInRefIdeal.Value.run (F := Ideal) m ρ)

end Cert.Proof.AIn
-- ==== Proof.QMmValue.lean ====
/-
  The queries, `h · w`: each point computes 512 rows of the product.
-/
module

public import proofs.«01_k».proof.Defs
public import proofs.«01_k».proof.Proof.Gen.QMm.Frame
public import proofs.«01_k».proof.Proof.Gen.QMmIdeal.Value
public import proofs.«01_k».proof.Proof.Gen.QMmRefIdeal.Read
public import Idealize.ShloMosaic.Lib.Pipeline.ValueKit
public import Idealize.ShloMosaic.Lib.Pointwise
public import Idealize.ShloMosaic.Adequacy

@[expose] public section

set_option maxRecDepth 16384

noncomputable section

namespace Cert.Proof.QMm

open Cert.QMmIdeal Cert.QMmIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- The arguments. -/
abbrev argH : FVec Ideal S4096x2048 .bf16 := m ((c : Thread nD τ).loc main_arg0)
abbrev argW : FVec Ideal S2048x2048 .bf16 := m ((c : Thread nD τ).loc main_arg1)

theorem point_lt (t : Fin cfg0.N) : t.val < 8 := t.isLt

theorem index_at : ∀ t : Fin grid0.N, win0_0.index t = ![t.val, 0] ∧ win0_1.index t = ![0, 0]
    ∧ win0_2.index t = ![t.val, 0] := by decide +kernel

/-- What the reference's product is at an index. -/
theorem ref_ap (x : FVec Ideal S4096x2048 .bf16) (y : FVec Ideal S2048x2048 .bf16) (i : Fin 4096) (j : Fin 2048) :
    Cert.QMmRefIdeal.Read.val_main_v3 (F := Ideal) x y (ix2 i j) = ∑ k : Fin 2048, x (ix2 i k) * y (ix2 k j) := by
  pointwise [Cert.QMmRefIdeal.Read.val_main_v3, Cert.QMmRefIdeal.Read.val_main_v2, Cert.QMmRefIdeal.Read.val_main_v1, Cert.QMmRefIdeal.Read.val_main_v0]

/-- What a point leaves in its block. -/
theorem out_ap (t : Fin cfg0.N) (a : Fin 512) (b : Fin 2048) : out0_2 (iblk m c 0 t) (iblk m c 1 t) (ix2 a b)
    = ∑ k : Fin 2048, argH m c (ix2 ⟨512 * t.val + a.val, by have := point_lt t; omega⟩ k) * argW m c (ix2 k b) := by
  have e := index_at t
  frame_out
  pointwise [k0_pay1]
  refine Finset.sum_congr rfl fun k _ => ?_
  congr 1
  · show V m c main_arg0 _ = _
    rw [V_main_arg0]
    blk_ext [e]
  · show V m c main_arg1 _ = _
    rw [V_main_arg1]
    blk_ext [e]

theorem result : (dats m 0 c).arrAt 2 cfg0.N = Cert.QMmRefIdeal.Read.val_main_v3 (F := Ideal) (argH m c) (argW m c) := by
  refine (dats m 0 c).arrAt_eq_of_covers 2 _ (by decide +kernel) fun t hf y => ?_
  have e := index_at t
  have ht := point_lt t
  obtain ⟨a, b, rfl⟩ : ∃ (a : Fin 512) (b : Fin 2048), y = ix2 a b := ⟨y 0, y 1, eq_ix2 y⟩
  have ha := a.isLt
  have hb := b.isLt
  blk_simp
  rw [after0_2]
  refine (out_ap m c t a b).trans ((ref_ap (argH m c) (argW m c) ⟨512 * t.val + a.val, by omega⟩ b).symm.trans ?_)
  blk_ext [e]

theorem same_values : Cert.algebraic_QMmIdeal_QMmRefIdeal := fun m ρ m' ρ' _ hsame =>
  ⟨fun c => Cert.QMmRefIdeal.Read.val_main_v3 (F := Ideal) (argH m c) (argW m c),
    (θ_run defs _ _).mono (fun r h c => ⟨(h c).1.trans (result m c), (h c).2⟩) (Cert.QMmIdeal.Value.run_blocks (F := Ideal) m ρ),
    (θ_run Cert.QMmRefIdeal.defs _ _).mono
      (fun r h c => by
        obtain ⟨h0, ha⟩ := h c
        obtain ⟨e0, e1⟩ := hsame c
        rw [Cert.QMmRefIdeal.Read.val_main_v3_eq, e0, e1] at h0
        exact ⟨h0, ha⟩)
      (Cert.QMmRefIdeal.Value.run (F := Ideal) m' ρ')⟩

theorem frame_reference : Cert.quiescent_QMmRefIdeal := fun m ρ _ =>
  (θ_run Cert.QMmRefIdeal.defs _ _).mono (fun r h => ⟨fun c => (h c).2, sem_eq_zero_of_no_sems (by decide) r.2⟩)
    (Cert.QMmRefIdeal.Value.run (F := Ideal) m ρ)

end Cert.Proof.QMm
-- ==== Proof.KvMmValue.lean ====
/-
  The keys and values, `h · w`: each point computes 512 rows of the product.
-/
module

public import proofs.«01_k».proof.Defs
public import proofs.«01_k».proof.Proof.Gen.KvMm.Frame
public import proofs.«01_k».proof.Proof.Gen.KvMmIdeal.Value
public import proofs.«01_k».proof.Proof.Gen.KvMmRefIdeal.Read
public import Idealize.ShloMosaic.Lib.Pipeline.ValueKit
public import Idealize.ShloMosaic.Lib.Pointwise
public import Idealize.ShloMosaic.Adequacy

@[expose] public section

set_option maxRecDepth 16384

noncomputable section

namespace Cert.Proof.KvMm

open Cert.KvMmIdeal Cert.KvMmIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- The arguments. -/
abbrev argH : FVec Ideal S4096x2048 .bf16 := m ((c : Thread nD τ).loc main_arg0)
abbrev argW : FVec Ideal S2048x1024 .bf16 := m ((c : Thread nD τ).loc main_arg1)

theorem point_lt (t : Fin cfg0.N) : t.val < 8 := t.isLt

theorem index_at : ∀ t : Fin grid0.N, win0_0.index t = ![t.val, 0] ∧ win0_1.index t = ![0, 0]
    ∧ win0_2.index t = ![t.val, 0] := by decide +kernel

/-- What the reference's product is at an index. -/
theorem ref_ap (x : FVec Ideal S4096x2048 .bf16) (y : FVec Ideal S2048x1024 .bf16) (i : Fin 4096) (j : Fin 1024) :
    Cert.KvMmRefIdeal.Read.val_main_v3 (F := Ideal) x y (ix2 i j) = ∑ k : Fin 2048, x (ix2 i k) * y (ix2 k j) := by
  pointwise [Cert.KvMmRefIdeal.Read.val_main_v3, Cert.KvMmRefIdeal.Read.val_main_v2, Cert.KvMmRefIdeal.Read.val_main_v1, Cert.KvMmRefIdeal.Read.val_main_v0]

/-- What a point leaves in its block. -/
theorem out_ap (t : Fin cfg0.N) (a : Fin 512) (b : Fin 1024) : out0_2 (iblk m c 0 t) (iblk m c 1 t) (ix2 a b)
    = ∑ k : Fin 2048, argH m c (ix2 ⟨512 * t.val + a.val, by have := point_lt t; omega⟩ k) * argW m c (ix2 k b) := by
  have e := index_at t
  frame_out
  pointwise [k0_pay1]
  refine Finset.sum_congr rfl fun k _ => ?_
  congr 1
  · show V m c main_arg0 _ = _
    rw [V_main_arg0]
    blk_ext [e]
  · show V m c main_arg1 _ = _
    rw [V_main_arg1]
    blk_ext [e]

theorem result : (dats m 0 c).arrAt 2 cfg0.N = Cert.KvMmRefIdeal.Read.val_main_v3 (F := Ideal) (argH m c) (argW m c) := by
  refine (dats m 0 c).arrAt_eq_of_covers 2 _ (by decide +kernel) fun t hf y => ?_
  have e := index_at t
  have ht := point_lt t
  obtain ⟨a, b, rfl⟩ : ∃ (a : Fin 512) (b : Fin 1024), y = ix2 a b := ⟨y 0, y 1, eq_ix2 y⟩
  have ha := a.isLt
  have hb := b.isLt
  blk_simp
  rw [after0_2]
  refine (out_ap m c t a b).trans ((ref_ap (argH m c) (argW m c) ⟨512 * t.val + a.val, by omega⟩ b).symm.trans ?_)
  blk_ext [e]

theorem same_values : Cert.algebraic_KvMmIdeal_KvMmRefIdeal := fun m ρ m' ρ' _ hsame =>
  ⟨fun c => Cert.KvMmRefIdeal.Read.val_main_v3 (F := Ideal) (argH m c) (argW m c),
    (θ_run defs _ _).mono (fun r h c => ⟨(h c).1.trans (result m c), (h c).2⟩) (Cert.KvMmIdeal.Value.run_blocks (F := Ideal) m ρ),
    (θ_run Cert.KvMmRefIdeal.defs _ _).mono
      (fun r h c => by
        obtain ⟨h0, ha⟩ := h c
        obtain ⟨e0, e1⟩ := hsame c
        rw [Cert.KvMmRefIdeal.Read.val_main_v3_eq, e0, e1] at h0
        exact ⟨h0, ha⟩)
      (Cert.KvMmRefIdeal.Value.run (F := Ideal) m' ρ')⟩

theorem frame_reference : Cert.quiescent_KvMmRefIdeal := fun m ρ _ =>
  (θ_run Cert.KvMmRefIdeal.defs _ _).mono (fun r h => ⟨fun c => (h c).2, sem_eq_zero_of_no_sems (by decide) r.2⟩)
    (Cert.KvMmRefIdeal.Value.run (F := Ideal) m ρ)

end Cert.Proof.KvMm
-- ==== Proof.lean ====
module

public import proofs.«01_k».proof.Defs
public import proofs.«01_k».proof.Proof.Frames
public import proofs.«01_k».proof.Proof.Values
public import proofs.«01_k».proof.Proof.DownDwValue
public import proofs.«01_k».proof.Proof.DownDzValue
public import proofs.«01_k».proof.Proof.UpDwValue
public import proofs.«01_k».proof.Proof.UpDhValue
public import proofs.«01_k».proof.Proof.OutDwValue
public import proofs.«01_k».proof.Proof.OutDuValue
public import proofs.«01_k».proof.Proof.QDhValue
public import proofs.«01_k».proof.Proof.KvDwValue
public import proofs.«01_k».proof.Proof.KvDhValue
public import proofs.«01_k».proof.Proof.MlpUpValue
public import proofs.«01_k».proof.Proof.MlpDownValue
public import proofs.«01_k».proof.Proof.AInValue
public import proofs.«01_k».proof.Proof.QMmValue
public import proofs.«01_k».proof.Proof.KvMmValue

@[expose] public section

namespace Cert.Proof

open Idealize.ShloMosaic Idealize.SL.Sem Cert.Proof.AttnBwd

theorem claim : Cert.Claim :=
  ⟨Cert.Kernel.Gen.facts, Cert.KernelIdeal.Gen.facts, Cert.ReferenceIdeal.Gen.facts,
    Cert.DownDw.Gen.facts, Cert.DownDwIdeal.Gen.facts, Cert.DownDwRefIdeal.Gen.facts,
    Cert.DownDz.Gen.facts, Cert.DownDzIdeal.Gen.facts, Cert.DownDzRefIdeal.Gen.facts,
    Cert.UpDw.Gen.facts, Cert.UpDwIdeal.Gen.facts, Cert.UpDwRefIdeal.Gen.facts,
    Cert.UpDh.Gen.facts, Cert.UpDhIdeal.Gen.facts, Cert.UpDhRefIdeal.Gen.facts,
    Cert.OutDw.Gen.facts, Cert.OutDwIdeal.Gen.facts, Cert.OutDwRefIdeal.Gen.facts,
    Cert.OutDu.Gen.facts, Cert.OutDuIdeal.Gen.facts, Cert.OutDuRefIdeal.Gen.facts,
    Cert.QDh.Gen.facts, Cert.QDhIdeal.Gen.facts, Cert.QDhRefIdeal.Gen.facts,
    Cert.KvDw.Gen.facts, Cert.KvDwIdeal.Gen.facts, Cert.KvDwRefIdeal.Gen.facts,
    Cert.KvDh.Gen.facts, Cert.KvDhIdeal.Gen.facts, Cert.KvDhRefIdeal.Gen.facts,
    Cert.MlpUp.Gen.facts, Cert.MlpUpIdeal.Gen.facts, Cert.MlpUpRefIdeal.Gen.facts,
    Cert.MlpDown.Gen.facts, Cert.MlpDownIdeal.Gen.facts, Cert.MlpDownRefIdeal.Gen.facts,
    Cert.AIn.Gen.facts, Cert.AInIdeal.Gen.facts, Cert.AInRefIdeal.Gen.facts,
    Cert.QMm.Gen.facts, Cert.QMmIdeal.Gen.facts, Cert.QMmRefIdeal.Gen.facts,
    Cert.KvMm.Gen.facts, Cert.KvMmIdeal.Gen.facts, Cert.KvMmRefIdeal.Gen.facts, finite_facts,
    frame_kernel, frame_kernel_ideal, frame_kernel_ideal_finite, frame_reference, frame_reference_finite,
    fun m ρ _ => Cert.DownDw.Gen.frame m ρ, fun m ρ _ => Cert.DownDwIdeal.Gen.frame m ρ, Cert.Proof.DownDw.frame_reference,
    fun m ρ _ => Cert.DownDz.Gen.frame m ρ, fun m ρ _ => Cert.DownDzIdeal.Gen.frame m ρ, Cert.Proof.DownDz.frame_reference,
    fun m ρ _ => Cert.UpDw.Gen.frame m ρ, fun m ρ _ => Cert.UpDwIdeal.Gen.frame m ρ, Cert.Proof.UpDw.frame_reference,
    fun m ρ _ => Cert.UpDh.Gen.frame m ρ, fun m ρ _ => Cert.UpDhIdeal.Gen.frame m ρ, Cert.Proof.UpDh.frame_reference,
    fun m ρ _ => Cert.OutDw.Gen.frame m ρ, fun m ρ _ => Cert.OutDwIdeal.Gen.frame m ρ, Cert.Proof.OutDw.frame_reference,
    fun m ρ _ => Cert.OutDu.Gen.frame m ρ, fun m ρ _ => Cert.OutDuIdeal.Gen.frame m ρ, Cert.Proof.OutDu.frame_reference,
    fun m ρ _ => Cert.QDh.Gen.frame m ρ, fun m ρ _ => Cert.QDhIdeal.Gen.frame m ρ, Cert.Proof.QDh.frame_reference,
    fun m ρ _ => Cert.KvDw.Gen.frame m ρ, fun m ρ _ => Cert.KvDwIdeal.Gen.frame m ρ, Cert.Proof.KvDw.frame_reference,
    fun m ρ _ => Cert.KvDh.Gen.frame m ρ, fun m ρ _ => Cert.KvDhIdeal.Gen.frame m ρ, Cert.Proof.KvDh.frame_reference,
    fun m ρ _ => Cert.MlpUp.Gen.frame m ρ, fun m ρ _ => Cert.MlpUpIdeal.Gen.frame m ρ, Cert.Proof.MlpUp.frame_reference,
    fun m ρ _ => Cert.MlpDown.Gen.frame m ρ, fun m ρ _ => Cert.MlpDownIdeal.Gen.frame m ρ, Cert.Proof.MlpDown.frame_reference,
    fun m ρ _ => Cert.AIn.Gen.frame m ρ, fun m ρ _ => Cert.AInIdeal.Gen.frame m ρ, Cert.Proof.AIn.frame_reference,
    fun m ρ _ => Cert.QMm.Gen.frame m ρ, fun m ρ _ => Cert.QMmIdeal.Gen.frame m ρ, Cert.Proof.QMm.frame_reference,
    fun m ρ _ => Cert.KvMm.Gen.frame m ρ, fun m ρ _ => Cert.KvMmIdeal.Gen.frame m ρ, Cert.Proof.KvMm.frame_reference,
    trivial, same_values,
    trivial, Cert.Proof.DownDw.same_values,
    trivial, Cert.Proof.DownDz.same_values,
    trivial, Cert.Proof.UpDw.same_values,
    trivial, Cert.Proof.UpDh.same_values,
    trivial, Cert.Proof.OutDw.same_values,
    trivial, Cert.Proof.OutDu.same_values,
    trivial, Cert.Proof.QDh.same_values,
    trivial, Cert.Proof.KvDw.same_values,
    trivial, Cert.Proof.KvDh.same_values,
    trivial, Cert.Proof.MlpUp.same_values,
    trivial, Cert.Proof.MlpDown.same_values,
    trivial, Cert.Proof.AIn.same_values,
    trivial, Cert.Proof.QMm.same_values,
    trivial, Cert.Proof.KvMm.same_values⟩

end Cert.Proof
